-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Inproj1 (m : (ℓ : Loc Cert.Inproj1.nD Cert.Inproj1.τ Cert.Inproj1.sig) → Buf (Elt Bits) ℓ) : Prop :=
  True

def Pre_Inproj1Ideal (m : (ℓ : Loc Cert.Inproj1Ideal.nD Cert.Inproj1Ideal.τ Cert.Inproj1Ideal.sig) → Buf (Elt Ideal) ℓ) : Prop :=
  True

def Pre_Inproj1ReferenceIdeal (m : (ℓ : Loc Cert.Inproj1ReferenceIdeal.nD Cert.Inproj1ReferenceIdeal.τ Cert.Inproj1ReferenceIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1ReferenceIdeal (m : (ℓ : Loc Cert.Merge1ReferenceIdeal.nD Cert.Merge1ReferenceIdeal.τ Cert.Merge1ReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterReferenceIdeal (m : (ℓ : Loc Cert.RouterReferenceIdeal.nD Cert.RouterReferenceIdeal.τ Cert.RouterReferenceIdeal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Inproj1 [hInproj1 : Cert.Inproj1.Facts] : Prop :=
  ∀ (m : (ℓ : Loc Cert.Inproj1.nD Cert.Inproj1.τ Cert.Inproj1.sig) → Buf (Elt Bits) ℓ) (g : Dev Cert.Inproj1.nD → PrngReg), Pre_Inproj1 m →
    θ_run (Cert.Inproj1.defs (F := Bits)) (onTc (τ := Cert.Inproj1.τ) (Cert.Inproj1.main (F := Bits))) ⟨m, fun _ => 0, g⟩ (fun r => (∀ c : Dev Cert.Inproj1.nD,
      r.2.mem ((c.tc : Thread Cert.Inproj1.nD Cert.Inproj1.τ).loc Cert.Inproj1.main_arg0) = m ((c.tc : Thread Cert.Inproj1.nD Cert.Inproj1.τ).loc Cert.Inproj1.main_arg0)
      ∧ r.2.mem ((c.tc : Thread Cert.Inproj1.nD Cert.Inproj1.τ).loc Cert.Inproj1.main_arg1) = m ((c.tc : Thread Cert.Inproj1.nD Cert.Inproj1.τ).loc Cert.Inproj1.main_arg1)
      ∧ r.2.mem ((c.tc : Thread Cert.Inproj1.nD Cert.Inproj1.τ).loc Cert.Inproj1.main_arg2) = m ((c.tc : Thread Cert.Inproj1.nD Cert.Inproj1.τ).loc Cert.Inproj1.main_arg2))
      ∧ r.2.sem = fun _ => 0)

def quiescent_Inproj1Ideal [hInproj1Ideal : Cert.Inproj1Ideal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg), Pre_Inproj1Ideal m →
    θ_run (Cert.Inproj1Ideal.defs (F := Ideal)) (onTc (τ := Cert.Inproj1Ideal.τ) (Cert.Inproj1Ideal.main (F := Ideal))) ⟨m, fun _ => 0, g⟩ (fun r => (∀ c : Dev Cert.Inproj1Ideal.nD,
      r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
      ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1)
      ∧ r.2.mem ((c.tc : Thread Cert.Inproj1Ideal.nD Cert.Inproj1Ideal.τ).loc Cert.Inproj1Ideal.main_arg2) = m ((c.tc : Thread Cert.Inproj1Ideal.nD Cert.Inproj1Ideal.τ).loc Cert.Inproj1Ideal.main_arg2))
      ∧ r.2.sem = fun _ => 0)

def quiescent_Inproj1ReferenceIdeal [hInproj1ReferenceIdeal : Cert.Inproj1ReferenceIdeal.Facts] : Prop :=
  ∀ (m : (ℓ : Loc Cert.Inproj1ReferenceIdeal.nD Cert.Inproj1ReferenceIdeal.τ Cert.Inproj1ReferenceIdeal.sig) → Buf (Elt Ideal) ℓ) (g : Dev Cert.Inproj1ReferenceIdeal.nD → PrngReg), Pre_Inproj1ReferenceIdeal m →
    θ_run (Cert.Inproj1ReferenceIdeal.defs (F := Ideal)) (onTc (τ := Cert.Inproj1ReferenceIdeal.τ) (Cert.Inproj1ReferenceIdeal.main (F := Ideal))) ⟨m, fun _ => 0, g⟩ (fun r => (∀ c : Dev Cert.Inproj1ReferenceIdeal.nD,
      r.2.mem ((c.tc : Thread Cert.Inproj1ReferenceIdeal.nD Cert.Inproj1ReferenceIdeal.τ).loc Cert.Inproj1ReferenceIdeal.main_arg0) = m ((c.tc : Thread Cert.Inproj1ReferenceIdeal.nD Cert.Inproj1ReferenceIdeal.τ).loc Cert.Inproj1ReferenceIdeal.main_arg0)
      ∧ r.2.mem ((c.tc : Thread Cert.Inproj1ReferenceIdeal.nD Cert.Inproj1ReferenceIdeal.τ).loc Cert.Inproj1ReferenceIdeal.main_arg1) = m ((c.tc : Thread Cert.Inproj1ReferenceIdeal.nD Cert.Inproj1ReferenceIdeal.τ).loc Cert.Inproj1ReferenceIdeal.main_arg1)
      ∧ r.2.mem ((c.tc : Thread Cert.Inproj1ReferenceIdeal.nD Cert.Inproj1ReferenceIdeal.τ).loc Cert.Inproj1ReferenceIdeal.main_arg2) = m ((c.tc : Thread Cert.Inproj1ReferenceIdeal.nD Cert.Inproj1ReferenceIdeal.τ).loc Cert.Inproj1ReferenceIdeal.main_arg2))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4)
      ∧ r.2.mem ((c.tc : Thread Cert.Merge1.nD Cert.Merge1.τ).loc Cert.Merge1.main_arg5) = m ((c.tc : Thread Cert.Merge1.nD Cert.Merge1.τ).loc Cert.Merge1.main_arg5)
      ∧ r.2.mem ((c.tc : Thread Cert.Merge1.nD Cert.Merge1.τ).loc Cert.Merge1.main_arg6) = m ((c.tc : Thread Cert.Merge1.nD Cert.Merge1.τ).loc Cert.Merge1.main_arg6)
      ∧ r.2.mem ((c.tc : Thread Cert.Merge1.nD Cert.Merge1.τ).loc Cert.Merge1.main_arg7) = m ((c.tc : Thread Cert.Merge1.nD Cert.Merge1.τ).loc Cert.Merge1.main_arg7)
      ∧ r.2.mem ((c.tc : Thread Cert.Merge1.nD Cert.Merge1.τ).loc Cert.Merge1.main_arg8) = m ((c.tc : Thread Cert.Merge1.nD Cert.Merge1.τ).loc Cert.Merge1.main_arg8)
      ∧ r.2.mem ((c.tc : Thread Cert.Merge1.nD Cert.Merge1.τ).loc Cert.Merge1.main_arg9) = m ((c.tc : Thread Cert.Merge1.nD Cert.Merge1.τ).loc Cert.Merge1.main_arg9)
      ∧ r.2.mem ((c.tc : Thread Cert.Merge1.nD Cert.Merge1.τ).loc Cert.Merge1.main_arg10) = m ((c.tc : Thread Cert.Merge1.nD Cert.Merge1.τ).loc Cert.Merge1.main_arg10))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
      ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
      ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
      ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
      ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
      ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
      ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10))
      ∧ r.2.sem = fun _ => 0)

def quiescent_Merge1ReferenceIdeal [hMerge1ReferenceIdeal : Cert.Merge1ReferenceIdeal.Facts] : Prop :=
  ∀ (m : (ℓ : Loc Cert.Merge1ReferenceIdeal.nD Cert.Merge1ReferenceIdeal.τ Cert.Merge1ReferenceIdeal.sig) → Buf (Elt Ideal) ℓ) (g : Dev Cert.Merge1ReferenceIdeal.nD → PrngReg), Pre_Merge1ReferenceIdeal m →
    θ_run (Cert.Merge1ReferenceIdeal.defs (F := Ideal)) (onTc (τ := Cert.Merge1ReferenceIdeal.τ) (Cert.Merge1ReferenceIdeal.main (F := Ideal))) ⟨m, fun _ => 0, g⟩ (fun r => (∀ c : Dev Cert.Merge1ReferenceIdeal.nD,
      r.2.mem ((c.tc : Thread Cert.Merge1ReferenceIdeal.nD Cert.Merge1ReferenceIdeal.τ).loc Cert.Merge1ReferenceIdeal.main_arg0) = m ((c.tc : Thread Cert.Merge1ReferenceIdeal.nD Cert.Merge1ReferenceIdeal.τ).loc Cert.Merge1ReferenceIdeal.main_arg0)
      ∧ r.2.mem ((c.tc : Thread Cert.Merge1ReferenceIdeal.nD Cert.Merge1ReferenceIdeal.τ).loc Cert.Merge1ReferenceIdeal.main_arg1) = m ((c.tc : Thread Cert.Merge1ReferenceIdeal.nD Cert.Merge1ReferenceIdeal.τ).loc Cert.Merge1ReferenceIdeal.main_arg1)
      ∧ r.2.mem ((c.tc : Thread Cert.Merge1ReferenceIdeal.nD Cert.Merge1ReferenceIdeal.τ).loc Cert.Merge1ReferenceIdeal.main_arg2) = m ((c.tc : Thread Cert.Merge1ReferenceIdeal.nD Cert.Merge1ReferenceIdeal.τ).loc Cert.Merge1ReferenceIdeal.main_arg2)
      ∧ r.2.mem ((c.tc : Thread Cert.Merge1ReferenceIdeal.nD Cert.Merge1ReferenceIdeal.τ).loc Cert.Merge1ReferenceIdeal.main_arg3) = m ((c.tc : Thread Cert.Merge1ReferenceIdeal.nD Cert.Merge1ReferenceIdeal.τ).loc Cert.Merge1ReferenceIdeal.main_arg3)
      ∧ r.2.mem ((c.tc : Thread Cert.Merge1ReferenceIdeal.nD Cert.Merge1ReferenceIdeal.τ).loc Cert.Merge1ReferenceIdeal.main_arg4) = m ((c.tc : Thread Cert.Merge1ReferenceIdeal.nD Cert.Merge1ReferenceIdeal.τ).loc Cert.Merge1ReferenceIdeal.main_arg4)
      ∧ r.2.mem ((c.tc : Thread Cert.Merge1ReferenceIdeal.nD Cert.Merge1ReferenceIdeal.τ).loc Cert.Merge1ReferenceIdeal.main_arg5) = m ((c.tc : Thread Cert.Merge1ReferenceIdeal.nD Cert.Merge1ReferenceIdeal.τ).loc Cert.Merge1ReferenceIdeal.main_arg5)
      ∧ r.2.mem ((c.tc : Thread Cert.Merge1ReferenceIdeal.nD Cert.Merge1ReferenceIdeal.τ).loc Cert.Merge1ReferenceIdeal.main_arg6) = m ((c.tc : Thread Cert.Merge1ReferenceIdeal.nD Cert.Merge1ReferenceIdeal.τ).loc Cert.Merge1ReferenceIdeal.main_arg6)
      ∧ r.2.mem ((c.tc : Thread Cert.Merge1ReferenceIdeal.nD Cert.Merge1ReferenceIdeal.τ).loc Cert.Merge1ReferenceIdeal.main_arg7) = m ((c.tc : Thread Cert.Merge1ReferenceIdeal.nD Cert.Merge1ReferenceIdeal.τ).loc Cert.Merge1ReferenceIdeal.main_arg7)
      ∧ r.2.mem ((c.tc : Thread Cert.Merge1ReferenceIdeal.nD Cert.Merge1ReferenceIdeal.τ).loc Cert.Merge1ReferenceIdeal.main_arg8) = m ((c.tc : Thread Cert.Merge1ReferenceIdeal.nD Cert.Merge1ReferenceIdeal.τ).loc Cert.Merge1ReferenceIdeal.main_arg8)
      ∧ r.2.mem ((c.tc : Thread Cert.Merge1ReferenceIdeal.nD Cert.Merge1ReferenceIdeal.τ).loc Cert.Merge1ReferenceIdeal.main_arg9) = m ((c.tc : Thread Cert.Merge1ReferenceIdeal.nD Cert.Merge1ReferenceIdeal.τ).loc Cert.Merge1ReferenceIdeal.main_arg9)
      ∧ r.2.mem ((c.tc : Thread Cert.Merge1ReferenceIdeal.nD Cert.Merge1ReferenceIdeal.τ).loc Cert.Merge1ReferenceIdeal.main_arg10) = m ((c.tc : Thread Cert.Merge1ReferenceIdeal.nD Cert.Merge1ReferenceIdeal.τ).loc Cert.Merge1ReferenceIdeal.main_arg10))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v23) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v29) = v0 c
          ∧ r.2.mem ((c.tc : Thread Cert.InprojReferenceIdeal.nD Cert.InprojReferenceIdeal.τ).loc Cert.InprojReferenceIdeal.main_v30) = v1 c
          ∧ r.2.mem ((c.tc : Thread Cert.InprojReferenceIdeal.nD Cert.InprojReferenceIdeal.τ).loc Cert.InprojReferenceIdeal.main_v31) = v2 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v18)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v18) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v57) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Inproj1_Inproj1Ideal : Prop :=
  True

def algebraic_Inproj1Ideal_Inproj1ReferenceIdeal [hInproj1Ideal : Cert.Inproj1Ideal.Facts] [hInproj1ReferenceIdeal : Cert.Inproj1ReferenceIdeal.Facts] : Prop :=
  ∀ (m : (ℓ : Loc Cert.Inproj1Ideal.nD Cert.Inproj1Ideal.τ Cert.Inproj1Ideal.sig) → Buf (Elt Ideal) ℓ) (g : Dev Cert.Inproj1Ideal.nD → PrngReg)
    (m' : (ℓ : Loc Cert.Inproj1ReferenceIdeal.nD Cert.Inproj1ReferenceIdeal.τ Cert.Inproj1ReferenceIdeal.sig) → Buf (Elt Ideal) ℓ) (g' : Dev Cert.Inproj1ReferenceIdeal.nD → PrngReg), Pre_Inproj1Ideal m →
    (∀ c : Dev Cert.Inproj1Ideal.nD,
      m' ((c.tc : Thread Cert.Inproj1ReferenceIdeal.nD Cert.Inproj1ReferenceIdeal.τ).loc Cert.Inproj1ReferenceIdeal.main_arg0) = m ((c.tc : Thread Cert.Inproj1Ideal.nD Cert.Inproj1Ideal.τ).loc Cert.Inproj1Ideal.main_arg0)
      ∧ m' ((c.tc : Thread Cert.Inproj1ReferenceIdeal.nD Cert.Inproj1ReferenceIdeal.τ).loc Cert.Inproj1ReferenceIdeal.main_arg1) = m ((c.tc : Thread Cert.Inproj1Ideal.nD Cert.Inproj1Ideal.τ).loc Cert.Inproj1Ideal.main_arg1)
      ∧ m' ((c.tc : Thread Cert.Inproj1ReferenceIdeal.nD Cert.Inproj1ReferenceIdeal.τ).loc Cert.Inproj1ReferenceIdeal.main_arg2) = m ((c.tc : Thread Cert.Inproj1Ideal.nD Cert.Inproj1Ideal.τ).loc Cert.Inproj1Ideal.main_arg2)) →
    ∃ (v0 : (c : Dev Cert.Inproj1Ideal.nD) → Buf (Elt Ideal) ((c.tc : Thread Cert.Inproj1Ideal.nD Cert.Inproj1Ideal.τ).loc Cert.Inproj1Ideal.main_v3_0)) (v1 : (c : Dev Cert.Inproj1Ideal.nD) → Buf (Elt Ideal) ((c.tc : Thread Cert.Inproj1Ideal.nD Cert.Inproj1Ideal.τ).loc Cert.Inproj1Ideal.main_v3_1)) (v2 : (c : Dev Cert.Inproj1Ideal.nD) → Buf (Elt Ideal) ((c.tc : Thread Cert.Inproj1Ideal.nD Cert.Inproj1Ideal.τ).loc Cert.Inproj1Ideal.main_v3_2)),
      θ_run (Cert.Inproj1Ideal.defs (F := Ideal)) (onTc (τ := Cert.Inproj1Ideal.τ) (Cert.Inproj1Ideal.main (F := Ideal))) ⟨m, fun _ => 0, g⟩ (fun r => ∀ c : Dev Cert.Inproj1Ideal.nD,
          r.2.mem ((c.tc : Thread Cert.Inproj1Ideal.nD Cert.Inproj1Ideal.τ).loc Cert.Inproj1Ideal.main_v3_0) = v0 c
          ∧ r.2.mem ((c.tc : Thread Cert.Inproj1Ideal.nD Cert.Inproj1Ideal.τ).loc Cert.Inproj1Ideal.main_v3_1) = v1 c
          ∧ r.2.mem ((c.tc : Thread Cert.Inproj1Ideal.nD Cert.Inproj1Ideal.τ).loc Cert.Inproj1Ideal.main_v3_2) = v2 c
          ∧ r.2.mem ((c.tc : Thread Cert.Inproj1Ideal.nD Cert.Inproj1Ideal.τ).loc Cert.Inproj1Ideal.main_arg0) = m ((c.tc : Thread Cert.Inproj1Ideal.nD Cert.Inproj1Ideal.τ).loc Cert.Inproj1Ideal.main_arg0)
          ∧ r.2.mem ((c.tc : Thread Cert.Inproj1Ideal.nD Cert.Inproj1Ideal.τ).loc Cert.Inproj1Ideal.main_arg1) = m ((c.tc : Thread Cert.Inproj1Ideal.nD Cert.Inproj1Ideal.τ).loc Cert.Inproj1Ideal.main_arg1)
          ∧ r.2.mem ((c.tc : Thread Cert.Inproj1Ideal.nD Cert.Inproj1Ideal.τ).loc Cert.Inproj1Ideal.main_arg2) = m ((c.tc : Thread Cert.Inproj1Ideal.nD Cert.Inproj1Ideal.τ).loc Cert.Inproj1Ideal.main_arg2))
      ∧ θ_run (Cert.Inproj1ReferenceIdeal.defs (F := Ideal)) (onTc (τ := Cert.Inproj1ReferenceIdeal.τ) (Cert.Inproj1ReferenceIdeal.main (F := Ideal))) ⟨m', fun _ => 0, g'⟩ (fun r => ∀ c : Dev Cert.Inproj1ReferenceIdeal.nD,
          r.2.mem ((c.tc : Thread Cert.Inproj1ReferenceIdeal.nD Cert.Inproj1ReferenceIdeal.τ).loc Cert.Inproj1ReferenceIdeal.main_v29) = v0 c
          ∧ r.2.mem ((c.tc : Thread Cert.Inproj1ReferenceIdeal.nD Cert.Inproj1ReferenceIdeal.τ).loc Cert.Inproj1ReferenceIdeal.main_v30) = v1 c
          ∧ r.2.mem ((c.tc : Thread Cert.Inproj1ReferenceIdeal.nD Cert.Inproj1ReferenceIdeal.τ).loc Cert.Inproj1ReferenceIdeal.main_v31) = v2 c
          ∧ r.2.mem ((c.tc : Thread Cert.Inproj1ReferenceIdeal.nD Cert.Inproj1ReferenceIdeal.τ).loc Cert.Inproj1ReferenceIdeal.main_arg0) = m' ((c.tc : Thread Cert.Inproj1ReferenceIdeal.nD Cert.Inproj1ReferenceIdeal.τ).loc Cert.Inproj1ReferenceIdeal.main_arg0)
          ∧ r.2.mem ((c.tc : Thread Cert.Inproj1ReferenceIdeal.nD Cert.Inproj1ReferenceIdeal.τ).loc Cert.Inproj1ReferenceIdeal.main_arg1) = m' ((c.tc : Thread Cert.Inproj1ReferenceIdeal.nD Cert.Inproj1ReferenceIdeal.τ).loc Cert.Inproj1ReferenceIdeal.main_arg1)
          ∧ r.2.mem ((c.tc : Thread Cert.Inproj1ReferenceIdeal.nD Cert.Inproj1ReferenceIdeal.τ).loc Cert.Inproj1ReferenceIdeal.main_arg2) = m' ((c.tc : Thread Cert.Inproj1ReferenceIdeal.nD Cert.Inproj1ReferenceIdeal.τ).loc Cert.Inproj1ReferenceIdeal.main_arg2))

def preserves_Merge1_Merge1Ideal : Prop :=
  True

def algebraic_Merge1Ideal_Merge1ReferenceIdeal [hMerge1Ideal : Cert.Merge1Ideal.Facts] [hMerge1ReferenceIdeal : Cert.Merge1ReferenceIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1ReferenceIdeal.nD Cert.Merge1ReferenceIdeal.τ Cert.Merge1ReferenceIdeal.sig) → Buf (Elt Ideal) ℓ) (g' : Dev Cert.Merge1ReferenceIdeal.nD → PrngReg), Pre_Merge1Ideal m →
    (∀ c : Dev Cert.Merge1Ideal.nD,
      m' ((c.tc : Thread Cert.Merge1ReferenceIdeal.nD Cert.Merge1ReferenceIdeal.τ).loc Cert.Merge1ReferenceIdeal.main_arg0) = m ((c.tc : Thread Cert.Merge1Ideal.nD Cert.Merge1Ideal.τ).loc Cert.Merge1Ideal.main_arg0)
      ∧ m' ((c.tc : Thread Cert.Merge1ReferenceIdeal.nD Cert.Merge1ReferenceIdeal.τ).loc Cert.Merge1ReferenceIdeal.main_arg1) = m ((c.tc : Thread Cert.Merge1Ideal.nD Cert.Merge1Ideal.τ).loc Cert.Merge1Ideal.main_arg1)
      ∧ m' ((c.tc : Thread Cert.Merge1ReferenceIdeal.nD Cert.Merge1ReferenceIdeal.τ).loc Cert.Merge1ReferenceIdeal.main_arg2) = m ((c.tc : Thread Cert.Merge1Ideal.nD Cert.Merge1Ideal.τ).loc Cert.Merge1Ideal.main_arg2)
      ∧ m' ((c.tc : Thread Cert.Merge1ReferenceIdeal.nD Cert.Merge1ReferenceIdeal.τ).loc Cert.Merge1ReferenceIdeal.main_arg3) = m ((c.tc : Thread Cert.Merge1Ideal.nD Cert.Merge1Ideal.τ).loc Cert.Merge1Ideal.main_arg3)
      ∧ m' ((c.tc : Thread Cert.Merge1ReferenceIdeal.nD Cert.Merge1ReferenceIdeal.τ).loc Cert.Merge1ReferenceIdeal.main_arg4) = m ((c.tc : Thread Cert.Merge1Ideal.nD Cert.Merge1Ideal.τ).loc Cert.Merge1Ideal.main_arg4)
      ∧ m' ((c.tc : Thread Cert.Merge1ReferenceIdeal.nD Cert.Merge1ReferenceIdeal.τ).loc Cert.Merge1ReferenceIdeal.main_arg5) = m ((c.tc : Thread Cert.Merge1Ideal.nD Cert.Merge1Ideal.τ).loc Cert.Merge1Ideal.main_arg5)
      ∧ m' ((c.tc : Thread Cert.Merge1ReferenceIdeal.nD Cert.Merge1ReferenceIdeal.τ).loc Cert.Merge1ReferenceIdeal.main_arg6) = m ((c.tc : Thread Cert.Merge1Ideal.nD Cert.Merge1Ideal.τ).loc Cert.Merge1Ideal.main_arg6)
      ∧ m' ((c.tc : Thread Cert.Merge1ReferenceIdeal.nD Cert.Merge1ReferenceIdeal.τ).loc Cert.Merge1ReferenceIdeal.main_arg7) = m ((c.tc : Thread Cert.Merge1Ideal.nD Cert.Merge1Ideal.τ).loc Cert.Merge1Ideal.main_arg7)
      ∧ m' ((c.tc : Thread Cert.Merge1ReferenceIdeal.nD Cert.Merge1ReferenceIdeal.τ).loc Cert.Merge1ReferenceIdeal.main_arg8) = m ((c.tc : Thread Cert.Merge1Ideal.nD Cert.Merge1Ideal.τ).loc Cert.Merge1Ideal.main_arg8)
      ∧ m' ((c.tc : Thread Cert.Merge1ReferenceIdeal.nD Cert.Merge1ReferenceIdeal.τ).loc Cert.Merge1ReferenceIdeal.main_arg9) = m ((c.tc : Thread Cert.Merge1Ideal.nD Cert.Merge1Ideal.τ).loc Cert.Merge1Ideal.main_arg9)
      ∧ m' ((c.tc : Thread Cert.Merge1ReferenceIdeal.nD Cert.Merge1ReferenceIdeal.τ).loc Cert.Merge1ReferenceIdeal.main_arg10) = m ((c.tc : Thread Cert.Merge1Ideal.nD Cert.Merge1Ideal.τ).loc Cert.Merge1Ideal.main_arg10)) →
    ∃ (v0 : (c : Dev Cert.Merge1Ideal.nD) → Buf (Elt Ideal) ((c.tc : Thread Cert.Merge1Ideal.nD Cert.Merge1Ideal.τ).loc Cert.Merge1Ideal.main_v18)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v18) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
          ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
          ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
          ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7)
          ∧ r.2.mem ((c.tc : Thread Cert.Merge1Ideal.nD Cert.Merge1Ideal.τ).loc Cert.Merge1Ideal.main_arg8) = m ((c.tc : Thread Cert.Merge1Ideal.nD Cert.Merge1Ideal.τ).loc Cert.Merge1Ideal.main_arg8)
          ∧ r.2.mem ((c.tc : Thread Cert.Merge1Ideal.nD Cert.Merge1Ideal.τ).loc Cert.Merge1Ideal.main_arg9) = m ((c.tc : Thread Cert.Merge1Ideal.nD Cert.Merge1Ideal.τ).loc Cert.Merge1Ideal.main_arg9)
          ∧ r.2.mem ((c.tc : Thread Cert.Merge1Ideal.nD Cert.Merge1Ideal.τ).loc Cert.Merge1Ideal.main_arg10) = m ((c.tc : Thread Cert.Merge1Ideal.nD Cert.Merge1Ideal.τ).loc Cert.Merge1Ideal.main_arg10))
      ∧ θ_run (Cert.Merge1ReferenceIdeal.defs (F := Ideal)) (onTc (τ := Cert.Merge1ReferenceIdeal.τ) (Cert.Merge1ReferenceIdeal.main (F := Ideal))) ⟨m', fun _ => 0, g'⟩ (fun r => ∀ c : Dev Cert.Merge1ReferenceIdeal.nD,
          r.2.mem ((c.tc : Thread Cert.Merge1ReferenceIdeal.nD Cert.Merge1ReferenceIdeal.τ).loc Cert.Merge1ReferenceIdeal.main_v57) = v0 c
          ∧ r.2.mem ((c.tc : Thread Cert.Merge1ReferenceIdeal.nD Cert.Merge1ReferenceIdeal.τ).loc Cert.Merge1ReferenceIdeal.main_arg0) = m' ((c.tc : Thread Cert.Merge1ReferenceIdeal.nD Cert.Merge1ReferenceIdeal.τ).loc Cert.Merge1ReferenceIdeal.main_arg0)
          ∧ r.2.mem ((c.tc : Thread Cert.Merge1ReferenceIdeal.nD Cert.Merge1ReferenceIdeal.τ).loc Cert.Merge1ReferenceIdeal.main_arg1) = m' ((c.tc : Thread Cert.Merge1ReferenceIdeal.nD Cert.Merge1ReferenceIdeal.τ).loc Cert.Merge1ReferenceIdeal.main_arg1)
          ∧ r.2.mem ((c.tc : Thread Cert.Merge1ReferenceIdeal.nD Cert.Merge1ReferenceIdeal.τ).loc Cert.Merge1ReferenceIdeal.main_arg2) = m' ((c.tc : Thread Cert.Merge1ReferenceIdeal.nD Cert.Merge1ReferenceIdeal.τ).loc Cert.Merge1ReferenceIdeal.main_arg2)
          ∧ r.2.mem ((c.tc : Thread Cert.Merge1ReferenceIdeal.nD Cert.Merge1ReferenceIdeal.τ).loc Cert.Merge1ReferenceIdeal.main_arg3) = m' ((c.tc : Thread Cert.Merge1ReferenceIdeal.nD Cert.Merge1ReferenceIdeal.τ).loc Cert.Merge1ReferenceIdeal.main_arg3)
          ∧ r.2.mem ((c.tc : Thread Cert.Merge1ReferenceIdeal.nD Cert.Merge1ReferenceIdeal.τ).loc Cert.Merge1ReferenceIdeal.main_arg4) = m' ((c.tc : Thread Cert.Merge1ReferenceIdeal.nD Cert.Merge1ReferenceIdeal.τ).loc Cert.Merge1ReferenceIdeal.main_arg4)
          ∧ r.2.mem ((c.tc : Thread Cert.Merge1ReferenceIdeal.nD Cert.Merge1ReferenceIdeal.τ).loc Cert.Merge1ReferenceIdeal.main_arg5) = m' ((c.tc : Thread Cert.Merge1ReferenceIdeal.nD Cert.Merge1ReferenceIdeal.τ).loc Cert.Merge1ReferenceIdeal.main_arg5)
          ∧ r.2.mem ((c.tc : Thread Cert.Merge1ReferenceIdeal.nD Cert.Merge1ReferenceIdeal.τ).loc Cert.Merge1ReferenceIdeal.main_arg6) = m' ((c.tc : Thread Cert.Merge1ReferenceIdeal.nD Cert.Merge1ReferenceIdeal.τ).loc Cert.Merge1ReferenceIdeal.main_arg6)
          ∧ r.2.mem ((c.tc : Thread Cert.Merge1ReferenceIdeal.nD Cert.Merge1ReferenceIdeal.τ).loc Cert.Merge1ReferenceIdeal.main_arg7) = m' ((c.tc : Thread Cert.Merge1ReferenceIdeal.nD Cert.Merge1ReferenceIdeal.τ).loc Cert.Merge1ReferenceIdeal.main_arg7)
          ∧ r.2.mem ((c.tc : Thread Cert.Merge1ReferenceIdeal.nD Cert.Merge1ReferenceIdeal.τ).loc Cert.Merge1ReferenceIdeal.main_arg8) = m' ((c.tc : Thread Cert.Merge1ReferenceIdeal.nD Cert.Merge1ReferenceIdeal.τ).loc Cert.Merge1ReferenceIdeal.main_arg8)
          ∧ r.2.mem ((c.tc : Thread Cert.Merge1ReferenceIdeal.nD Cert.Merge1ReferenceIdeal.τ).loc Cert.Merge1ReferenceIdeal.main_arg9) = m' ((c.tc : Thread Cert.Merge1ReferenceIdeal.nD Cert.Merge1ReferenceIdeal.τ).loc Cert.Merge1ReferenceIdeal.main_arg9)
          ∧ r.2.mem ((c.tc : Thread Cert.Merge1ReferenceIdeal.nD Cert.Merge1ReferenceIdeal.τ).loc Cert.Merge1ReferenceIdeal.main_arg10) = m' ((c.tc : Thread Cert.Merge1ReferenceIdeal.nD Cert.Merge1ReferenceIdeal.τ).loc Cert.Merge1ReferenceIdeal.main_arg10))

def preserves_Router_RouterIdeal : Prop :=
  True

def algebraic_RouterIdeal_RouterReferenceIdeal [hRouterIdeal : Cert.RouterIdeal.Facts] [hRouterReferenceIdeal : Cert.RouterReferenceIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v5_0)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5_0) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v14) = v0 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInproj : Cert.Inproj.Facts) (hInprojIdeal : Cert.InprojIdeal.Facts) (hInprojReferenceIdeal : Cert.InprojReferenceIdeal.Facts) (hMerge : Cert.Merge.Facts) (hMergeIdeal : Cert.MergeIdeal.Facts) (hMergeReferenceIdeal : Cert.MergeReferenceIdeal.Facts) (hInproj1 : Cert.Inproj1.Facts) (hInproj1Ideal : Cert.Inproj1Ideal.Facts) (hInproj1ReferenceIdeal : Cert.Inproj1ReferenceIdeal.Facts) (hMerge1 : Cert.Merge1.Facts) (hMerge1Ideal : Cert.Merge1Ideal.Facts) (hMerge1ReferenceIdeal : Cert.Merge1ReferenceIdeal.Facts) (hRouter : Cert.Router.Facts) (hRouterIdeal : Cert.RouterIdeal.Facts) (hRouterReferenceIdeal : Cert.RouterReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Inproj1 (hInproj1 := hInproj1)
    ∧ quiescent_Inproj1Ideal (hInproj1Ideal := hInproj1Ideal)
    ∧ quiescent_Inproj1ReferenceIdeal (hInproj1ReferenceIdeal := hInproj1ReferenceIdeal)
    ∧ quiescent_Merge1 (hMerge1 := hMerge1)
    ∧ quiescent_Merge1Ideal (hMerge1Ideal := hMerge1Ideal)
    ∧ quiescent_Merge1ReferenceIdeal (hMerge1ReferenceIdeal := hMerge1ReferenceIdeal)
    ∧ quiescent_Router (hRouter := hRouter)
    ∧ quiescent_RouterIdeal (hRouterIdeal := hRouterIdeal)
    ∧ quiescent_RouterReferenceIdeal (hRouterReferenceIdeal := hRouterReferenceIdeal)
    ∧ preserves_Kernel_KernelIdeal
    ∧ algebraic_KernelIdeal_ReferenceIdeal (hKernelIdeal := hKernelIdeal) (hReferenceIdeal := hReferenceIdeal) (hPre_in_range := hPre_in_range)
    ∧ preserves_Ffn_FfnIdeal
    ∧ algebraic_FfnIdeal_FfnReferenceIdeal (hFfnIdeal := hFfnIdeal) (hFfnReferenceIdeal := hFfnReferenceIdeal)
    ∧ preserves_Inproj_InprojIdeal
    ∧ algebraic_InprojIdeal_InprojReferenceIdeal (hInprojIdeal := hInprojIdeal) (hInprojReferenceIdeal := hInprojReferenceIdeal)
    ∧ preserves_Merge_MergeIdeal
    ∧ algebraic_MergeIdeal_MergeReferenceIdeal (hMergeIdeal := hMergeIdeal) (hMergeReferenceIdeal := hMergeReferenceIdeal)
    ∧ preserves_Inproj1_Inproj1Ideal
    ∧ algebraic_Inproj1Ideal_Inproj1ReferenceIdeal (hInproj1Ideal := hInproj1Ideal) (hInproj1ReferenceIdeal := hInproj1ReferenceIdeal)
    ∧ preserves_Merge1_Merge1Ideal
    ∧ algebraic_Merge1Ideal_Merge1ReferenceIdeal (hMerge1Ideal := hMerge1Ideal) (hMerge1ReferenceIdeal := hMerge1ReferenceIdeal)
    ∧ preserves_Router_RouterIdeal
    ∧ algebraic_RouterIdeal_RouterReferenceIdeal (hRouterIdeal := hRouterIdeal) (hRouterReferenceIdeal := hRouterReferenceIdeal)
-- ==== Pre_in_range.lean ====
abbrev S139 : Shape := ⟨1, ![139]⟩
abbrev S1 : Shape := ⟨1, ![1]⟩
abbrev S71168x1024 : Shape := ⟨2, ![71168, 1024]⟩
abbrev S1x8x1024x3584 : Shape := ⟨4, ![1, 8, 1024, 3584]⟩
abbrev S1x8x3584x1024 : Shape := ⟨4, ![1, 8, 3584, 1024]⟩
abbrev S_ : Shape := ⟨0, ![]⟩

class Facts : Prop where
  bcast_S_S139 : S_.BroadcastsInDim S139 (![] : Fin 0 → Fin S139.rank)
  reducesTo_S139_S_d0 : S139.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S139 32) (main_arg1 : IVec S1 32) (main_arg2 : FVec F S71168x1024 .f32) (main_arg3 : FVec F S1x8x1024x3584 .f32) (main_arg4 : FVec F S1x8x1024x3584 .f32) (main_arg5 : FVec F S1x8x3584x1024 .f32) : IVec S_ 1 :=
  let main_c : IVec S_ 32 := constantI S_ 32 0#32
  let main_v0 : IVec S139 32 := broadcastInDim S139 ![] bcast_S_S139 main_c
  let main_v1 : IVec S139 1 := cmpi .sge main_arg0 main_v0
  let main_c_0 : IVec S_ 32 := constantI S_ 32 8#32
  let main_v2 : IVec S139 32 := broadcastInDim S139 ![] bcast_S_S139 main_c_0
  let main_v3 : IVec S139 1 := cmpi .slt main_arg0 main_v2
  let main_v4 : IVec S139 1 := andi main_v1 main_v3
  let main_c_1 : IVec S_ 1 := constantI S_ 1 1#1
  let main_v5 : IVec S_ 1 := (fun x v => Host.reduce IntOp.andi x v reducesTo_S139_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 139#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S139 : Shape := ⟨1, ![139]⟩
abbrev S1 : Shape := ⟨1, ![1]⟩
abbrev S71168x1024 : Shape := ⟨2, ![71168, 1024]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 11
  | .vmem => 12
  | .smem => 2
  | _ => 0

abbrev bufTy : (tb : Table) → Fin (tcTables nBuf tb) → BufTy
  | .hbm, ⟨0, _⟩ => ⟨S71168x1024, .f32⟩
  | .hbm, ⟨1, _⟩ => ⟨S1x8x1024x3584, .f32⟩
  | .hbm, ⟨2, _⟩ => ⟨S1x8x1024x3584, .f32⟩
  | .hbm, ⟨3, _⟩ => ⟨S1x8x3584x1024, .f32⟩
  | .hbm, ⟨4, _⟩ => ⟨S8x1024x3584, .f32⟩
  | .hbm, ⟨5, _⟩ => ⟨S8x1024x3584, .bf16⟩
  | .hbm, ⟨6, _⟩ => ⟨S8x1024x3584, .f32⟩
  | .hbm, ⟨7, _⟩ => ⟨S8x1024x3584, .bf16⟩
  | .hbm, ⟨8, _⟩ => ⟨S8x3584x1024, .f32⟩
  | .hbm, ⟨9, _⟩ => ⟨S8x3584x1024, .bf16⟩
  | .hbm, ⟨10, _⟩ => ⟨S71168x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S139, .i32⟩
  | .local _ .smem, ⟨1, _⟩ => ⟨S1, .i32⟩
  | _, _ => ⟨S71168x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![139, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S139.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S139) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S139.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S139) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S139.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S139) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S139 : Shape := ⟨1, ![139]⟩
abbrev S1 : Shape := ⟨1, ![1]⟩
abbrev S71168x1024 : Shape := ⟨2, ![71168, 1024]⟩
abbrev S1x8x1024x3584 : Shape := ⟨4, ![1, 8, 1024, 3584]⟩
abbrev S1x8x3584x1024 : Shape := ⟨4, ![1, 8, 3584, 1024]⟩
abbrev S8x1024x3584 : Shape := ⟨3, ![8, 1024, 3584]⟩
abbrev S8x3584x1024 : Shape := ⟨3, ![8, 3584, 1024]⟩
abbrev S139x1 : Shape := ⟨2, ![139, 1]⟩
abbrev S139x512 : Shape := ⟨2, ![139, 512]⟩
abbrev S71168 : Shape := ⟨1, ![71168]⟩
abbrev S_ : Shape := ⟨0, ![]⟩
abbrev S71168x1 : Shape := ⟨2, ![71168, 1]⟩
abbrev S1x8 : Shape := ⟨2, ![1, 8]⟩
abbrev S71168x8 : Shape := ⟨2, ![71168, 8]⟩
abbrev S71168x8x3584 : Shape := ⟨3, ![71168, 8, 3584]⟩
abbrev S8x71168x1024 : Shape := ⟨3, ![8, 71168, 1024]⟩
abbrev S8x71168 : Shape := ⟨2, ![8, 71168]⟩
abbrev S8x71168x1 : Shape := ⟨3, ![8, 71168, 1]⟩

abbrev nBuf : Space → Nat
  | .hbm => 49
  | .vmem => 0
  | .smem => 0
  | _ => 0

abbrev bufTy : (tb : Table) → Fin (tcTables nBuf tb) → BufTy
  | .hbm, ⟨0, _⟩ => ⟨S139, .i32⟩
  | .hbm, ⟨1, _⟩ => ⟨S1, .i32⟩
  | .hbm, ⟨2, _⟩ => ⟨S71168x1024, .f32⟩
  | .hbm, ⟨3, _⟩ => ⟨S1x8x1024x3584, .f32⟩
  | .hbm, ⟨4, _⟩ => ⟨S1x8x1024x3584, .f32⟩
  | .hbm, ⟨5, _⟩ => ⟨S1x8x3584x1024, .f32⟩
  | .hbm, ⟨6, _⟩ => ⟨S8x1024x3584, .f32⟩
  | .hbm, ⟨7, _⟩ => ⟨S8x1024x3584, .f32⟩
  | .hbm, ⟨8, _⟩ => ⟨S8x3584x1024, .f32⟩
  | .hbm, ⟨9, _⟩ => ⟨S139x1, .i32⟩
  | .hbm, ⟨10, _⟩ => ⟨S139x512, .i32⟩
  | .hbm, ⟨11, _⟩ => ⟨S71168, .i32⟩
  | .hbm, ⟨12, _⟩ => ⟨S71168, .i32⟩
  | .hbm, ⟨13, _⟩ => ⟨S_, .i32⟩
  | .hbm, ⟨14, _⟩ => ⟨S1, .i32⟩
  | .hbm, ⟨15, _⟩ => ⟨S1, .i32⟩
  | .hbm, ⟨16, _⟩ => ⟨S71168, .i32⟩
  | .hbm, ⟨17, _⟩ => ⟨S71168, .i1⟩
  | .hbm, ⟨18, _⟩ => ⟨S71168x1, .i1⟩
  | .hbm, ⟨19, _⟩ => ⟨S71168x1, .i32⟩
  | .hbm, ⟨20, _⟩ => ⟨S1x8, .i32⟩
  | .hbm, ⟨21, _⟩ => ⟨S71168x8, .i32⟩
  | .hbm, ⟨22, _⟩ => ⟨S71168x8, .i32⟩
  | .hbm, ⟨23, _⟩ => ⟨S71168x8, .i1⟩
  | .hbm, ⟨24, _⟩ => ⟨S71168x8, .f32⟩
  | .hbm, ⟨25, _⟩ => ⟨S_, .f32⟩
  | .hbm, ⟨26, _⟩ => ⟨S_, .f32⟩
  | .hbm, ⟨27, _⟩ => ⟨S71168x8, .i1⟩
  | .hbm, ⟨28, _⟩ => ⟨S71168x8, .f32⟩
  | .hbm, ⟨29, _⟩ => ⟨S71168x8, .f32⟩
  | .hbm, ⟨30, _⟩ => ⟨S71168x8x3584, .f32⟩
  | .hbm, ⟨31, _⟩ => ⟨S71168x8x3584, .f32⟩
  | .hbm, ⟨32, _⟩ => ⟨S71168x8x3584, .f32⟩
  | .hbm, ⟨33, _⟩ => ⟨S_, .f32⟩
  | .hbm, ⟨34, _⟩ => ⟨S71168x8x3584, .f32⟩
  | .hbm, ⟨35, _⟩ => ⟨S71168x8x3584, .f32⟩
  | .hbm, ⟨36, _⟩ => ⟨S_, .f32⟩
  | .hbm, ⟨37, _⟩ => ⟨S71168x8x3584, .f32⟩
  | .hbm, ⟨38, _⟩ => ⟨S71168x8x3584, .f32⟩
  | .hbm, ⟨39, _⟩ => ⟨S71168x8x3584, .f32⟩
  | .hbm, ⟨40, _⟩ => ⟨S71168x8x3584, .f32⟩
  | .hbm, ⟨41, _⟩ => ⟨S71168x8x3584, .f32⟩
  | .hbm, ⟨42, _⟩ => ⟨S8x71168x1024, .f32⟩
  | .hbm, ⟨43, _⟩ => ⟨S8x71168, .f32⟩
  | .hbm, ⟨44, _⟩ => ⟨S8x71168x1, .f32⟩
  | .hbm, ⟨45, _⟩ => ⟨S8x71168x1024, .f32⟩
  | .hbm, ⟨46, _⟩ => ⟨S8x71168x1024, .f32⟩
  | .hbm, ⟨47, _⟩ => ⟨S_, .f32⟩
  | .hbm, ⟨48, _⟩ => ⟨S71168x1024, .f32⟩
  | _, _ => ⟨S139, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v13 : Ref sig .tc := ⟨.hbm, 29, rfl⟩
abbrev main_v14 : Ref sig .tc := ⟨.hbm, 30, rfl⟩
abbrev main_call2_v0 : Ref sig .tc := ⟨.hbm, 31, rfl⟩
abbrev main_call2_v1 : Ref sig .tc := ⟨.hbm, 32, rfl⟩
abbrev main_call2_cst : Ref sig .tc := ⟨.hbm, 33, rfl⟩
abbrev main_call2_v2 : Ref sig .tc := ⟨.hbm, 34, rfl⟩
abbrev main_call2_v3 : Ref sig .tc := ⟨.hbm, 35, rfl⟩
abbrev main_call2_cst_0 : Ref sig .tc := ⟨.hbm, 36, rfl⟩
abbrev main_call2_v4 : Ref sig .tc := ⟨.hbm, 37, rfl⟩
abbrev main_call2_v5 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_0 : Ref sig .tc := ⟨.hbm, 47, rfl⟩
abbrev main_v23 : Ref sig .tc := ⟨.hbm, 48, rfl⟩

abbrev nD : Nat := 1
abbrev τ : Topo := Topo.v7x

variable {F : FTy → Type} [FloatOps F]
-- ==== Ffn.lean ====
abbrev S33792x1024 : Shape := ⟨2, ![33792, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024 : Shape := ⟨1, ![1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 17
  | .vmem => 9
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S33792x1024 : Shape := ⟨2, ![33792, 1024]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024 : Shape := ⟨1, ![1024]⟩
abbrev S1x1024 : Shape := ⟨2, ![1, 1024]⟩
abbrev S_ : Shape := ⟨0, ![]⟩
abbrev S33792 : Shape := ⟨1, ![33792]⟩
abbrev S33792x1 : Shape := ⟨2, ![33792, 1]⟩
abbrev S1024x2816 : Shape := ⟨2, ![1024, 2816]⟩
abbrev S2816x1024 : Shape := ⟨2, ![2816, 1024]⟩
abbrev S33792x2816 : Shape := ⟨2, ![33792, 2816]⟩

abbrev nBuf : Space → Nat
  | .hbm => 41
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S33792x1024, .f32⟩
  | .hbm, ⟨9, _⟩ => ⟨S_, .f32⟩
  | .hbm, ⟨10, _⟩ => ⟨S33792, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S_, .f32⟩
  | .hbm, ⟨16, _⟩ => ⟨S33792x1, .f32⟩
  | .hbm, ⟨17, _⟩ => ⟨S33792x1, .f32⟩
  | .hbm, ⟨18, _⟩ => ⟨S33792x1, .f32⟩
  | .hbm, ⟨19, _⟩ => ⟨S33792x1024, .f32⟩
  | .hbm, ⟨20, _⟩ => ⟨S33792x1024, .f32⟩
  | .hbm, ⟨21, _⟩ => ⟨S1x1024, .f32⟩
  | .hbm, ⟨22, _⟩ => ⟨S33792x1024, .f32⟩
  | .hbm, ⟨23, _⟩ => ⟨S33792x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S33792x2816, .f32⟩
  | .hbm, ⟨28, _⟩ => ⟨S33792x2816, .f32⟩
  | .hbm, ⟨29, _⟩ => ⟨S33792x2816, .f32⟩
  | .hbm, ⟨30, _⟩ => ⟨S_, .f32⟩
  | .hbm, ⟨31, _⟩ => ⟨S33792x2816, .f32⟩
  | .hbm, ⟨32, _⟩ => ⟨S33792x2816, .f32⟩
  | .hbm, ⟨33, _⟩ => ⟨S_, .f32⟩
  | .hbm, ⟨34, _⟩ => ⟨S33792x2816, .f32⟩
  | .hbm, ⟨35, _⟩ => ⟨S33792x2816, .f32⟩
  | .hbm, ⟨36, _⟩ => ⟨S33792x2816, .f32⟩
  | .hbm, ⟨37, _⟩ => ⟨S33792x2816, .f32⟩
  | .hbm, ⟨38, _⟩ => ⟨S33792x2816, .f32⟩
  | .hbm, ⟨39, _⟩ => ⟨S33792x1024, .f32⟩
  | .hbm, ⟨40, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Inproj.lean ====
abbrev S33792x1024 : Shape := ⟨2, ![33792, 1024]⟩
abbrev S2x1024 : Shape := ⟨2, ![2, 1024]⟩
abbrev S2x1024x7172 : Shape := ⟨3, ![2, 1024, 7172]⟩
abbrev S1x1024 : Shape := ⟨2, ![1, 1024]⟩
abbrev S1024 : Shape := ⟨1, ![1024]⟩
abbrev S33792x3072 : Shape := ⟨2, ![33792, 3072]⟩
abbrev S33792x128 : Shape := ⟨2, ![33792, 128]⟩
abbrev S512x1024 : Shape := ⟨2, ![512, 1024]⟩
abbrev S1x1024x4224 : Shape := ⟨3, ![1, 1024, 4224]⟩
abbrev S512x3072 : Shape := ⟨2, ![512, 3072]⟩
abbrev S512x128 : Shape := ⟨2, ![512, 128]⟩
abbrev S1024x3072 : Shape := ⟨2, ![1024, 3072]⟩
abbrev S1024x1024 : Shape := ⟨2, ![1024, 1024]⟩
abbrev S1024x128 : Shape := ⟨2, ![1024, 128]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x1024 : Shape := ⟨3, ![1, 1024, 1024]⟩
abbrev S1x1024x128 : Shape := ⟨3, ![1, 1024, 128]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S33792x3072, .bf16⟩
  | .hbm, ⟨7, _⟩ => ⟨S33792x1024, .f32⟩
  | .hbm, ⟨8, _⟩ => ⟨S33792x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4224, .f32⟩
  | .local _ .vmem, ⟨4, _⟩ => ⟨S512x3072, .bf16⟩
  | .local _ .vmem, ⟨5, _⟩ => ⟨S512x3072, .bf16⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S1024x3072, .bf16⟩
  | .local _ .vmem, ⟨11, _⟩ => ⟨S1024x1024, .bf16⟩
  | .local _ .vmem, ⟨12, _⟩ => ⟨S1024x128, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojReferenceIdeal.lean ====
abbrev S33792x1024 : Shape := ⟨2, ![33792, 1024]⟩
abbrev S2x1024 : Shape := ⟨2, ![2, 1024]⟩
abbrev S2x1024x7172 : Shape := ⟨3, ![2, 1024, 7172]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x7172 : Shape := ⟨3, ![1, 1024, 7172]⟩
abbrev S1024x7172 : Shape := ⟨2, ![1024, 7172]⟩
abbrev S33792x7172 : Shape := ⟨2, ![33792, 7172]⟩
abbrev S33792x1536 : Shape := ⟨2, ![33792, 1536]⟩
abbrev S33792x512 : Shape := ⟨2, ![33792, 512]⟩
abbrev S33792x3072 : Shape := ⟨2, ![33792, 3072]⟩
abbrev S33792x128 : Shape := ⟨2, ![33792, 128]⟩

abbrev nBuf : Space → Nat
  | .hbm => 40
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S1x1024, .f32⟩
  | .hbm, ⟨4, _⟩ => ⟨S1024, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S1x1024, .f32⟩
  | .hbm, ⟨19, _⟩ => ⟨S33792x1024, .f32⟩
  | .hbm, ⟨20, _⟩ => ⟨S33792x1024, .f32⟩
  | .hbm, ⟨21, _⟩ => ⟨S1x1024x7172, .f32⟩
  | .hbm, ⟨22, _⟩ => ⟨S1024x7172, .f32⟩
  | .hbm, ⟨23, _⟩ => ⟨S33792x7172, .f32⟩
  | .hbm, ⟨24, _⟩ => ⟨S33792x1536, .f32⟩
  | .hbm, ⟨25, _⟩ => ⟨S33792x1536, .f32⟩
  | .hbm, ⟨26, _⟩ => ⟨S33792x512, .f32⟩
  | .hbm, ⟨27, _⟩ => ⟨S_, .f32⟩
  | .hbm, ⟨28, _⟩ => ⟨S33792x512, .f32⟩
  | .hbm, ⟨29, _⟩ => ⟨S33792x512, .f32⟩
  | .hbm, ⟨30, _⟩ => ⟨S33792x1024, .f32⟩
  | .hbm, ⟨31, _⟩ => ⟨S33792x512, .f32⟩
  | .hbm, ⟨32, _⟩ => ⟨S_, .f32⟩
  | .hbm, ⟨33, _⟩ => ⟨S33792x512, .f32⟩
  | .hbm, ⟨34, _⟩ => ⟨S33792x512, .f32⟩
  | .hbm, ⟨35, _⟩ => ⟨S33792x1024, .f32⟩
  | .hbm, ⟨36, _⟩ => ⟨S33792x3072, .f32⟩
  | .hbm, ⟨37, _⟩ => ⟨S33792x3072, .bf16⟩
  | .hbm, ⟨38, _⟩ => ⟨S33792x1024, .f32⟩
  | .hbm, ⟨39, _⟩ => ⟨S33792x128, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Merge.lean ====
abbrev S33792x1024 : Shape := ⟨2, ![33792, 1024]⟩
abbrev S2x1024 : Shape := ⟨2, ![2, 1024]⟩
abbrev S2x1024x7172 : Shape := ⟨3, ![2, 1024, 7172]⟩
abbrev S2x3072 : Shape := ⟨2, ![2, 3072]⟩
abbrev S33792x512 : Shape := ⟨2, ![33792, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S1x3072 : Shape := ⟨2, ![1, 3072]⟩
abbrev S3072 : Shape := ⟨1, ![3072]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x128 : Shape := ⟨3, ![1, 1024, 128]⟩
abbrev S512x512 : Shape := ⟨2, ![512, 512]⟩
abbrev S1024x3072 : Shape := ⟨2, ![1024, 3072]⟩
abbrev S1024x128 : Shape := ⟨2, ![1024, 128]⟩
abbrev S1024x1152 : Shape := ⟨2, ![1024, 1152]⟩
abbrev S512 : Shape := ⟨1, ![512]⟩
abbrev S512x1 : Shape := ⟨2, ![512, 1]⟩

abbrev nBuf : Space → Nat
  | .hbm => 30
  | .vmem => 21
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S2x3072, .f32⟩
  | .hbm, ⟨4, _⟩ => ⟨S33792x512, .bf16⟩
  | .hbm, ⟨5, _⟩ => ⟨S33792x512, .bf16⟩
  | .hbm, ⟨6, _⟩ => ⟨S33792x512, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S1x512x1024, .f32⟩
  | .hbm, ⟨18, _⟩ => ⟨S512x1024, .f32⟩
  | .hbm, ⟨19, _⟩ => ⟨S512x1024, .bf16⟩
  | .hbm, ⟨20, _⟩ => ⟨S1x512x1024, .f32⟩
  | .hbm, ⟨21, _⟩ => ⟨S512x1024, .f32⟩
  | .hbm, ⟨22, _⟩ => ⟨S512x1024, .bf16⟩
  | .hbm, ⟨23, _⟩ => ⟨S1x512x1024, .f32⟩
  | .hbm, ⟨24, _⟩ => ⟨S512x1024, .f32⟩
  | .hbm, ⟨25, _⟩ => ⟨S512x1024, .bf16⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x128, .f32⟩
  | .local _ .vmem, ⟨7, _⟩ => ⟨S1x3072, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S1024x3072, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c56_i32 : BitVec 32 := 56#32
  let c0_i32_1 : BitVec 32 := 0#32
  ![c0_i32.toNat, c0_i32_0.toNat, c56_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeReferenceIdeal.lean ====
abbrev S33792x1024 : Shape := ⟨2, ![33792, 1024]⟩
abbrev S2x1024 : Shape := ⟨2, ![2, 1024]⟩
abbrev S2x1024x7172 : Shape := ⟨3, ![2, 1024, 7172]⟩
abbrev S2x3072 : Shape := ⟨2, ![2, 3072]⟩
abbrev S33792x512 : Shape := ⟨2, ![33792, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x7172 : Shape := ⟨3, ![1, 1024, 7172]⟩
abbrev S1024x7172 : Shape := ⟨2, ![1024, 7172]⟩
abbrev S1024x3072 : Shape := ⟨2, ![1024, 3072]⟩
abbrev S33792x3072 : Shape := ⟨2, ![33792, 3072]⟩
abbrev S1x3072 : Shape := ⟨2, ![1, 3072]⟩
abbrev S3072 : Shape := ⟨1, ![3072]⟩
abbrev S33792x3x1024 : Shape := ⟨3, ![33792, 3, 1024]⟩
abbrev S1x512x1024 : Shape := ⟨3, ![1, 512, 1024]⟩
abbrev S512x1024 : Shape := ⟨2, ![512, 1024]⟩
abbrev S33792x1x1024 : Shape := ⟨3, ![33792, 1, 1024]⟩
abbrev S1x1024x1024 : Shape := ⟨3, ![1, 1024, 1024]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S2x3072, .f32⟩
  | .hbm, ⟨4, _⟩ => ⟨S33792x512, .bf16⟩
  | .hbm, ⟨5, _⟩ => ⟨S33792x512, .bf16⟩
  | .hbm, ⟨6, _⟩ => ⟨S33792x512, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S33792x1024, .f32⟩
  | .hbm, ⟨14, _⟩ => ⟨S_, .f32⟩
  | .hbm, ⟨15, _⟩ => ⟨S33792, .f32⟩
  | .hbm, ⟨16, _⟩ => ⟨S33792x1, .f32⟩
  | .hbm, ⟨17, _⟩ => ⟨S_, .f32⟩
  | .hbm, ⟨18, _⟩ => ⟨S33792x1, .f32⟩
  | .hbm, ⟨19, _⟩ => ⟨S33792x1, .f32⟩
  | .hbm, ⟨20, _⟩ => ⟨S_, .f32⟩
  | .hbm, ⟨21, _⟩ => ⟨S33792x1, .f32⟩
  | .hbm, ⟨22, _⟩ => ⟨S33792x1, .f32⟩
  | .hbm, ⟨23, _⟩ => ⟨S33792x1, .f32⟩
  | .hbm, ⟨24, _⟩ => ⟨S33792x1024, .f32⟩
  | .hbm, ⟨25, _⟩ => ⟨S33792x1024, .f32⟩
  | .hbm, ⟨26, _⟩ => ⟨S1x1024, .f32⟩
  | .hbm, ⟨27, _⟩ => ⟨S33792x1024, .f32⟩
  | .hbm, ⟨28, _⟩ => ⟨S33792x1024, .f32⟩
  | .hbm, ⟨29, _⟩ => ⟨S1x1024x7172, .f32⟩
  | .hbm, ⟨30, _⟩ => ⟨S1024x7172, .f32⟩
  | .hbm, ⟨31, _⟩ => ⟨S1024x3072, .f32⟩
  | .hbm, ⟨32, _⟩ => ⟨S33792x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S33792x3072, .f32⟩
  | .hbm, ⟨37, _⟩ => ⟨S33792x3072, .f32⟩
  | .hbm, ⟨38, _⟩ => ⟨S33792x3072, .f32⟩
  | .hbm, ⟨39, _⟩ => ⟨S33792x3072, .f32⟩
  | .hbm, ⟨40, _⟩ => ⟨S_, .f32⟩
  | .hbm, ⟨41, _⟩ => ⟨S33792x3072, .f32⟩
  | .hbm, ⟨42, _⟩ => ⟨S33792x3072, .f32⟩
  | .hbm, ⟨43, _⟩ => ⟨S_, .f32⟩
  | .hbm, ⟨44, _⟩ => ⟨S33792x3072, .f32⟩
  | .hbm, ⟨45, _⟩ => ⟨S33792x3072, .f32⟩
  | .hbm, ⟨46, _⟩ => ⟨S33792x3x1024, .f32⟩
  | .hbm, ⟨47, _⟩ => ⟨S33792x512, .f32⟩
  | .hbm, ⟨48, _⟩ => ⟨S1x512x1024, .f32⟩
  | .hbm, ⟨49, _⟩ => ⟨S512x1024, .f32⟩
  | .hbm, ⟨50, _⟩ => ⟨S33792x1024, .f32⟩
  | .hbm, ⟨51, _⟩ => ⟨S33792x512, .f32⟩
  | .hbm, ⟨52, _⟩ => ⟨S1x512x1024, .f32⟩
  | .hbm, ⟨53, _⟩ => ⟨S512x1024, .f32⟩
  | .hbm, ⟨54, _⟩ => ⟨S33792x1024, .f32⟩
  | .hbm, ⟨55, _⟩ => ⟨S33792x512, .f32⟩
  | .hbm, ⟨56, _⟩ => ⟨S1x512x1024, .f32⟩
  | .hbm, ⟨57, _⟩ => ⟨S512x1024, .f32⟩
  | .hbm, ⟨58, _⟩ => ⟨S33792x1024, .f32⟩
  | .hbm, ⟨59, _⟩ => ⟨S33792x1x1024, .f32⟩
  | .hbm, ⟨60, _⟩ => ⟨S33792x1024, .f32⟩
  | .hbm, ⟨61, _⟩ => ⟨S33792x1024, .f32⟩
  | .hbm, ⟨62, _⟩ => ⟨S33792x1x1024, .f32⟩
  | .hbm, ⟨63, _⟩ => ⟨S33792x1024, .f32⟩
  | .hbm, ⟨64, _⟩ => ⟨S33792x1024, .f32⟩
  | .hbm, ⟨65, _⟩ => ⟨S33792x1024, .f32⟩
  | .hbm, ⟨66, _⟩ => ⟨S33792x1x1024, .f32⟩
  | .hbm, ⟨67, _⟩ => ⟨S33792x1024, .f32⟩
  | .hbm, ⟨68, _⟩ => ⟨S33792x1024, .f32⟩
  | .hbm, ⟨69, _⟩ => ⟨S33792x1024, .f32⟩
  | .hbm, ⟨70, _⟩ => ⟨S1x1024x1024, .f32⟩
  | .hbm, ⟨71, _⟩ => ⟨S1024x1024, .f32⟩
  | .hbm, ⟨72, _⟩ => ⟨S33792x1024, .f32⟩
  | .hbm, ⟨73, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Inproj1.lean ====
abbrev S33792x1024 : Shape := ⟨2, ![33792, 1024]⟩
abbrev S2x1024 : Shape := ⟨2, ![2, 1024]⟩
abbrev S2x1024x7172 : Shape := ⟨3, ![2, 1024, 7172]⟩
abbrev S1x1024 : Shape := ⟨2, ![1, 1024]⟩
abbrev S1024 : Shape := ⟨1, ![1024]⟩
abbrev S33792x3072 : Shape := ⟨2, ![33792, 3072]⟩
abbrev S33792x128 : Shape := ⟨2, ![33792, 128]⟩
abbrev S512x1024 : Shape := ⟨2, ![512, 1024]⟩
abbrev S1x1024x4224 : Shape := ⟨3, ![1, 1024, 4224]⟩
abbrev S512x3072 : Shape := ⟨2, ![512, 3072]⟩
abbrev S512x128 : Shape := ⟨2, ![512, 128]⟩
abbrev S1024x3072 : Shape := ⟨2, ![1024, 3072]⟩
abbrev S1024x1024 : Shape := ⟨2, ![1024, 1024]⟩
abbrev S1024x128 : Shape := ⟨2, ![1024, 128]⟩
abbrev S1x1024x1536 : Shape := ⟨3, ![1, 1024, 1536]⟩
abbrev S1024x1536 : Shape := ⟨2, ![1024, 1536]⟩
abbrev S1x1024x512 : Shape := ⟨3, ![1, 1024, 512]⟩
abbrev S1024x512 : Shape := ⟨2, ![1024, 512]⟩
abbrev S1x1024x1024 : Shape := ⟨3, ![1, 1024, 1024]⟩
abbrev S1x1024x128 : Shape := ⟨3, ![1, 1024, 128]⟩
abbrev S512 : Shape := ⟨1, ![512]⟩
abbrev S512x1 : Shape := ⟨2, ![512, 1]⟩
abbrev S512x512 : Shape := ⟨2, ![512, 512]⟩

abbrev nBuf : Space → Nat
  | .hbm => 9
  | .vmem => 13
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S1x1024, .f32⟩
  | .hbm, ⟨4, _⟩ => ⟨S1024, .f32⟩
  | .hbm, ⟨5, _⟩ => ⟨S1x1024, .f32⟩
  | .hbm, ⟨6, _⟩ => ⟨S33792x3072, .bf16⟩
  | .hbm, ⟨7, _⟩ => ⟨S33792x1024, .f32⟩
  | .hbm, ⟨8, _⟩ => ⟨S33792x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4224, .f32⟩
  | .local _ .vmem, ⟨4, _⟩ => ⟨S512x3072, .bf16⟩
  | .local _ .vmem, ⟨5, _⟩ => ⟨S512x3072, .bf16⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S1024x3072, .bf16⟩
  | .local _ .vmem, ⟨11, _⟩ => ⟨S1024x1024, .bf16⟩
  | .local _ .vmem, ⟨12, _⟩ => ⟨S1024x128, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Inproj1ReferenceIdeal.lean ====
abbrev S33792x1024 : Shape := ⟨2, ![33792, 1024]⟩
abbrev S2x1024 : Shape := ⟨2, ![2, 1024]⟩
abbrev S2x1024x7172 : Shape := ⟨3, ![2, 1024, 7172]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x7172 : Shape := ⟨3, ![1, 1024, 7172]⟩
abbrev S1024x7172 : Shape := ⟨2, ![1024, 7172]⟩
abbrev S33792x7172 : Shape := ⟨2, ![33792, 7172]⟩
abbrev S33792x1536 : Shape := ⟨2, ![33792, 1536]⟩
abbrev S33792x512 : Shape := ⟨2, ![33792, 512]⟩
abbrev S33792x3072 : Shape := ⟨2, ![33792, 3072]⟩
abbrev S33792x128 : Shape := ⟨2, ![33792, 128]⟩

abbrev nBuf : Space → Nat
  | .hbm => 40
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S1x1024, .f32⟩
  | .hbm, ⟨4, _⟩ => ⟨S1024, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S1x1024, .f32⟩
  | .hbm, ⟨19, _⟩ => ⟨S33792x1024, .f32⟩
  | .hbm, ⟨20, _⟩ => ⟨S33792x1024, .f32⟩
  | .hbm, ⟨21, _⟩ => ⟨S1x1024x7172, .f32⟩
  | .hbm, ⟨22, _⟩ => ⟨S1024x7172, .f32⟩
  | .hbm, ⟨23, _⟩ => ⟨S33792x7172, .f32⟩
  | .hbm, ⟨24, _⟩ => ⟨S33792x1536, .f32⟩
  | .hbm, ⟨25, _⟩ => ⟨S33792x1536, .f32⟩
  | .hbm, ⟨26, _⟩ => ⟨S33792x512, .f32⟩
  | .hbm, ⟨27, _⟩ => ⟨S_, .f32⟩
  | .hbm, ⟨28, _⟩ => ⟨S33792x512, .f32⟩
  | .hbm, ⟨29, _⟩ => ⟨S33792x512, .f32⟩
  | .hbm, ⟨30, _⟩ => ⟨S33792x1024, .f32⟩
  | .hbm, ⟨31, _⟩ => ⟨S33792x512, .f32⟩
  | .hbm, ⟨32, _⟩ => ⟨S_, .f32⟩
  | .hbm, ⟨33, _⟩ => ⟨S33792x512, .f32⟩
  | .hbm, ⟨34, _⟩ => ⟨S33792x512, .f32⟩
  | .hbm, ⟨35, _⟩ => ⟨S33792x1024, .f32⟩
  | .hbm, ⟨36, _⟩ => ⟨S33792x3072, .f32⟩
  | .hbm, ⟨37, _⟩ => ⟨S33792x3072, .bf16⟩
  | .hbm, ⟨38, _⟩ => ⟨S33792x1024, .f32⟩
  | .hbm, ⟨39, _⟩ => ⟨S33792x128, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Merge1.lean ====
abbrev S33792x1024 : Shape := ⟨2, ![33792, 1024]⟩
abbrev S2x1024 : Shape := ⟨2, ![2, 1024]⟩
abbrev S2x1024x7172 : Shape := ⟨3, ![2, 1024, 7172]⟩
abbrev S2x3072 : Shape := ⟨2, ![2, 3072]⟩
abbrev S33792x512 : Shape := ⟨2, ![33792, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S1x3072 : Shape := ⟨2, ![1, 3072]⟩
abbrev S3072 : Shape := ⟨1, ![3072]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024x128 : Shape := ⟨3, ![1, 1024, 128]⟩
abbrev S512x512 : Shape := ⟨2, ![512, 512]⟩
abbrev S1024x3072 : Shape := ⟨2, ![1024, 3072]⟩
abbrev S1024x128 : Shape := ⟨2, ![1024, 128]⟩
abbrev S1024x1152 : Shape := ⟨2, ![1024, 1152]⟩
abbrev S512 : Shape := ⟨1, ![512]⟩
abbrev S512x1 : Shape := ⟨2, ![512, 1]⟩

abbrev nBuf : Space → Nat
  | .hbm => 30
  | .vmem => 21
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S2x3072, .f32⟩
  | .hbm, ⟨4, _⟩ => ⟨S33792x512, .bf16⟩
  | .hbm, ⟨5, _⟩ => ⟨S33792x512, .bf16⟩
  | .hbm, ⟨6, _⟩ => ⟨S33792x512, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S1x512x1024, .f32⟩
  | .hbm, ⟨18, _⟩ => ⟨S512x1024, .f32⟩
  | .hbm, ⟨19, _⟩ => ⟨S512x1024, .bf16⟩
  | .hbm, ⟨20, _⟩ => ⟨S1x512x1024, .f32⟩
  | .hbm, ⟨21, _⟩ => ⟨S512x1024, .f32⟩
  | .hbm, ⟨22, _⟩ => ⟨S512x1024, .bf16⟩
  | .hbm, ⟨23, _⟩ => ⟨S1x512x1024, .f32⟩
  | .hbm, ⟨24, _⟩ => ⟨S512x1024, .f32⟩
  | .hbm, ⟨25, _⟩ => ⟨S512x1024, .bf16⟩
  | .hbm, ⟨26, _⟩ => ⟨S1x1024x1024, .f32⟩
  | .hbm, ⟨27, _⟩ => ⟨S1024x1024, .f32⟩
  | .hbm, ⟨28, _⟩ => ⟨S1024x1024, .bf16⟩
  | .hbm, ⟨29, _⟩ => ⟨S33792x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x128, .f32⟩
  | .local _ .vmem, ⟨7, _⟩ => ⟨S1x3072, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | .local _ .vmem, ⟨20, _⟩ => ⟨S1024x3072, .bf16⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c6_i32 : BitVec 32 := 6#32
  let c0_i32_0 : BitVec 32 := 0#32
  ![c1_i32.toNat, c0_i32.toNat, c6_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c56_i32 : BitVec 32 := 56#32
  let c0_i32_0 : BitVec 32 := 0#32
  ![c1_i32.toNat, c0_i32.toNat, c56_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Merge1ReferenceIdeal.lean ====
abbrev S33792x1024 : Shape := ⟨2, ![33792, 1024]⟩
abbrev S2x1024 : Shape := ⟨2, ![2, 1024]⟩
abbrev S2x1024x7172 : Shape := ⟨3, ![2, 1024, 7172]⟩
abbrev S2x3072 : Shape := ⟨2, ![2, 3072]⟩
abbrev S33792x512 : Shape := ⟨2, ![33792, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩
abbrev S1x1024x7172 : Shape := ⟨3, ![1, 1024, 7172]⟩
abbrev S1024x7172 : Shape := ⟨2, ![1024, 7172]⟩
abbrev S1024x3072 : Shape := ⟨2, ![1024, 3072]⟩
abbrev S33792x3072 : Shape := ⟨2, ![33792, 3072]⟩
abbrev S1x3072 : Shape := ⟨2, ![1, 3072]⟩
abbrev S3072 : Shape := ⟨1, ![3072]⟩
abbrev S33792x3x1024 : Shape := ⟨3, ![33792, 3, 1024]⟩
abbrev S1x512x1024 : Shape := ⟨3, ![1, 512, 1024]⟩
abbrev S512x1024 : Shape := ⟨2, ![512, 1024]⟩
abbrev S33792x1x1024 : Shape := ⟨3, ![33792, 1, 1024]⟩
abbrev S1x1024x1024 : Shape := ⟨3, ![1, 1024, 1024]⟩
abbrev S1024x1024 : Shape := ⟨2, ![1024, 1024]⟩

abbrev nBuf : Space → Nat
  | .hbm => 74
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S2x1024x7172, .f32⟩
  | .hbm, ⟨3, _⟩ => ⟨S2x3072, .f32⟩
  | .hbm, ⟨4, _⟩ => ⟨S33792x512, .bf16⟩
  | .hbm, ⟨5, _⟩ => ⟨S33792x512, .bf16⟩
  | .hbm, ⟨6, _⟩ => ⟨S33792x512, .bf16⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x1024x1024, .f32⟩
  | .hbm, ⟨11, _⟩ => ⟨S1x1024, .f32⟩
  | .hbm, ⟨12, _⟩ => ⟨S1024, .f32⟩
  | .hbm, ⟨13, _⟩ => ⟨S33792x1024, .f32⟩
  | .hbm, ⟨14, _⟩ => ⟨S_, .f32⟩
  | .hbm, ⟨15, _⟩ => ⟨S33792, .f32⟩
  | .hbm, ⟨16, _⟩ => ⟨S33792x1, .f32⟩
  | .hbm, ⟨17, _⟩ => ⟨S_, .f32⟩
  | .hbm, ⟨18, _⟩ => ⟨S33792x1, .f32⟩
  | .hbm, ⟨19, _⟩ => ⟨S33792x1, .f32⟩
  | .hbm, ⟨20, _⟩ => ⟨S_, .f32⟩
  | .hbm, ⟨21, _⟩ => ⟨S33792x1, .f32⟩
  | .hbm, ⟨22, _⟩ => ⟨S33792x1, .f32⟩
  | .hbm, ⟨23, _⟩ => ⟨S33792x1, .f32⟩
  | .hbm, ⟨24, _⟩ => ⟨S33792x1024, .f32⟩
  | .hbm, ⟨25, _⟩ => ⟨S33792x1024, .f32⟩
  | .hbm, ⟨26, _⟩ => ⟨S1x1024, .f32⟩
  | .hbm, ⟨27, _⟩ => ⟨S33792x1024, .f32⟩
  | .hbm, ⟨28, _⟩ => ⟨S33792x1024, .f32⟩
  | .hbm, ⟨29, _⟩ => ⟨S1x1024x7172, .f32⟩
  | .hbm, ⟨30, _⟩ => ⟨S1024x7172, .f32⟩
  | .hbm, ⟨31, _⟩ => ⟨S1024x3072, .f32⟩
  | .hbm, ⟨32, _⟩ => ⟨S33792x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S33792x3072, .f32⟩
  | .hbm, ⟨37, _⟩ => ⟨S33792x3072, .f32⟩
  | .hbm, ⟨38, _⟩ => ⟨S33792x3072, .f32⟩
  | .hbm, ⟨39, _⟩ => ⟨S33792x3072, .f32⟩
  | .hbm, ⟨40, _⟩ => ⟨S_, .f32⟩
  | .hbm, ⟨41, _⟩ => ⟨S33792x3072, .f32⟩
  | .hbm, ⟨42, _⟩ => ⟨S33792x3072, .f32⟩
  | .hbm, ⟨43, _⟩ => ⟨S_, .f32⟩
  | .hbm, ⟨44, _⟩ => ⟨S33792x3072, .f32⟩
  | .hbm, ⟨45, _⟩ => ⟨S33792x3072, .f32⟩
  | .hbm, ⟨46, _⟩ => ⟨S33792x3x1024, .f32⟩
  | .hbm, ⟨47, _⟩ => ⟨S33792x512, .f32⟩
  | .hbm, ⟨48, _⟩ => ⟨S1x512x1024, .f32⟩
  | .hbm, ⟨49, _⟩ => ⟨S512x1024, .f32⟩
  | .hbm, ⟨50, _⟩ => ⟨S33792x1024, .f32⟩
  | .hbm, ⟨51, _⟩ => ⟨S33792x512, .f32⟩
  | .hbm, ⟨52, _⟩ => ⟨S1x512x1024, .f32⟩
  | .hbm, ⟨53, _⟩ => ⟨S512x1024, .f32⟩
  | .hbm, ⟨54, _⟩ => ⟨S33792x1024, .f32⟩
  | .hbm, ⟨55, _⟩ => ⟨S33792x512, .f32⟩
  | .hbm, ⟨56, _⟩ => ⟨S1x512x1024, .f32⟩
  | .hbm, ⟨57, _⟩ => ⟨S512x1024, .f32⟩
  | .hbm, ⟨58, _⟩ => ⟨S33792x1024, .f32⟩
  | .hbm, ⟨59, _⟩ => ⟨S33792x1x1024, .f32⟩
  | .hbm, ⟨60, _⟩ => ⟨S33792x1024, .f32⟩
  | .hbm, ⟨61, _⟩ => ⟨S33792x1024, .f32⟩
  | .hbm, ⟨62, _⟩ => ⟨S33792x1x1024, .f32⟩
  | .hbm, ⟨63, _⟩ => ⟨S33792x1024, .f32⟩
  | .hbm, ⟨64, _⟩ => ⟨S33792x1024, .f32⟩
  | .hbm, ⟨65, _⟩ => ⟨S33792x1024, .f32⟩
  | .hbm, ⟨66, _⟩ => ⟨S33792x1x1024, .f32⟩
  | .hbm, ⟨67, _⟩ => ⟨S33792x1024, .f32⟩
  | .hbm, ⟨68, _⟩ => ⟨S33792x1024, .f32⟩
  | .hbm, ⟨69, _⟩ => ⟨S33792x1024, .f32⟩
  | .hbm, ⟨70, _⟩ => ⟨S1x1024x1024, .f32⟩
  | .hbm, ⟨71, _⟩ => ⟨S1024x1024, .f32⟩
  | .hbm, ⟨72, _⟩ => ⟨S33792x1024, .f32⟩
  | .hbm, ⟨73, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Router.lean ====
abbrev S33792x1024 : Shape := ⟨2, ![33792, 1024]⟩
abbrev S2x1024 : Shape := ⟨2, ![2, 1024]⟩
abbrev S1x1024x8 : Shape := ⟨3, ![1, 1024, 8]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S1024 : Shape := ⟨1, ![1024]⟩
abbrev S33792x128 : Shape := ⟨2, ![33792, 128]⟩
abbrev S8x128 : Shape := ⟨2, ![8, 128]⟩
abbrev S512x1024 : Shape := ⟨2, ![512, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 14
  | .vmem => 12
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x8, .f32⟩
  | .hbm, ⟨3, _⟩ => ⟨S1024x8, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S33792x1024, .f32⟩
  | .hbm, ⟨11, _⟩ => ⟨S33792x128, .i32⟩
  | .hbm, ⟨12, _⟩ => ⟨S33792x128, .f32⟩
  | .hbm, ⟨13, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S512x1024, .f32⟩
  | .local _ .vmem, ⟨5, _⟩ => ⟨S512x1024, .f32⟩
  | .local _ .vmem, ⟨6, _⟩ => ⟨S512x128, .i32⟩
  | .local _ .vmem, ⟨7, _⟩ => ⟨S512x128, .i32⟩
  | .local _ .vmem, ⟨8, _⟩ => ⟨S512x128, .f32⟩
  | .local _ .vmem, ⟨9, _⟩ => ⟨S512x128, .f32⟩
  | .local _ .vmem, ⟨10, _⟩ => ⟨S8x128, .f32⟩
  | .local _ .vmem, ⟨11, _⟩ => ⟨S1x128, .f32⟩
  | _, _ => ⟨S33792x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouterReferenceIdeal.lean ====
abbrev S33792x1024 : Shape := ⟨2, ![33792, 1024]⟩
abbrev S2x1024 : Shape := ⟨2, ![2, 1024]⟩
abbrev S1x1024x8 : Shape := ⟨3, ![1, 1024, 8]⟩
abbrev S1x1024 : Shape := ⟨2, ![1, 1024]⟩
abbrev S1024 : Shape := ⟨1, ![1024]⟩
abbrev S_ : Shape := ⟨0, ![]⟩
abbrev S33792 : Shape := ⟨1, ![33792]⟩
abbrev S33792x1 : Shape := ⟨2, ![33792, 1]⟩

abbrev nBuf : Space → Nat
  | .hbm => 21
  | .vmem => 0
  | .smem => 0
  | _ => 0

abbrev bufTy : (tb : Table) → Fin (tcTables nBuf tb) → BufTy
  | .hbm, ⟨0, _⟩ => ⟨S33792x1024, .f32⟩
  | .hbm, ⟨1, _⟩ => ⟨S2x1024, .f32⟩
  | .hbm, ⟨2, _⟩ => ⟨S1x1024x8, .f32⟩
  | .hbm, ⟨3, _⟩ => ⟨S1x1024, .f32⟩
  | .hbm, ⟨4, _⟩ => ⟨S1024, .f32⟩
  | .hbm, ⟨5, _⟩ => ⟨S33792x1024, .f32⟩
  | .hbm, ⟨6, _⟩ => ⟨S_, .f32⟩
  | .hbm, ⟨7, _⟩ => ⟨S33792, .f32⟩
  | .hbm, ⟨8, _⟩ => ⟨S33792x1, .f32⟩
  | .hbm, ⟨9, _⟩ => ⟨S_, .f32⟩
  | .hbm, ⟨10, _⟩ => ⟨S33792x1, .f32⟩
  | .hbm, ⟨11, _⟩ => ⟨S33792x1, .f32⟩
  | .hbm, ⟨12, _⟩ => ⟨S_, .f32⟩
  | .hbm, ⟨13, _⟩ => ⟨S33792x1, .f32⟩
  | .hbm, ⟨14, _⟩ => ⟨S33792x1, .f32⟩
  | .hbm, ⟨15, _⟩ => ⟨S33792x1, .f32⟩
  | .hbm, ⟨16, _⟩ => ⟨S33792x1024, .f32⟩
  | .hbm, ⟨17, _⟩ => ⟨S33792x1024, .f32⟩
  | .hbm, ⟨18, _⟩ => ⟨S1x1024, .f32⟩
  | .hbm, ⟨19, _⟩ => ⟨S33792x1024, .f32⟩
  | .hbm, ⟨20, _⟩ => ⟨S33792x1024, .f32⟩
  | _, _ => ⟨S33792x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdealFrame.lean ====
/-
  The frame of `KernelIdeal` for every admissible contents of its two prefetched tables: the generated text (what the carried
  scratch holds point by point, the body obligation, the run and the frame), with a larger elaboration budget on the
  four equations of `outsAt0`.
-/
module

public import proofs.«01_k».proof.Proof.Gen.KernelIdeal.Frame.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_A c i arg4 harg4 arg5 harg5 arg6 harg6 arg7 harg7 arg8 harg8 arg9 harg9 arg10 harg10 hc0 hc2 x0 x1 x2 x3 xt0 xt1 hc1).1)

/-- Case A's pieces for scratch `arg9`, which the kernel carries between points, cover it: 1 piece of `S512x1024` tiling it (Lib/Ring.lean `Piece.tiledL`). -/
theorem scover0_A_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 arg10 harg10 hc0 hc2 x0 x1 x2 x3 xt0 xt1 hc1).2.1, y ∈ pc.1.set :=
  View.cover_of_tiledL (kernelRun0_A c i arg4 harg4 arg5 harg5 arg6 harg6 arg7 harg7 arg8 harg8 arg9 harg9 arg10 harg10 hc0 hc2 x0 x1 x2 x3 xt0 xt1 hc1).2.1 S512x1024.size (by sl_kernel_rfl) y

/-- What case A leaves in scratch `arg9`: its pieces read back over junk. -/
def sout0_A_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .bf16 :=
  VS0_0.read (Elt F) (VS0_0.writes (Elt F) VS0_0.junk (kernelRun0_A c i arg4 harg4 arg5 harg5 arg6 harg6 arg7 harg7 arg8 harg8 arg9 harg9 arg10 harg10 hc0 hc2 x0 x1 x2 x3 xt0 xt1 hc1).2.1)

/-- Case A's pieces for scratch `arg10`, which the kernel carries between points, cover it: 2 pieces of `S512x1024` tiling it (Lib/Ring.lean `Piece.tiledL`). -/
theorem scover0_A_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_A c i arg4 harg4 arg5 harg5 arg6 harg6 arg7 harg7 arg8 harg8 arg9 harg9 arg10 harg10 hc0 hc2 x0 x1 x2 x3 xt0 xt1 hc1).2.2.1, y ∈ pc.1.set :=
  View.cover_of_tiledL (kernelRun0_A c i arg4 harg4 arg5 harg5 arg6 harg6 arg7 harg7 arg8 harg8 arg9 harg9 arg10 harg10 hc0 hc2 x0 x1 x2 x3 xt0 xt1 hc1).2.2.1 S512x1024.size (by sl_kernel_rfl) y

/-- What case A leaves in scratch `arg10`: its pieces read back over junk. -/
def sout0_A_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_1.read (Elt F) (VS0_1.writes (Elt F) VS0_1.junk (kernelRun0_A c i arg4 harg4 arg5 harg5 arg6 harg6 arg7 harg7 arg8 harg8 arg9 harg9 arg10 harg10 hc0 hc2 x0 x1 x2 x3 xt0 xt1 hc1).2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_B c i arg4 harg4 arg5 harg5 arg6 harg6 arg7 harg7 arg8 harg8 arg9 harg9 arg10 harg10 hc0 hc2 x0 x1 x2 x3 xt0 xt1 hc1).1)

/-- Case B's pieces for scratch `arg9`, which the kernel carries between points, cover it: 1 piece of `S512x1024` tiling it (Lib/Ring.lean `Piece.tiledL`). -/
theorem scover0_B_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 arg10 harg10 hc0 hc2 x0 x1 x2 x3 xt0 xt1 hc1).2.1, y ∈ pc.1.set :=
  View.cover_of_tiledL (kernelRun0_B c i arg4 harg4 arg5 harg5 arg6 harg6 arg7 harg7 arg8 harg8 arg9 harg9 arg10 harg10 hc0 hc2 x0 x1 x2 x3 xt0 xt1 hc1).2.1 S512x1024.size (by sl_kernel_rfl) y

/-- What case B leaves in scratch `arg9`: its pieces read back over junk. -/
def sout0_B_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .bf16 :=
  VS0_0.read (Elt F) (VS0_0.writes (Elt F) VS0_0.junk (kernelRun0_B c i arg4 harg4 arg5 harg5 arg6 harg6 arg7 harg7 arg8 harg8 arg9 harg9 arg10 harg10 hc0 hc2 x0 x1 x2 x3 xt0 xt1 hc1).2.1)

/-- Case B's pieces for scratch `arg10`, which the kernel carries between points, cover it: 1 piece of `S512x1024` tiling it (Lib/Ring.lean `Piece.tiledL`). -/
theorem scover0_B_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_B c i arg4 harg4 arg5 harg5 arg6 harg6 arg7 harg7 arg8 harg8 arg9 harg9 arg10 harg10 hc0 hc2 x0 x1 x2 x3 xt0 xt1 hc1).2.2.1, y ∈ pc.1.set :=
  View.cover_of_tiledL (kernelRun0_B c i arg4 harg4 arg5 harg5 arg6 harg6 arg7 harg7 arg8 harg8 arg9 harg9 arg10 harg10 hc0 hc2 x0 x1 x2 x3 xt0 xt1 hc1).2.2.1 S512x1024.size (by sl_kernel_rfl) y

/-- What case B leaves in scratch `arg10`: its pieces read back over junk. -/
def sout0_B_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_1.read (Elt F) (VS0_1.writes (Elt F) VS0_1.junk (kernelRun0_B c i arg4 harg4 arg5 harg5 arg6 harg6 arg7 harg7 arg8 harg8 arg9 harg9 arg10 harg10 hc0 hc2 x0 x1 x2 x3 xt0 xt1 hc1).2.2.1)

/-- Case C's pieces for output 4 tile its block (1 store of `S512x1024`, checked by the kernel's evaluation: Lib/Ring.lean `Piece.tiledL`, linear in the pieces, through a loop's `@[irreducible]` trip theorem too), so they cover it. -/
theorem cover0_C_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 xt0 xt1 xs0 xs1 hc1).1, y ∈ pc.1.set :=
  View.cover_of_tiledL (kernelRun0_C c i arg4 harg4 arg5 harg5 arg6 harg6 arg7 harg7 arg8 harg8 arg9 harg9 arg10 harg10 hc0 hc2 x0 x1 x2 x3 xt0 xt1 xs0 xs1 hc1).1 S512x1024.size (by sl_kernel_rfl) y

/-- What case C leaves in output 4's staging buffer: its pieces read back over junk. -/
def out0_C_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_C c i arg4 harg4 arg5 harg5 arg6 harg6 arg7 harg7 arg8 harg8 arg9 harg9 arg10 harg10 hc0 hc2 x0 x1 x2 x3 xt0 xt1 xs0 xs1 hc1).1)

/-- Case C stores nothing into scratch `arg9`: it holds what the point before left. -/
def sout0_C_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .bf16 := xs0

/-- Case C's pieces for scratch `arg10`, which the kernel carries between points, cover it: 1 piece of `S512x1024` tiling it (Lib/Ring.lean `Piece.tiledL`). -/
theorem scover0_C_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_C c i arg4 harg4 arg5 harg5 arg6 harg6 arg7 harg7 arg8 harg8 arg9 harg9 arg10 harg10 hc0 hc2 x0 x1 x2 x3 xt0 xt1 xs0 xs1 hc1).2.2.1, y ∈ pc.1.set :=
  View.cover_of_tiledL (kernelRun0_C c i arg4 harg4 arg5 harg5 arg6 harg6 arg7 harg7 arg8 harg8 arg9 harg9 arg10 harg10 hc0 hc2 x0 x1 x2 x3 xt0 xt1 xs0 xs1 hc1).2.2.1 S512x1024.size (by sl_kernel_rfl) y

/-- What case C leaves in scratch `arg10`: its pieces read back over junk. -/
def sout0_C_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : cond0_1 i (tbM0_1.view.readAt (Elt F) (Rect.unit (s := S1) ![0] S1.size inb_S1_S1_0).toLoadRect xt1 (Shape.Idx.first (numel1_S1.symm ▸ Nat.one_pos)))) : Vec F S512x1024 .f32 :=
  VS0_1.read (Elt F) (VS0_1.writes (Elt F) VS0_1.junk (kernelRun0_C c i arg4 harg4 arg5 harg5 arg6 harg6 arg7 harg7 arg8 harg8 arg9 harg9 arg10 harg10 hc0 hc2 x0 x1 x2 x3 xt0 xt1 xs0 xs1 hc1).2.2.1)

/-- Case D's pieces for output 4 tile its block (1 store of `S512x1024`, checked by the kernel's evaluation: Lib/Ring.lean `Piece.tiledL`, linear in the pieces, through a loop's `@[irreducible]` trip theorem too), so they cover it. -/
theorem cover0_D_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) (y : S512x1024.Idx) :
    ∃ pc ∈ (kernelRun0_D c i arg4 harg4 arg5 harg5 arg6 harg6 arg7 harg7 arg8 harg8 arg9 harg9 arg10 harg10 hc0 hc2 x0 x1 x2 x3 xt0 xt1 xs0 xs1 hc1).1, y ∈ pc.1.set :=
  View.cover_of_tiledL (kernelRun0_D c i arg4 harg4 arg5 harg5 arg6 harg6 arg7 harg7 arg8 harg8 arg9 harg9 arg10 harg10 hc0 hc2 x0 x1 x2 x3 xt0 xt1 xs0 xs1 hc1).1 S512x1024.size (by sl_kernel_rfl) y

/-- What case D leaves in output 4's staging buffer: its pieces read back over junk. -/
def out0_D_4 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 :=
  VO0_4.read (Elt F) (VO0_4.writes (Elt F) VO0_4.junk (kernelRun0_D c i arg4 harg4 arg5 harg5 arg6 harg6 arg7 harg7 arg8 harg8 arg9 harg9 arg10 harg10 hc0 hc2 x0 x1 x2 x3 xt0 xt1 xs0 xs1 hc1).1)

/-- Case D stores nothing into scratch `arg9`: it holds what the point before left. -/
def sout0_D_0 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .bf16 := xs0

/-- Case D stores nothing into scratch `arg10`: it holds what the point before left. -/
def sout0_D_1 (c : Dev nD) (i : grid0.Coords) (arg4 : Memref sig .tc .vmem S512x1024 .f32) (harg4 : arg4.IsWhole) (arg5 : Memref sig .tc .vmem S1x1024x1792 .bf16) (harg5 : arg5.IsWhole) (arg6 : Memref sig .tc .vmem S1x1024x1792 .bf16) (harg6 : arg6.IsWhole) (arg7 : Memref sig .tc .vmem S1x1792x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1) (xs0 : Vec F S512x1024 .bf16) (xs1 : Vec F S512x1024 .f32) (hc1 : ¬cond0_1 i (tbM0_1.view.readAt (Elt F) (Rect.unit (s := S1) ![0] S1.size inb_S1_S1_0).toLoadRect xt1 (Shape.Idx.first (numel1_S1.symm ▸ Nat.one_pos)))) : Vec F S512x1024 .f32 := xs1

/-! ## What the outputs hold after each point -/

/-- THE ACCUMULATION. What the outputs' staging buffers and the scratch the kernel carries between points hold after the body at position `n` (a tuple: the outputs in window order, then the scratch):
    the case the closed forms and the word conditions select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x1024 .f32 × Vec F S512x1024 .bf16 × Vec F S512x1024 .f32
  | 0, hn => if h1 : cond0_1 (grid0.coords ⟨0, hn⟩) (tbM0_1.view.readAt (Elt F) (Rect.unit (s := S1) ![0] S1.size inb_S1_S1_0).toLoadRect (tbl m 1) (Shape.Idx.first (numel1_S1.symm ▸ Nat.one_pos))) then
      (out0_A_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
    else
      (out0_B_4 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1, sout0_B_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr (Nat.zero_mod _)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (tbl m 0) (tbl m 1) h1)
  | n + 1, hn =>
    if h1 : cond0_1 (grid0.coords ⟨n + 1, hn⟩) (tbM0_1.view.readAt (Elt F) (Rect.unit (s := S1) ![0] S1.size inb_S1_S1_0).toLoadRect (tbl m 1) (Shape.Idx.first (numel1_S1.symm ▸ Nat.one_pos))) then
      if h0 : (n + 1) % 2 = 0 then
        if h2 : (n + 1) % 2 = 1 then
          False.elim (by have hN : n + 1 < 278 := lt_of_lt_of_eq hn (show (cfgM m hO).N = 278 from N_0); omega)
        else
          (out0_A_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_C_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)
        else
          False.elim (by have hN : n + 1 < 278 := lt_of_lt_of_eq hn (show (cfgM m hO).N = 278 from N_0); omega)
    else
      if h0 : (n + 1) % 2 = 0 then
        if h2 : (n + 1) % 2 = 1 then
          False.elim (by have hN : n + 1 < 278 := lt_of_lt_of_eq hn (show (cfgM m hO).N = 278 from N_0); omega)
        else
          (out0_B_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (tbl m 0) (tbl m 1) h1)
      else
        if h2 : (n + 1) % 2 = 1 then
          (out0_D_4 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_D_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1, sout0_D_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (tbl m 0) (tbl m 1) (outsAt0 hO c n (Nat.lt_of_succ_lt hn)).2.1 (outsAt0 hO c n (Nat.lt_of_succ_lt hn)).2.2 h1)
        else
          False.elim (by have hN : n + 1 < 278 := lt_of_lt_of_eq hn (show (cfgM m hO).N = 278 from N_0); omega)

set_option maxHeartbeats 8000000 in
/-- `outsAt0` at a point of case A: that case's contents. -/
theorem outsAt0_A (hO : Ok m) (c : Dev nD) (t : Fin (cfgM m hO).N) (h0 : t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_pos h1).trans rfl
  | succ n => exact (dif_pos h1).trans ((dif_pos h0).trans ((dif_neg h2).trans rfl))

set_option maxHeartbeats 8000000 in
/-- `outsAt0` at a point of case B: that case's contents. -/
theorem outsAt0_B (hO : Ok m) (c : Dev nD) (t : Fin (cfgM m hO).N) (h0 : t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : ¬t.val % 2 = 1) :
    outsAt0 m hO c t.val t.isLt = (out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) ((hcond0_0 t).mpr h0) (fun h => h2 ((hcond0_2 t).mp h)) (iblk m hO c 0 t) (iblk m hO c 1 t) (iblk m hO c 2 t) (iblk m hO c 3 t) (tbl m 0) (tbl m 1) h1) := by
  obtain ⟨n, hn⟩ := t
  cases n with
  | zero => exact (dif_neg h1).trans rfl
  | succ n => exact (dif_neg h1).trans ((dif_pos h0).trans ((dif_neg h2).trans rfl))

set_option maxHeartbeats 8000000 in
/-- `outsAt0` at a point of case C: that case's contents, over what the point before left. -/
theorem outsAt0_C (hO : Ok m) (c : Dev nD) (t : Fin (cfgM m hO).N) (h0 : ¬t.val % 2 = 0) (h1 : cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_C_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => exact (dif_pos h1).trans ((dif_neg h0).trans ((dif_pos h2).trans rfl))

set_option maxHeartbeats 8000000 in
/-- `outsAt0` at a point of case D: that case's contents, over what the point before left. -/
theorem outsAt0_D (hO : Ok m) (c : Dev nD) (t : Fin (cfgM m hO).N) (h0 : ¬t.val % 2 = 0) (h1 : ¬cond0_1 (grid0.coords t) (tbM0_1.view.readAt (Elt F) (Rect.unit (s := S1) ![0] S1.size inb_S1_S1_0).toLoadRect (tbl m 1) (Shape.Idx.first (numel1_S1.symm ▸ Nat.one_pos)))) (h2 : t.val % 2 = 1) :
    outsAt0 m hO c t.val t.isLt = (out0_D_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_D_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1, sout0_D_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) (fun h => h0 ((hcond0_0 t).mp h)) ((hcond0_2 t).mpr h2) (iblk m hO c 0 t) (iblk m hO c 1 t) (iblk m hO c 2 t) (iblk m hO c 3 t) (tbl m 0) (tbl m 1) (outsAt0 m hO c (t.val - 1) (Nat.lt_of_le_of_lt (Nat.sub_le _ _) t.isLt)).2.1 (outsAt0 m hO c (t.val - 1) (Nat.lt_of_le_of_lt (Nat.sub_le _ _) t.isLt)).2.2 h1) := by
  obtain ⟨n, hn⟩ := t
  cases n with
  | zero => exact (by exfalso; (try dsimp only at h0); exact absurd (Nat.zero_mod _) h0)
  | succ n => exact (dif_neg h1).trans ((dif_neg h0).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 278 := lt_of_lt_of_eq t.isLt (show (cfgM m hO).N = 278 from N_0)
  by_cases h0 : t.val % 2 = 0
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_A m hO t ((hcond0_0 t).mpr h0) (fun h => h2 ((hcond0_2 t).mp h))) (noFlush0_4_A m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_A m hO c t h0 h1 h2]
          unfold sout0_A_0 sout0_A_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_A c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
    · by_cases h2 : t.val % 2 = 1
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [Dat.leavesExact_idle (dats m hO 0 c) 4 t (idleAt0_4_B m hO t ((hcond0_0 t).mpr h0) (fun h => h2 ((hcond0_2 t).mp h))) (noFlush0_4_B m hO t ((hcond0_0 t).mpr h0) (fun h => h2 ((hcond0_2 t).mp h)))]
        by_cases hz : t.val = 0
        · rw [PhiS_castSucc m hO c t, PhiS_zero m hO c _ _ hz, PhiT0_eq, PhiA0_eq]
          rw [outsAt0_B m hO c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexact HS0
          isplitl [HS1]; · iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
        · rw [PhiS_castSucc m hO c t, PhiS_pos m hO c _ _ hz, PhiT0_eq]
          rw [outsAt0_B m hO c t h0 h1 h2]
          unfold sout0_B_0 sout0_B_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_B c (grid0.coords t) _ _ _ _ _ _ _ _ _ _ _ _ _ _ ((hcond0_0 t).mpr h0) (fun h => h2 ((hcond0_2 t).mp h)) (iblk m hO c 0 t) (iblk m hO c 1 t) (iblk m hO c 2 t) (iblk m hO c 3 t) (tbl m 0) (tbl m 1) h1).2.2.2 _ Set.univ _)
          isplitl [H0]; · iexact H0
          isplitl [H1]; · iexact H1
          isplitl [H2]; · iexact H2
          isplitl [H3]; · iexact H3
          isplitl [H4]; · iexact H4
          isplitl [HS0]; · iexists _; iexact HS0
          isplitl [HS1]; · iexists _; iexact HS1
          isplitl [HT0]; · iexact HT0
          isplitl [HT1]; · iexact HT1
          iintro ⟨H0, H1, H2, H3, H4, ⟨%es0, HS0⟩, ⟨%es1, HS1⟩, HT0, HT1⟩
          isplitl [HS0 HS1 Hg HT0 HT1]
          · isplitl [HS0 HS1 Hg]
            · isplitl [HS0 HS1]
              · isplitl [HS0]
                · unfold owns; iexists _; isplitr
                  swap; · iexact HS0
                  ipureintro; exact View.read_writes_of_cover _ _ _ _ _ (scover0_B_0 c _ _ _ _ _ _ _ _ _ _ _ _ _ _ _ _ _ _ _ _ _ _ _ _)
                unfold owns; iexists _; isplitr
                swap; · iexact HS1
                ipureintro; exact View.read_writes_of_cover _ _ _ _ _ (scover0_B_1 c _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          iexists _; iexact H4
  · by_cases h1 : cond0_1 (grid0.coords t) (tbM0_1.view.readAt (Elt F) (Rect.unit (s := S1) ![0] S1.size inb_S1_S1_0).toLoadRect (tbl m 1) (Shape.Idx.first (numel1_S1.symm ▸ Nat.one_pos)))
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_C m hO t (fun h => h0 ((hcond0_0 t).mp h)) ((hcond0_2 t).mpr h2)]; try rfl, after0_4]
        by_cases hz : t.val = 0
        · exfalso; have hN : t.val < 278 := lt_of_lt_of_eq t.isLt (show (cfgM m hO).N = 278 from N_0); omega
        · rw [PhiS_castSucc m hO c t, PhiS_pos m hO c _ _ hz, PhiT0_eq]
          rw [outsAt0_C m hO c t h0 h1 h2]
          unfold out0_C_4 sout0_C_0 sout0_C_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_C c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ _ h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, HS0, ⟨%es1, HS1⟩, HT0, HT1⟩
          isplitl [HS0 HS1 Hg HT0 HT1]
          · isplitl [HS0 HS1 Hg]
            · isplitl [HS0 HS1]
              · isplitl [HS0]
                · iexact HS0
                unfold owns; iexists _; isplitr
                swap; · iexact HS1
                ipureintro; exact View.read_writes_of_cover _ _ _ _ _ (scover0_C_1 c _ _ _ _ _ _ _ _ _ _ _ _ _ _ _ _ _ _ _ _ _ _ _ _ _ _)
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_C_4 c _ _ _ _ _ _ _ _ _ _ _ _ _ _ _ _ _ _ _ _ _ _ _ _ _ _)
      · exfalso; omega
    · by_cases h2 : t.val % 2 = 1
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4_D m hO t (fun h => h0 ((hcond0_0 t).mp h)) ((hcond0_2 t).mpr h2)]; try rfl, after0_4]
        by_cases hz : t.val = 0
        · exfalso; have hN : t.val < 278 := lt_of_lt_of_eq t.isLt (show (cfgM m hO).N = 278 from N_0); omega
        · rw [PhiS_castSucc m hO c t, PhiS_pos m hO c _ _ hz, PhiT0_eq]
          rw [outsAt0_D m hO c t h0 h1 h2]
          unfold out0_D_4 sout0_D_0 sout0_D_1; (try dsimp only)
          iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
          iapply ((kernelRun0_D c (grid0.coords t) _ _ _ _ _ _ _ _ _ _ _ _ _ _ (fun h => h0 ((hcond0_0 t).mp h)) ((hcond0_2 t).mpr h2) (iblk m hO c 0 t) (iblk m hO c 1 t) (iblk m hO c 2 t) (iblk m hO c 3 t) (tbl m 0) (tbl m 1) _ _ h1).2.2.2 Set.univ _)
          isplitl [H0]; · iexact H0
          isplitl [H1]; · iexact H1
          isplitl [H2]; · iexact H2
          isplitl [H3]; · iexact H3
          isplitl [H4]; · iexists _; iexact H4
          isplitl [HS0]; · iexact HS0
          isplitl [HS1]; · iexact HS1
          isplitl [HT0]; · iexact HT0
          isplitl [HT1]; · iexact HT1
          iintro ⟨H0, H1, H2, H3, ⟨%e4, H4⟩, HS0, HS1, HT0, HT1⟩
          isplitl [HS0 HS1 Hg HT0 HT1]
          · isplitl [HS0 HS1 Hg]
            · isplitl [HS0 HS1]
              · isplitl [HS0]
                · iexact HS0
                iexact HS1
              iexact Hg
            isplitl [HT0]; · iexact HT0
            iexact HT1
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover0_D_4 c _ _ _ _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 278 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.Tables.lean ====
/-
  The prefetched tables of the expert kernel: what the precondition says of their words, and why every block that an
  index map names through them lies inside its array.
-/
module

public import proofs.«01_k».proof.Defs
public import proofs.«01_k».proof.Proof.KernelIdealFrame
public import proofs.«01_k».proof.Proof.Gen.Pre_in_range
public import Idealize.ShloMosaic.Lib.ReduceAll
public import Idealize.ShloMosaic.Lib.Tactic

@[expose] public section

noncomputable section

open Idealize.ShloMosaic Idealize.ShloMosaic.TcCoe Idealize.SL.Sem

namespace Cert.Experts

/-- A word that is at least 0 and below 8, read signed, is a number below 8. -/
theorem toNat_lt_eight (w : BitVec 32) (h0 : (0#32).toInt ≤ w.toInt) (h8 : w.toInt < (8#32).toInt) : w.toNat < 8 := by
  simp only [BitVec.toInt, BitVec.toNat_ofNat] at h0 h8
  have := w.isLt
  split at h8 <;> omega

/-- A word that is at least 1 and at most 139, read signed, is a number between 1 and 139. -/
theorem toNat_active (w : BitVec 32) (h0 : (1#32).toInt ≤ w.toInt) (h8 : w.toInt ≤ (139#32).toInt) : 1 ≤ w.toNat ∧ w.toNat ≤ 139 := by
  simp only [BitVec.toInt, BitVec.toNat_ofNat] at h0 h8
  have := w.isLt
  split at h8 <;> omega

/-- The precondition, decoded: every tile's expert is one of the eight, and the number of active tiles is between 1 and
    the number of tiles. -/
theorem decode {F : FTy → Type} [FloatOps F] (te : IVec Pre_in_range.S139 32) (na : IVec Pre_in_range.S1 32)
    (xs : FVec F Pre_in_range.S71168x1024 .f32) (wg wu : FVec F Pre_in_range.S1x8x1024x3584 .f32) (wd : FVec F Pre_in_range.S1x8x3584x1024 .f32)
    (h : Pre_in_range.fn te na xs wg wu wd = fun _ => 1#1) :
    (∀ i, (te i).toNat < 8) ∧ ∀ i, 1 ≤ (na i).toNat ∧ (na i).toNat ≤ 139 := by
  have e := congrFun h (fun a => a.elim0)
  obtain ⟨e1, e2⟩ := IntOp.andi_eq_one.1 e
  refine ⟨fun i => ?_, fun i => ?_⟩
  · obtain ⟨a, b⟩ := IntOp.andi_eq_one.1 (Host.reduce_andi_all _ _ _ _ _ e1 i)
    exact toNat_lt_eight _ (IntOp.cmpi_sge.1 a) (IntOp.cmpi_slt.1 b)
  · obtain ⟨a, b⟩ := IntOp.andi_eq_one.1 (Host.reduce_andi_all _ _ _ _ _ e2 i)
    exact toNat_active _ (IntOp.cmpi_sge.1 a) (IntOp.cmpi_sle.1 b)

/-- The row tile that an inactive step fetches is the last active one, so it is never past the array. -/
theorem minsi_pred (a n : BitVec 32) (ha : a.toNat < 139) (h1 : 1 ≤ n.toNat) (hn : n.toNat ≤ 139) :
    (Scalar.minsi a (Scalar.subi n 1#32)).toNat = min a.toNat (n.toNat - 1) := by
  have es : (n - 1#32).toNat = n.toNat - 1 := by
    rw [BitVec.toNat_sub]; simp only [BitVec.toNat_ofNat]; have := n.isLt; omega
  have hle : ∀ x y : BitVec 32, x.toNat < 139 → y.toNat < 139 → (x.slt y = true ↔ x.toNat < y.toNat) := by
    intro x y hx hy
    simp only [BitVec.slt, decide_eq_true_eq, BitVec.toInt]
    rw [if_pos (by omega), if_pos (by omega)]; omega
  show (IntOp.minsi a (n - 1#32)).toNat = _
  unfold IntOp.minsi
  have := hle a (n - 1#32) ha (by omega)
  split <;> rename_i hc
  · have := this.1 (by simpa using hc); omega
  · have : ¬ a.toNat < (n - 1#32).toNat := fun hx => hc (by simpa using this.2 hx)
    omega

/-- So the fetched row tile is inside the rows. -/
theorem tile_inside (a n : BitVec 32) (ha : a.toNat < 139) (hn : 1 ≤ n.toNat ∧ n.toNat ≤ 139) :
    ((Scalar.minsi a (Scalar.subi n 1#32)).toNat + 1) * 512 ≤ 71168 := by
  rw [minsi_pred a n ha hn.1 hn.2]; omega

/-- An expert's slab is inside the eight. -/
theorem slab_inside (w : BitVec 32) (h : w.toNat < 8) : (w.toNat + 1) * 1 ≤ 8 := by omega

end Cert.Experts

namespace Cert.KernelIdeal.Tables

open Cert.KernelIdeal Cert.KernelIdeal.Gen Cert.Experts

variable {F : FTy → Type} [FloatOps F]

/-- The side condition of the tables' contents, from bounds on their words. -/
theorem ok_of_bounds (pf : pre0.Contents (Elt F)) (h0 : ∀ i : S139.Idx, (pf 0 i : BitVec 32).toNat < 8)
    (h1 : ∀ i : S1.Idx, 1 ≤ (pf 1 i : BitVec 32).toNat ∧ (pf 1 i : BitVec 32).toNat ≤ 139) : ok0 pf := by
  have hi0 : ∀ i : grid0.Coords, (BitVec.ofNat 32 (i 0).val).toNat < 139 := fun i => by
    have : (i 0).val < 139 := (i 0).isLt
    rw [BitVec.toNat_ofNat]; omega
  have hi1 : ∀ i : grid0.Coords, (BitVec.ofNat 32 (i 1).val).toNat < 2 := fun i => by
    have : (i 1).val < 2 := (i 1).isLt
    rw [BitVec.toNat_ofNat]; omega
  refine ⟨fun i => ⟨fun a => ?_, .inl rfl⟩, fun i => ⟨fun a => ?_, .inr (.inr ⟨by decide, rfl, ?_, rfl⟩)⟩,
    fun i => ⟨fun a => ?_, .inr (.inr ⟨by decide, rfl, ?_, rfl⟩)⟩, fun i => ⟨fun a => ?_, .inr (.inl (.inr ⟨by decide, rfl, .inl ⟨?_, ?_⟩⟩))⟩⟩
  · match a with
    | ⟨0, _⟩ => exact tile_inside _ _ (hi0 i) (h1 _)
    | ⟨1, _⟩ => show (0 + 1) * 1024 ≤ 1024; omega
  · match a with
    | ⟨0, _⟩ => exact slab_inside _ (h0 _)
    | ⟨1, _⟩ => show (0 + 1) * 1024 ≤ 1024; omega
    | ⟨2, _⟩ => show ((BitVec.ofNat 32 (i 1).val).toNat + 1) * 1792 ≤ 3584; have := hi1 i; omega
  · show 0 * 1024 = 0; omega
  · match a with
    | ⟨0, _⟩ => exact slab_inside _ (h0 _)
    | ⟨1, _⟩ => show (0 + 1) * 1024 ≤ 1024; omega
    | ⟨2, _⟩ => show ((BitVec.ofNat 32 (i 1).val).toNat + 1) * 1792 ≤ 3584; have := hi1 i; omega
  · show 0 * 1024 = 0; omega
  · match a with
    | ⟨0, _⟩ => exact slab_inside _ (h0 _)
    | ⟨1, _⟩ => show ((BitVec.ofNat 32 (i 1).val).toNat + 1) * 1792 ≤ 3584; have := hi1 i; omega
    | ⟨2, _⟩ => show (0 + 1) * 1024 ≤ 1024; omega
  · show 2 ∣ (BitVec.ofNat 32 (i 1).val).toNat * 1792; exact Dvd.dvd.mul_left (by decide) _
  · show 2 ∣ 1792; decide

variable (m : (ℓ : Loc nD τ sig) → Buf (Elt F) ℓ)

/-- The two tables as the launch memory holds them: the call's first two arguments. -/
theorem tbl_zero : (tbl m 0 : IVec S139 32) = m (((0 : Dev nD) : Thread nD τ).loc main_arg0) := V_main_arg0 m 0
theorem tbl_one : (tbl m 1 : IVec S1 32) = m (((0 : Dev nD) : Thread nD τ).loc main_arg1) := V_main_arg1 m 0

/-- The side condition, from bounds on the first two arguments. -/
theorem ok_of_args (h0 : ∀ i : S139.Idx, (m (((0 : Dev nD) : Thread nD τ).loc main_arg0) i : BitVec 32).toNat < 8)
    (h1 : ∀ i : S1.Idx, 1 ≤ (m (((0 : Dev nD) : Thread nD τ).loc main_arg1) i : BitVec 32).toNat
      ∧ (m (((0 : Dev nD) : Thread nD τ).loc main_arg1) i : BitVec 32).toNat ≤ 139) : Ok m :=
  ok_of_bounds (tbl m) (fun i => by rw [show (tbl m 0 : IVec S139 32) i = _ from congrFun (tbl_zero m) i]; exact h0 i)
    (fun i => by rw [show (tbl m 1 : IVec S1 32) i = _ from congrFun (tbl_one m) i]; exact h1 i)

/-- The side condition, from the precondition. -/
theorem ok_of_pre (m : (ℓ : Loc nD τ sig) → Buf (Elt Ideal) ℓ) (h : Cert.Pre_KernelIdeal m) : Ok m :=
  ok_of_args m (decode _ _ _ _ _ _ (h 0)).1 (decode _ _ _ _ _ _ (h 0)).2

end Cert.KernelIdeal.Tables

end
-- ==== Proof.TileCases.lean ====
/- What one grid point of the expert call leaves in its buffers, case by case, as plain values.

   The grid runs row tile by row tile, two points per tile: the first half of the hidden width, then the second. A tile
   is active when the routing has rows for it. The first point of an active tile rounds the rows into the one scratch and
   leaves half of the sum in the other; the second point adds the other half and writes the tile out. A point of an
   inactive tile writes zeros. -/
module

public import proofs.«01_k».proof.Proof.KernelIdealFrame
public import Idealize.ShloMosaic.Lib.Pipeline.Value
public import Idealize.ShloMosaic.Lib.Tactic

@[expose] public section

set_option maxRecDepth 16384

noncomputable section

namespace Cert.KernelIdeal.Tile

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 2000000 in
/-- The first point of an active tile: the rows, rounded. -/
theorem xb_A (c : Dev nD) (i : grid0.Coords) (a4 : Memref sig .tc .vmem S512x1024 .f32) (h4 : a4.IsWhole) (a5 : Memref sig .tc .vmem S1x1024x1792 .bf16) (h5 : a5.IsWhole)
    (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole)
    (a9 : Memref sig .tc .vmem S512x1024 .bf16) (h9 : a9.IsWhole) (a10 : Memref sig .tc .vmem S512x1024 .f32) (h10 : a10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1)
    (hc1 : cond0_1 i (tbM0_1.view.readAt (Elt F) (Rect.unit (s := S1) ![0] S1.size inb_S1_S1_0).toLoadRect xt1 (Shape.Idx.first (numel1_S1.symm ▸ Nat.one_pos)))) :
    sout0_A_0 c i a4 h4 a5 h5 a6 h6 a7 h7 a8 h8 a9 h9 a10 h10 hc0 hc2 x0 x1 x2 x3 xt0 xt1 hc1 = k0_pay1 x0 := by
  unfold sout0_A_0
  rw [View.read_writes_eq_canon _ _ _ (scover0_A_0 c i a4 h4 a5 h5 a6 h6 a7 h7 a8 h8 a9 h9 a10 h10 hc0 hc2 x0 x1 x2 x3 xt0 xt1 hc1)]
  unfold kernelRun0_A
  dsimp only
  sl_unfold_words
  rw [View.canon_unit_zero hz2]
  simp only [View.readAt_eq_ld, h4.read_unread, h5.read_unread, h6.read_unread, h7.read_unread, h9.read_unread, h10.read_unread,
    View.ld_unit_zero (S := S512x1024) hz2, View.ld_unit_zero (S := S1x1024x1792) hz3, View.ld_unit_zero (S := S1x1792x1024) hz3, shapeCast_self]

set_option maxHeartbeats 2000000 in
/-- The first point of an active tile: half of the sum, over zeros. -/
theorem acc_A (c : Dev nD) (i : grid0.Coords) (a4 : Memref sig .tc .vmem S512x1024 .f32) (h4 : a4.IsWhole) (a5 : Memref sig .tc .vmem S1x1024x1792 .bf16) (h5 : a5.IsWhole)
    (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole)
    (a9 : Memref sig .tc .vmem S512x1024 .bf16) (h9 : a9.IsWhole) (a10 : Memref sig .tc .vmem S512x1024 .f32) (h10 : a10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1)
    (hc1 : cond0_1 i (tbM0_1.view.readAt (Elt F) (Rect.unit (s := S1) ![0] S1.size inb_S1_S1_0).toLoadRect xt1 (Shape.Idx.first (numel1_S1.symm ▸ Nat.one_pos)))) :
    sout0_A_1 c i a4 h4 a5 h5 a6 h6 a7 h7 a8 h8 a9 h9 a10 h10 hc0 hc2 x0 x1 x2 x3 xt0 xt1 hc1 = k0_pay3 (k0_pay1 x0) x1 x2 k0_pay2 x3 := by
  unfold sout0_A_1
  rw [View.read_writes_eq_canon _ _ _ (scover0_A_1 c i a4 h4 a5 h5 a6 h6 a7 h7 a8 h8 a9 h9 a10 h10 hc0 hc2 x0 x1 x2 x3 xt0 xt1 hc1)]
  unfold kernelRun0_A
  dsimp only
  sl_unfold_words
  rw [View.canon_cons_unit_zero (S := S512x1024) hz2, View.readCov_unit_zero (S := S512x1024) _ hz2, View.readCov_unit_zero (S := S512x1024) _ hz2]
  simp only [View.readAt_eq_ld, h4.read_unread, h5.read_unread, h6.read_unread, h7.read_unread, h9.read_unread, h10.read_unread,
    View.ld_unit_zero (S := S512x1024) hz2, View.ld_unit_zero (S := S1x1024x1792) hz3, View.ld_unit_zero (S := S1x1792x1024) hz3, shapeCast_self]

set_option maxHeartbeats 2000000 in
/-- The first point of an inactive tile: zeros. -/
theorem acc_B (c : Dev nD) (i : grid0.Coords) (a4 : Memref sig .tc .vmem S512x1024 .f32) (h4 : a4.IsWhole) (a5 : Memref sig .tc .vmem S1x1024x1792 .bf16) (h5 : a5.IsWhole)
    (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole)
    (a9 : Memref sig .tc .vmem S512x1024 .bf16) (h9 : a9.IsWhole) (a10 : Memref sig .tc .vmem S512x1024 .f32) (h10 : a10.IsWhole) (hc0 : cond0_0 i) (hc2 : ¬cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1)
    (hc1 : ¬cond0_1 i (tbM0_1.view.readAt (Elt F) (Rect.unit (s := S1) ![0] S1.size inb_S1_S1_0).toLoadRect xt1 (Shape.Idx.first (numel1_S1.symm ▸ Nat.one_pos)))) :
    sout0_B_1 c i a4 h4 a5 h5 a6 h6 a7 h7 a8 h8 a9 h9 a10 h10 hc0 hc2 x0 x1 x2 x3 xt0 xt1 hc1 = k0_pay2 := by
  unfold sout0_B_1
  rw [View.read_writes_eq_canon _ _ _ (scover0_B_1 c i a4 h4 a5 h5 a6 h6 a7 h7 a8 h8 a9 h9 a10 h10 hc0 hc2 x0 x1 x2 x3 xt0 xt1 hc1)]
  unfold kernelRun0_B
  dsimp only
  sl_unfold_words
  rw [View.canon_unit_zero hz2]

set_option maxHeartbeats 2000000 in
/-- The second point of an active tile writes out the sum, its second half added. -/
theorem out_C (c : Dev nD) (i : grid0.Coords) (a4 : Memref sig .tc .vmem S512x1024 .f32) (h4 : a4.IsWhole) (a5 : Memref sig .tc .vmem S1x1024x1792 .bf16) (h5 : a5.IsWhole)
    (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole)
    (a9 : Memref sig .tc .vmem S512x1024 .bf16) (h9 : a9.IsWhole) (a10 : Memref sig .tc .vmem S512x1024 .f32) (h10 : a10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1)
    (xs0 : Vec F S512x1024 .bf16) (xs1 : Vec F S512x1024 .f32)
    (hc1 : cond0_1 i (tbM0_1.view.readAt (Elt F) (Rect.unit (s := S1) ![0] S1.size inb_S1_S1_0).toLoadRect xt1 (Shape.Idx.first (numel1_S1.symm ▸ Nat.one_pos)))) :
    out0_C_4 c i a4 h4 a5 h5 a6 h6 a7 h7 a8 h8 a9 h9 a10 h10 hc0 hc2 x0 x1 x2 x3 xt0 xt1 xs0 xs1 hc1 = k0_pay3 xs0 x1 x2 xs1 x3 := by
  unfold out0_C_4
  rw [View.read_writes_eq_canon _ _ _ (cover0_C_4 c i a4 h4 a5 h5 a6 h6 a7 h7 a8 h8 a9 h9 a10 h10 hc0 hc2 x0 x1 x2 x3 xt0 xt1 xs0 xs1 hc1)]
  unfold kernelRun0_C
  dsimp only
  sl_unfold_words
  rw [View.canon_unit_zero hz2, View.readCov_unit_zero (S := S512x1024) _ hz2]
  simp only [View.readAt_eq_ld, h4.read_unread, h5.read_unread, h6.read_unread, h7.read_unread, h9.read_unread, h10.read_unread,
    View.ld_unit_zero (S := S512x1024) hz2, View.ld_unit_zero (S := S1x1024x1792) hz3, View.ld_unit_zero (S := S1x1792x1024) hz3, shapeCast_self]

set_option maxHeartbeats 2000000 in
/-- The second point of an inactive tile writes out what the first left. -/
theorem out_D (c : Dev nD) (i : grid0.Coords) (a4 : Memref sig .tc .vmem S512x1024 .f32) (h4 : a4.IsWhole) (a5 : Memref sig .tc .vmem S1x1024x1792 .bf16) (h5 : a5.IsWhole)
    (a6 : Memref sig .tc .vmem S1x1024x1792 .bf16) (h6 : a6.IsWhole) (a7 : Memref sig .tc .vmem S1x1792x1024 .bf16) (h7 : a7.IsWhole) (a8 : Memref sig .tc .vmem S512x1024 .f32) (h8 : a8.IsWhole)
    (a9 : Memref sig .tc .vmem S512x1024 .bf16) (h9 : a9.IsWhole) (a10 : Memref sig .tc .vmem S512x1024 .f32) (h10 : a10.IsWhole) (hc0 : ¬cond0_0 i) (hc2 : cond0_2 i)
    (x0 : Vec F S512x1024 .f32) (x1 : Vec F S1x1024x1792 .bf16) (x2 : Vec F S1x1024x1792 .bf16) (x3 : Vec F S1x1792x1024 .bf16) (xt0 : TbBuf0 (F := F) c tbM0_0) (xt1 : TbBuf0 (F := F) c tbM0_1)
    (xs0 : Vec F S512x1024 .bf16) (xs1 : Vec F S512x1024 .f32)
    (hc1 : ¬cond0_1 i (tbM0_1.view.readAt (Elt F) (Rect.unit (s := S1) ![0] S1.size inb_S1_S1_0).toLoadRect xt1 (Shape.Idx.first (numel1_S1.symm ▸ Nat.one_pos)))) :
    out0_D_4 c i a4 h4 a5 h5 a6 h6 a7 h7 a8 h8 a9 h9 a10 h10 hc0 hc2 x0 x1 x2 x3 xt0 xt1 xs0 xs1 hc1 = xs1 := by
  unfold out0_D_4
  rw [View.read_writes_eq_canon _ _ _ (cover0_D_4 c i a4 h4 a5 h5 a6 h6 a7 h7 a8 h8 a9 h9 a10 h10 hc0 hc2 x0 x1 x2 x3 xt0 xt1 xs0 xs1 hc1)]
  unfold kernelRun0_D
  dsimp only
  sl_unfold_words
  rw [View.canon_unit_zero hz2]
  simp only [View.readAt_eq_ld, h4.read_unread, h5.read_unread, h6.read_unread, h7.read_unread, h9.read_unread, h10.read_unread,
    View.ld_unit_zero (S := S512x1024) hz2, View.ld_unit_zero (S := S1x1024x1792) hz3, View.ld_unit_zero (S := S1x1792x1024) hz3, shapeCast_self]

end Cert.KernelIdeal.Tile

end
-- ==== Proof.TilePay.lean ====
/- The arithmetic of one grid point, over the extended reals and at one element. -/
module

public import proofs.«01_k».proof.Proof.Gen.KernelIdeal.Skeleton
public import Idealize.ShloMosaic.Lib.ValueIdx
public import Idealize.ShloMosaic.PureOps.Ideal.Laws
public import Idealize.ShloMosaic.Lib.Pointwise
public import Idealize.ShloMosaic.Lib.Tactic

@[expose] public section

set_option maxRecDepth 16384

noncomputable section

namespace Cert.KernelIdeal.Tile

open Idealize.ShloMosaic hiding ix1 ix2 ix3 ix4
open Idealize.ShloMosaic.ValueIdx Cert.KernelIdeal Cert.KernelIdeal.Gen
open scoped BigOperators

/-- The scratch's zeros. -/
theorem pay2_at (r : Fin 512) (c : Fin 1024) : (k0_pay2 (F := Ideal) (ix2 r c) : EReal) = 0 := by
  pointwise [k0_pay2]

/-- Rounding is the identity here. -/
theorem pay1_at (v : Vec Ideal S512x1024 .f32) (r : Fin 512) (c : Fin 1024) : (k0_pay1 (F := Ideal) v (ix2 r c) : EReal) = v (ix2 r c) := by
  pointwise [k0_pay1]

/-- One point adds, to what the scratch holds, one half of the hidden width's contribution. -/
theorem pay3_at (x : Vec Ideal S512x1024 .bf16) (wg wu : Vec Ideal S1x1024x1792 .bf16) (acc : Vec Ideal S512x1024 .f32)
    (wd : Vec Ideal S1x1792x1024 .bf16) (r : Fin 512) (c : Fin 1024) :
    (k0_pay3 (F := Ideal) x wg wu acc wd (ix2 r c) : EReal) = acc (ix2 r c)
      + ∑ k : Fin 1792, ((∑ j : Fin 1024, (x (ix2 r j) : EReal) * wg (ix3 0 j k)) * Ideal.logistic (∑ j : Fin 1024, (x (ix2 r j) : EReal) * wg (ix3 0 j k))
          * (∑ j : Fin 1024, (x (ix2 r j) : EReal) * wu (ix3 0 j k))) * (wd (ix3 0 k c) : EReal) := by
  pointwise [k0_pay3]
  rfl

end Cert.KernelIdeal.Tile

end
-- ==== Proof.Spec.lean ====
/- The routed experts as plain sums: what the call and the reference are both shown to compute.

   Row `r` of the rows sorted by expert lies in the tile `r / 512`. The tile's expert `e` is the table's word for it, and
   the row's result is the gated product of `e`'s weights when the tile holds routed rows, and zero when it does not. -/
module

public import Idealize.ShloMosaic.Lib.ValueIdx
public import Idealize.ShloMosaic.PureOps.Ideal.Laws
public import Idealize.ShloMosaic.Lib.Tactic

@[expose] public section

noncomputable section

namespace Cert.Experts

open Idealize.ShloMosaic Idealize.ShloMosaic.ValueIdx
open scoped BigOperators

/-- One row against one column of one expert's first or second weights. -/
def project (x : Vec Ideal ⟨2, ![71168, 1024]⟩ .f32) (w : Vec Ideal ⟨4, ![1, 8, 1024, 3584]⟩ .f32) (e : Fin 8) (r : Fin 71168)
    (k : Fin 3584) : EReal := ∑ j : Fin 1024, (x (ix2 r j) : EReal) * w (ix4 0 e j k)

/-- The gated hidden value: `g · logistic g · u`. -/
def hidden (x : Vec Ideal ⟨2, ![71168, 1024]⟩ .f32) (wg wu : Vec Ideal ⟨4, ![1, 8, 1024, 3584]⟩ .f32) (e : Fin 8) (r : Fin 71168)
    (k : Fin 3584) : EReal := project x wg e r k * Ideal.logistic (project x wg e r k) * project x wu e r k

/-- One entry of one expert's result. -/
def expertRow (x : Vec Ideal ⟨2, ![71168, 1024]⟩ .f32) (wg wu : Vec Ideal ⟨4, ![1, 8, 1024, 3584]⟩ .f32)
    (wd : Vec Ideal ⟨4, ![1, 8, 3584, 1024]⟩ .f32) (e : Fin 8) (r : Fin 71168) (c : Fin 1024) : EReal :=
  ∑ k : Fin 3584, hidden x wg wu e r k * (wd (ix4 0 e k c) : EReal)

/-- The tile of a row. -/
def tileOf (r : Fin 71168) : Fin 139 := ⟨r.val / 512, by omega⟩

/-- The expert a table word names. -/
def expertOf (w : BitVec 32) : Fin 8 := ⟨w.toNat % 8, Nat.mod_lt _ (by decide)⟩

/-- The call's result. -/
def result (te : IVec ⟨1, ![139]⟩ 32) (na : IVec ⟨1, ![1]⟩ 32) (x : Vec Ideal ⟨2, ![71168, 1024]⟩ .f32)
    (wg wu : Vec Ideal ⟨4, ![1, 8, 1024, 3584]⟩ .f32) (wd : Vec Ideal ⟨4, ![1, 8, 3584, 1024]⟩ .f32) :
    Vec Ideal ⟨2, ![71168, 1024]⟩ .f32 := fun i =>
  (if (i 0).val / 512 < (na (ix1 0)).toNat then expertRow x wg wu wd (expertOf (te (ix1 (tileOf (i 0))))) (i 0) (i 1) else 0 : EReal)

end Cert.Experts

end
-- ==== Proof.TileBlocks.lean ====
/- What each window hands the body at a grid point, as elements of the call's arguments.

   Point `t` works on row tile `t / 2` and half `t % 2` of the hidden width. -/
module

public import proofs.«01_k».proof.Proof.Tables
public import proofs.«01_k».proof.Proof.Spec
public import Idealize.ShloMosaic.Lib.Pipeline.Value
public import Idealize.ShloMosaic.Lib.StableHlo.ReadAt
public import Idealize.ShloMosaic.Lib.Tactic

@[expose] public section

set_option maxRecDepth 16384

noncomputable section

namespace Cert.KernelIdeal.Tile

open Idealize.ShloMosaic hiding ix1 ix2 ix3 ix4
open Idealize.ShloMosaic.ValueIdx Idealize.ShloMosaic.TcCoe Idealize.SL.Sem Cert.KernelIdeal Cert.KernelIdeal.Gen

/-! ## The two table words a point reads -/

section Words

variable {F : FTy → Type} [FloatOps F]

/-- The tile's expert word. -/
theorem expert_word (pf : pre0.Contents (Elt F)) (i : grid0.Coords) :
    (pf 0 ((Rect.unit (s := S139) (k0_off1 i) S1.size (k0_off1_inb i)).emb (Shape.Idx.first (numel1_S1.symm ▸ Nat.one_pos))) : BitVec 32)
      = (pf 0 : IVec S139 32) (ix1 (i 0)) := by
  refine congrArg (pf 0 : IVec S139 32) (funext fun a => Fin.ext ?_)
  match a with
  | ⟨0, _⟩ =>
    show (BitVec.ofNat 32 (i 0).val).toNat + 1 * 0 = (i 0).val
    have h : (i 0).val < 139 := (i 0).isLt
    rw [BitVec.toNat_ofNat, Nat.mod_eq_of_lt (by omega)]; omega

/-- The number of active tiles. -/
theorem active_word (x : IVec S1 32) (j : S1.Idx) : x j = x (ix1 0) := by
  refine congrArg x (funext fun a => Fin.ext ?_)
  match a with
  | ⟨0, _⟩ => have h : (j 0).val < 1 := (j 0).isLt; show (j 0).val = 0; omega

end Words

/-! ## The weights as the call receives them: the arguments, their leading axis dropped -/

section Weights

variable (m : (ℓ : Loc nD τ sig) → Buf (Elt Ideal) ℓ) (c : Dev nD)

theorem wg_at (e : Fin 8) (j : Fin 1024) (k : Fin 3584) :
    (V m c main_v1 (ix3 e j k) : EReal) = m ((c.tc : Thread nD τ).loc main_arg3) (ix4 0 e j k) := by
  unfold V
  after_reads_at
  rfl

theorem wu_at (e : Fin 8) (j : Fin 1024) (k : Fin 3584) :
    (V m c main_v3 (ix3 e j k) : EReal) = m ((c.tc : Thread nD τ).loc main_arg4) (ix4 0 e j k) := by
  unfold V
  after_reads_at
  rfl

theorem wd_at (e : Fin 8) (k : Fin 3584) (j : Fin 1024) :
    (V m c main_v5 (ix3 e k j) : EReal) = m ((c.tc : Thread nD τ).loc main_arg5) (ix4 0 e k j) := by
  unfold V
  after_reads_at
  rfl

end Weights

/-! ## The blocks -/

section Blocks

variable (m : (ℓ : Loc nD τ sig) → Buf (Elt Ideal) ℓ) (hO : Ok m) (c : Dev nD) (t : Fin (cfgM m hO).N)

/-- The coordinates of a point: its tile and its half. -/
theorem tile_coord (t : Fin grid0.N) : (grid0.coords t 0).val = t.val / 2 := by
  have e : (grid0.coords t 0).val = t.val / 2 % 139 := Pipeline.Grid.coords_val t 0 (by decide) rfl
  have ht : t.val < 278 := Nat.lt_of_lt_of_eq t.isLt N_0
  rw [e]; exact Nat.mod_eq_of_lt (by omega)

theorem half_coord (t : Fin grid0.N) : (grid0.coords t 1).val = t.val % 2 := by
  have e : (grid0.coords t 1).val = t.val / 1 % 2 := Pipeline.Grid.coords_val t 1 (by decide) rfl
  rw [e, Nat.div_one]

/-- The table of tiles' experts, and the number of active tiles. -/
abbrev te : IVec S139 32 := m (((0 : Dev nD) : Thread nD τ).loc main_arg0)
abbrev na : IVec S1 32 := m (((0 : Dev nD) : Thread nD τ).loc main_arg1)

/-- Where the expert windows' first index points. -/
theorem slab_index (i : Fin 139) (hi : i.val = t.val / 2) (e : Fin 8) (he : (te m (ix1 i)).toNat = e.val) :
    (tbl m 0 ((Rect.unit (s := S139) (k0_off1 (grid0.coords t)) S1.size (k0_off1_inb (grid0.coords t))).emb (Shape.Idx.first (numel1_S1.symm ▸ Nat.one_pos))) : BitVec 32).toNat = e.val := by
  refine Eq.trans (congrArg BitVec.toNat ((expert_word (F := Ideal) (tbl m) (grid0.coords t)).trans ?_)) he
  rw [show (tbl m 0 : IVec S139 32) = te m from Tables.tbl_zero m]
  exact congrArg (te m) (congrArg ix1 (Fin.ext ((tile_coord t).trans hi.symm)))

/-- The half's index map. -/
theorem half_index (t : Fin grid0.N) : (BitVec.ofNat 32 (grid0.coords t 1).val).toNat = t.val % 2 := by
  rw [half_coord t, BitVec.toNat_ofNat]; exact Nat.mod_eq_of_lt (by omega)

/-- Window 0 of an active tile: the tile's rows. -/
theorem xs_block (hn : 1 ≤ (na m (ix1 0)).toNat ∧ (na m (ix1 0)).toNat ≤ 139) (hact : t.val / 2 < (na m (ix1 0)).toNat)
    (r : Fin 512) (j : Fin 1024) (R : Fin 71168) (hR : R.val = t.val / 2 * 512 + r.val) :
    ((iblk m hO c 0 t : Vec Ideal S512x1024 .f32) (ix2 r j) : EReal) = m ((c.tc : Thread nD τ).loc main_arg2) (ix2 R j) := by
  unfold iblk
  refine (View.read_apply ..).trans ?_
  show V m c main_arg2 _ = _
  rw [V_main_arg2]
  refine congrArg _ (funext fun a => Fin.ext ?_)
  match a with
  | ⟨0, _⟩ =>
    have hb : (tbl m 1 : IVec S1 32) ((Rect.unit (s := S1) ![0] S1.size inb_S1_S1_0).emb (Shape.Idx.first (numel1_S1.symm ▸ Nat.one_pos))) = na m (ix1 0) := by
      rw [show (tbl m 1 : IVec S1 32) = na m from Tables.tbl_one m]; exact active_word _ _
    have hi : (BitVec.ofNat 32 (grid0.coords t 0).val).toNat = t.val / 2 := by
      have ht : t.val < 278 := Nat.lt_of_lt_of_eq t.isLt N_0
      rw [tile_coord t, BitVec.toNat_ofNat]; exact Nat.mod_eq_of_lt (by omega)
    have e := Experts.minsi_pred (BitVec.ofNat 32 (grid0.coords t 0).val) (na m (ix1 0)) (by rw [hi]; omega) hn.1 hn.2
    rw [hi] at e
    have e' : (Scalar.minsi (BitVec.ofNat 32 (grid0.coords t 0).val) (Scalar.subi ((tbl m 1 : IVec S1 32) ((Rect.unit (s := S1) ![0] S1.size inb_S1_S1_0).emb (Shape.Idx.first (numel1_S1.symm ▸ Nat.one_pos)))) 1#32)).toNat
        = min (t.val / 2) ((na m (ix1 0)).toNat - 1) := by rw [hb]; exact e
    refine Eq.trans (congrArg (fun z => z * 512 + 1 * r.val) e') ?_
    show min (t.val / 2) ((na m (ix1 0)).toNat - 1) * 512 + 1 * r.val = R.val
    omega
  | ⟨1, _⟩ => show 0 * 1024 + 1 * j.val = j.val; omega

/-- Windows 1 and 2: the half of the expert's first weights. -/
theorem wg_block (i : Fin 139) (hi : i.val = t.val / 2) (e : Fin 8) (he : (te m (ix1 i)).toNat = e.val)
    (j : Fin 1024) (k : Fin 1792) (K : Fin 3584) (hK : K.val = t.val % 2 * 1792 + k.val) :
    ((iblk m hO c 1 t : Vec Ideal S1x1024x1792 .bf16) (ix3 0 j k) : EReal) = m ((c.tc : Thread nD τ).loc main_arg3) (ix4 0 e j K) := by
  rw [← wg_at m c e j K]
  unfold iblk
  refine (View.read_apply ..).trans ?_
  show V m c main_v1 _ = _
  refine congrArg (V m c main_v1) (funext fun a => Fin.ext ?_)
  match a with
  | ⟨0, _⟩ =>
    have h : cc0_transform_1 k0_off1_inb numel1_S1 (tbl m) (grid0.coords t) 0 = e.val := slab_index m hO t i hi e he
    show cc0_transform_1 k0_off1_inb numel1_S1 (tbl m) (grid0.coords t) 0 * 1 + 1 * (0 : Fin 1).val = e.val
    exact Eq.trans (congrArg (fun z => z * 1 + 1 * (0 : Fin 1).val) h) (by show e.val * 1 + 1 * 0 = e.val; omega)
  | ⟨1, _⟩ => show 0 * 1024 + 1 * j.val = j.val; omega
  | ⟨2, _⟩ => exact Eq.trans (congrArg (fun z => z * 1792 + 1 * k.val) (half_index t)) (by show t.val % 2 * 1792 + 1 * k.val = K.val; omega)

theorem wu_block (i : Fin 139) (hi : i.val = t.val / 2) (e : Fin 8) (he : (te m (ix1 i)).toNat = e.val)
    (j : Fin 1024) (k : Fin 1792) (K : Fin 3584) (hK : K.val = t.val % 2 * 1792 + k.val) :
    ((iblk m hO c 2 t : Vec Ideal S1x1024x1792 .bf16) (ix3 0 j k) : EReal) = m ((c.tc : Thread nD τ).loc main_arg4) (ix4 0 e j K) := by
  rw [← wu_at m c e j K]
  unfold iblk
  refine (View.read_apply ..).trans ?_
  show V m c main_v3 _ = _
  refine congrArg (V m c main_v3) (funext fun a => Fin.ext ?_)
  match a with
  | ⟨0, _⟩ =>
    have h : cc0_transform_2 k0_off1_inb numel1_S1 (tbl m) (grid0.coords t) 0 = e.val := slab_index m hO t i hi e he
    show cc0_transform_2 k0_off1_inb numel1_S1 (tbl m) (grid0.coords t) 0 * 1 + 1 * (0 : Fin 1).val = e.val
    exact Eq.trans (congrArg (fun z => z * 1 + 1 * (0 : Fin 1).val) h) (by show e.val * 1 + 1 * 0 = e.val; omega)
  | ⟨1, _⟩ => show 0 * 1024 + 1 * j.val = j.val; omega
  | ⟨2, _⟩ => exact Eq.trans (congrArg (fun z => z * 1792 + 1 * k.val) (half_index t)) (by show t.val % 2 * 1792 + 1 * k.val = K.val; omega)

/-- Window 3: the half of the expert's second weights. -/
theorem wd_block (i : Fin 139) (hi : i.val = t.val / 2) (e : Fin 8) (he : (te m (ix1 i)).toNat = e.val)
    (k : Fin 1792) (j : Fin 1024) (K : Fin 3584) (hK : K.val = t.val % 2 * 1792 + k.val) :
    ((iblk m hO c 3 t : Vec Ideal S1x1792x1024 .bf16) (ix3 0 k j) : EReal) = m ((c.tc : Thread nD τ).loc main_arg5) (ix4 0 e K j) := by
  rw [← wd_at m c e K j]
  unfold iblk
  refine (View.read_apply ..).trans ?_
  show V m c main_v5 _ = _
  refine congrArg (V m c main_v5) (funext fun a => Fin.ext ?_)
  match a with
  | ⟨0, _⟩ =>
    have h : cc0_transform_3 k0_off1_inb numel1_S1 (tbl m) (grid0.coords t) 0 = e.val := slab_index m hO t i hi e he
    show cc0_transform_3 k0_off1_inb numel1_S1 (tbl m) (grid0.coords t) 0 * 1 + 1 * (0 : Fin 1).val = e.val
    exact Eq.trans (congrArg (fun z => z * 1 + 1 * (0 : Fin 1).val) h) (by show e.val * 1 + 1 * 0 = e.val; omega)
  | ⟨1, _⟩ => exact Eq.trans (congrArg (fun z => z * 1792 + 1 * k.val) (half_index t)) (by show t.val % 2 * 1792 + 1 * k.val = K.val; omega)
  | ⟨2, _⟩ => show 0 * 1024 + 1 * j.val = j.val; omega

end Blocks

end Cert.KernelIdeal.Tile

end
-- ==== Proof.TileValue.lean ====
/- The expert call's result array: `Cert.Experts.result` of its arguments. -/
module

public import proofs.«01_k».proof.Proof.TileCases
public import proofs.«01_k».proof.Proof.TilePay
public import proofs.«01_k».proof.Proof.TileBlocks

@[expose] public section

set_option maxRecDepth 16384

noncomputable section

namespace Cert.KernelIdeal.Tile

open Idealize.ShloMosaic hiding ix1 ix2 ix3 ix4
open Idealize.ShloMosaic.ValueIdx Idealize.ShloMosaic.TcCoe Idealize.SL.Sem Cert.KernelIdeal Cert.KernelIdeal.Gen Cert.Experts
open Idealize.ShloMosaic.Pipeline (Dat)
open scoped BigOperators

/-- A sum over the hidden width is the sum over its two halves. -/
theorem sum_halves (f : Fin 3584 → EReal) :
    ∑ k : Fin 3584, f k = (∑ k : Fin 1792, f ⟨k.val, by omega⟩) + ∑ k : Fin 1792, f ⟨1792 + k.val, by omega⟩ :=
  Fin.sum_univ_add (a := 1792) (b := 1792) f

variable (m : (ℓ : Loc nD τ sig) → Buf (Elt Ideal) ℓ) (hO : Ok m) (c : Dev nD)

/-- The body's test of a point: its tile is active. -/
theorem active_iff (t : Fin grid0.N) (hn : (na m (ix1 0)).toNat ≤ 139) :
    cond0_1 (grid0.coords t) (tbM0_1.view.readAt (Elt Ideal) (Rect.unit (s := S1) ![0] S1.size inb_S1_S1_0).toLoadRect (tbl m 1) (Shape.Idx.first (numel1_S1.symm ▸ Nat.one_pos)))
      ↔ t.val / 2 < (na m (ix1 0)).toNat := by
  have e : (tbM0_1.view.readAt (Elt Ideal) (Rect.unit (s := S1) ![0] S1.size inb_S1_S1_0).toLoadRect (tbl m 1) (Shape.Idx.first (numel1_S1.symm ▸ Nat.one_pos)) : BitVec 32)
      = na m (ix1 0) := (active_word (tbl m 1 : IVec S1 32) _).trans (congrFun (Tables.tbl_one m) _)
  have ht : t.val < 278 := Nat.lt_of_lt_of_eq t.isLt N_0
  have hi : (BitVec.ofNat 32 (grid0.coords t 0).val).toNat = t.val / 2 := by
    rw [tile_coord t, BitVec.toNat_ofNat]; exact Nat.mod_eq_of_lt (by omega)
  unfold cond0_1
  rw [e]
  show Scalar.cmpi .ne (Scalar.extui (IntOp.cmpi .slt _ _)) 0#32 = 1#1 ↔ _
  rw [Scalar.guard_iff, IntOp.cmpi_slt, BitVec.toInt_eq_toNat_of_lt (by rw [hi]; omega), BitVec.toInt_eq_toNat_of_lt (by omega), hi]
  omega

/-- The point before. -/
abbrev prev (t : Fin (cfgM m hO).N) : Fin (cfgM m hO).N := ⟨t.val - 1, Nat.lt_of_le_of_lt (Nat.sub_le _ _) t.isLt⟩

/-- The four blocks of a point, at their printed types. -/
def bx (t : Fin (cfgM m hO).N) : Vec Ideal S512x1024 .f32 := iblk m hO c 0 t
def bg (t : Fin (cfgM m hO).N) : Vec Ideal S1x1024x1792 .bf16 := iblk m hO c 1 t
def bu (t : Fin (cfgM m hO).N) : Vec Ideal S1x1024x1792 .bf16 := iblk m hO c 2 t
def bd (t : Fin (cfgM m hO).N) : Vec Ideal S1x1792x1024 .bf16 := iblk m hO c 3 t

set_option maxHeartbeats 4000000 in
/-- The second point of an active tile leaves both halves' sum, -/
theorem outs_active (t : Fin (cfgM m hO).N) (h : t.val % 2 = 1) (hn : (na m (ix1 0)).toNat ≤ 139) (ha : t.val / 2 < (na m (ix1 0)).toNat) :
    (outsAt0 m hO c t.val t.isLt).1
      = k0_pay3 (k0_pay1 (bx m hO c (prev m hO t))) (bg m hO c t) (bu m hO c t)
          (k0_pay3 (k0_pay1 (bx m hO c (prev m hO t))) (bg m hO c (prev m hO t)) (bu m hO c (prev m hO t)) (k0_pay2 (F := Ideal)) (bd m hO c (prev m hO t)))
          (bd m hO c t) := by
  have hp : (prev m hO t).val % 2 = 0 := by show (t.val - 1) % 2 = 0; omega
  have hpa : (prev m hO t).val / 2 < (na m (ix1 0)).toNat := by show (t.val - 1) / 2 < _; omega
  have e := outsAt0_A m hO c (prev m hO t) hp ((active_iff m (prev m hO t) hn).mpr hpa) (by omega)
  have e1 : (outsAt0 m hO c (prev m hO t).val (prev m hO t).isLt).2.1 = k0_pay1 (bx m hO c (prev m hO t)) :=
    by have e' := congrArg (fun z => z.2.1) e; dsimp only at e'; exact e'.trans (xb_A (F := Ideal) ..)
  have e2 : (outsAt0 m hO c (prev m hO t).val (prev m hO t).isLt).2.2
      = k0_pay3 (k0_pay1 (bx m hO c (prev m hO t))) (bg m hO c (prev m hO t)) (bu m hO c (prev m hO t)) (k0_pay2 (F := Ideal)) (bd m hO c (prev m hO t)) :=
    by have e' := congrArg (fun z => z.2.2) e; dsimp only at e'; exact e'.trans (acc_A (F := Ideal) ..)
  have f := congrArg (fun z => z.1) (outsAt0_C m hO c t (by omega) ((active_iff m t hn).mpr ha) h)
  dsimp only at f
  refine f.trans ((out_C (F := Ideal) ..).trans ?_)
  show k0_pay3 (outsAt0 m hO c (prev m hO t).val (prev m hO t).isLt).2.1 (bg m hO c t) (bu m hO c t) (outsAt0 m hO c (prev m hO t).val (prev m hO t).isLt).2.2 (bd m hO c t) = _
  rw [e1, e2]

set_option maxHeartbeats 4000000 in
/-- and that of an inactive tile leaves zeros. -/
theorem outs_inactive (t : Fin (cfgM m hO).N) (h : t.val % 2 = 1) (hn : (na m (ix1 0)).toNat ≤ 139) (ha : ¬t.val / 2 < (na m (ix1 0)).toNat) :
    (outsAt0 m hO c t.val t.isLt).1 = k0_pay2 (F := Ideal) := by
  have hp : (prev m hO t).val % 2 = 0 := by show (t.val - 1) % 2 = 0; omega
  have hpa : ¬(prev m hO t).val / 2 < (na m (ix1 0)).toNat := by show ¬(t.val - 1) / 2 < _; omega
  have e := outsAt0_B m hO c (prev m hO t) hp (fun h => hpa ((active_iff m (prev m hO t) hn).mp h)) (by omega)
  have f := congrArg (fun z => z.1) (outsAt0_D m hO c t (by omega) (fun h => ha ((active_iff m t hn).mp h)) h)
  have e' := congrArg (fun z => z.2.2) e
  dsimp only at f e'
  exact f.trans ((out_D (F := Ideal) ..).trans (e'.trans (acc_B (F := Ideal) ..)))

/-- The call's result over its own arguments. -/
abbrev G : Vec Ideal S71168x1024 .f32 :=
  result (te m) (na m) (m ((c.tc : Thread nD τ).loc main_arg2)) (m ((c.tc : Thread nD τ).loc main_arg3)) (m ((c.tc : Thread nD τ).loc main_arg4)) (m ((c.tc : Thread nD τ).loc main_arg5))

/-- What a tile's second point leaves is the result's rows of that tile. -/
theorem outs_eq (h8 : ∀ i, (te m i).toNat < 8) (hn : 1 ≤ (na m (ix1 0)).toNat ∧ (na m (ix1 0)).toNat ≤ 139) (t : Fin (cfgM m hO).N)
    (h : t.val % 2 = 1) (r : Fin 512) (j : Fin 1024) (R : Fin 71168) (hR : R.val = t.val / 2 * 512 + r.val) :
    ((outsAt0 m hO c t.val t.isLt).1 (ix2 r j) : EReal) = G m c (ix2 R j) := by
  have hq : R.val / 512 = t.val / 2 := by have := r.isLt; omega
  have hp2 : (prev m hO t).val / 2 = t.val / 2 := by show (t.val - 1) / 2 = _; omega
  have hpm : (prev m hO t).val % 2 = 0 := by show (t.val - 1) % 2 = _; omega
  have ht : t.val < 278 := Nat.lt_of_lt_of_eq t.isLt N_0
  show _ = (if R.val / 512 < (na m (ix1 0)).toNat then expertRow _ _ _ _ (expertOf (te m (ix1 (tileOf R)))) R j else 0 : EReal)
  by_cases ha : t.val / 2 < (na m (ix1 0)).toNat
  · rw [outs_active m hO c t h hn.2 ha, if_pos (by rw [hq]; exact ha), pay3_at, pay3_at, pay2_at, zero_add]
    have he : (te m (ix1 (tileOf R))).toNat = (expertOf (te m (ix1 (tileOf R)))).val := (Nat.mod_eq_of_lt (h8 _)).symm
    generalize expertOf (te m (ix1 (tileOf R))) = e at he ⊢
    unfold expertRow
    rw [sum_halves]
    have half : ∀ (s : Fin (cfgM m hO).N) (hs : s.val / 2 = t.val / 2) (k : Fin 1792) (K : Fin 3584) (hK : K.val = s.val % 2 * 1792 + k.val),
        ((∑ l : Fin 1024, (k0_pay1 (F := Ideal) (bx m hO c (prev m hO t)) (ix2 r l) : EReal) * bg m hO c s (ix3 0 l k))
            * Ideal.logistic (∑ l : Fin 1024, (k0_pay1 (F := Ideal) (bx m hO c (prev m hO t)) (ix2 r l) : EReal) * bg m hO c s (ix3 0 l k))
            * (∑ l : Fin 1024, (k0_pay1 (F := Ideal) (bx m hO c (prev m hO t)) (ix2 r l) : EReal) * bu m hO c s (ix3 0 l k)))
          * (bd m hO c s (ix3 0 k j) : EReal)
        = Experts.hidden (m ((c.tc : Thread nD τ).loc main_arg2)) (m ((c.tc : Thread nD τ).loc main_arg3)) (m ((c.tc : Thread nD τ).loc main_arg4)) e R K
            * ((m ((c.tc : Thread nD τ).loc main_arg5) : Vec Ideal S1x8x3584x1024 .f32) (ix4 0 e K j) : EReal) := by
      intro s hs k K hK
      have hx : ∀ l : Fin 1024, (k0_pay1 (F := Ideal) (bx m hO c (prev m hO t)) (ix2 r l) : EReal) = m ((c.tc : Thread nD τ).loc main_arg2) (ix2 R l) := fun l =>
        (pay1_at _ r l).trans (xs_block m hO c (prev m hO t) hn (by rw [hp2]; exact ha) r l R (by rw [hp2]; exact hR))
      have g : (∑ l : Fin 1024, (k0_pay1 (F := Ideal) (bx m hO c (prev m hO t)) (ix2 r l) : EReal) * bg m hO c s (ix3 0 l k))
          = project (m ((c.tc : Thread nD τ).loc main_arg2)) (m ((c.tc : Thread nD τ).loc main_arg3)) e R K :=
        Finset.sum_congr rfl fun l _ => congrArg₂ (· * ·) (hx l) (wg_block m hO c s (tileOf R) (by show R.val / 512 = _; omega) e he l k K hK)
      have u : (∑ l : Fin 1024, (k0_pay1 (F := Ideal) (bx m hO c (prev m hO t)) (ix2 r l) : EReal) * bu m hO c s (ix3 0 l k))
          = project (m ((c.tc : Thread nD τ).loc main_arg2)) (m ((c.tc : Thread nD τ).loc main_arg4)) e R K :=
        Finset.sum_congr rfl fun l _ => congrArg₂ (· * ·) (hx l) (wu_block m hO c s (tileOf R) (by show R.val / 512 = _; omega) e he l k K hK)
      rw [g, u]
      exact congrArg (fun z : EReal => _ * z) (wd_block m hO c s (tileOf R) (by show R.val / 512 = _; omega) e he k j K hK)
    refine congrArg₂ (· + ·) ?_ ?_
    · exact Finset.sum_congr rfl fun k _ => half (prev m hO t) hp2 k ⟨k.val, by omega⟩ (by rw [hpm, Nat.zero_mul, Nat.zero_add])
    · exact Finset.sum_congr rfl fun k _ => half t rfl k ⟨1792 + k.val, by omega⟩ (by rw [h])
  · rw [outs_inactive m hO c t h hn.2 ha, if_neg (by rw [hq]; exact ha), pay2_at]

/-- A tile's write-back writes the result's rows of that tile. -/
theorem flushed_eq (h8 : ∀ i, (te m i).toNat < 8) (hn : 1 ≤ (na m (ix1 0)).toNat ∧ (na m (ix1 0)).toNat ≤ 139) (t : Fin (cfgM m hO).N)
    (hf : ((cfgM m hO).win 4).flush t = true) :
    (dats m hO 0 c).flushed 4 t = (((cfgM m hO).win 4).blk t).view.read (Elt Ideal) (G m c) := by
  have h : t.val % 2 = 1 := (flush0_4 (adm m hO) t).mp hf
  have ht : t.val < 278 := Nat.lt_of_lt_of_eq t.isLt N_0
  have hi : (BitVec.ofNat 32 (grid0.coords t 0).val).toNat = t.val / 2 := by
    rw [tile_coord t, BitVec.toNat_ofNat]; exact Nat.mod_eq_of_lt (by omega)
  have hi' : cc0_transform_4 (grid0.coords t) 0 = t.val / 2 := hi
  show ((cfgM m hO).win 4).cut (grid0.coords t) ((dats m hO 0 c).after 4 t) = _
  rw [after0_4]
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (outs_eq m hO c h8 hn t h r j ⟨t.val / 2 * 512 + r.val, by omega⟩ rfl).trans ?_
  refine Eq.trans ?_ (View.read_apply ..).symm
  refine congrArg (G m c) (funext fun a => Fin.ext ?_)
  match a with
  | ⟨0, _⟩ =>
    show t.val / 2 * 512 + r.val = cc0_transform_4 (grid0.coords t) 0 * 512 + 1 * r.val
    rw [hi']; omega
  | ⟨1, _⟩ => show j.val = 0 * 1024 + 1 * j.val; omega

/-- Every element of the result array lies in some tile's write-back. -/
theorem covered (i : S71168x1024.Idx) : ∃ t : Fin (cfgM m hO).N, ((cfgM m hO).win 4).flush t = true ∧ i ∈ (((cfgM m hO).win 4).blk t).view.set := by
  have h0 : (i 0 : Nat) < 71168 := (i 0).isLt
  have h1 : (i 1 : Nat) < 1024 := (i 1).isLt
  have hN : (cfgM m hO).N = 278 := N_0
  let t : Fin (cfgM m hO).N := ⟨2 * ((i 0 : Nat) / 512) + 1, by rw [hN]; omega⟩
  have hi : (BitVec.ofNat 32 (grid0.coords t 0).val).toNat = t.val / 2 := by
    rw [tile_coord t, BitVec.toNat_ofNat]; exact Nat.mod_eq_of_lt (by show (2 * ((i 0 : Nat) / 512) + 1) / 2 < _; omega)
  have hi' : cc0_transform_4 (grid0.coords t) 0 = (2 * ((i 0 : Nat) / 512) + 1) / 2 := hi
  refine ⟨t, (flush0_4 (adm m hO) t).mpr (by show (2 * ((i 0 : Nat) / 512) + 1) % 2 = 1; omega), ?_⟩
  refine (iff_of_eq (congrArg (fun s => i ∈ s) (View.set_slice_whole main_v6 (((cfgM m hO).win 4).rect t)))).mpr ?_
  refine (Rect.mem_set_unit ..).mpr ?_
  intro a
  match a with
  | ⟨0, _⟩ =>
    show cc0_transform_4 (grid0.coords t) 0 * 512 ≤ (i 0 : Nat) ∧ (i 0 : Nat) < cc0_transform_4 (grid0.coords t) 0 * 512 + 512
    rw [hi']; omega
  | ⟨1, _⟩ => show 0 * 1024 ≤ (i 1 : Nat) ∧ (i 1 : Nat) < 0 * 1024 + 1024; omega

/-- So the result array ends at the result. -/
theorem final (h8 : ∀ i, (te m i).toNat < 8) (hn : 1 ≤ (na m (ix1 0)).toNat ∧ (na m (ix1 0)).toNat ≤ 139) :
    (dats m hO 0 c).arrAt 4 (cfgM m hO).N = G m c :=
  (dats m hO 0 c).arrAt_eq_of_cover 4 (G m c) (flushed_eq m hO c h8 hn) (covered m hO)

include hO in
/-- The run: the result array at the result. -/
theorem run (ρ : Dev nD → PrngReg) (h8 : ∀ i, (te m i).toNat < 8) (hn : 1 ≤ (na m (ix1 0)).toNat ∧ (na m (ix1 0)).toNat ≤ 139) :
    θ_run defs (onTc (τ := τ) (main (F := Ideal))) ⟨m, fun _ => 0, ρ⟩ fun r => ∀ c : Dev nD,
      r.2.mem ((c.tc : Thread nD τ).loc main_v6) = G m c :=
  (θ_run defs _ _).mono (fun _ h c => ((h c).1 4).trans (final m hO c h8 hn)) (run_main m ρ hO)

end Cert.KernelIdeal.Tile

end
-- ==== Proof.RefValue.lean ====
/- The reference, read: its result is `Cert.Experts.result` of its arguments, for tables in range. -/
module

public import proofs.«01_k».proof.Proof.Spec
public import proofs.«01_k».proof.Proof.Gen.ReferenceIdeal.Read
public import Idealize.ShloMosaic.Lib.Affine
public import Idealize.ShloMosaic.Lib.IdealHost

@[expose] public section

set_option maxRecDepth 16384

noncomputable section

namespace Cert.ReferenceIdeal.Experts

open Cert.ReferenceIdeal Cert.ReferenceIdeal.Gen Cert.ReferenceIdeal.Read Idealize.ShloMosaic Idealize.ShloMosaic.ValueIdx Cert.Experts
open scoped BigOperators

/-- The stacked weights with their leading axis of one dropped. -/
theorem gate_at (x3 : Vec Ideal S1x8x1024x3584 .f32) (e : Fin 8) (j : Fin 1024) (k : Fin 3584) :
    val_main_v0 (F := Ideal) x3 (ix3 e j k) = x3 (ix4 0 e j k) := by
  rw [val_main_v0_apply]
  congr 1
  funext a
  apply Fin.ext
  match a with
  | ⟨0, _⟩ => rfl
  | ⟨1, _⟩ => show ((e.val * 1024 + j.val) * 3584 + k.val) / 3670016 % 8 = e.val; omega
  | ⟨2, _⟩ => show ((e.val * 1024 + j.val) * 3584 + k.val) / 3584 % 1024 = j.val; omega
  | ⟨3, _⟩ => show ((e.val * 1024 + j.val) * 3584 + k.val) % 3584 = k.val; omega

theorem up_at (x4 : Vec Ideal S1x8x1024x3584 .f32) (e : Fin 8) (j : Fin 1024) (k : Fin 3584) :
    val_main_v1 (F := Ideal) x4 (ix3 e j k) = x4 (ix4 0 e j k) := gate_at x4 e j k

theorem down_at (x5 : Vec Ideal S1x8x3584x1024 .f32) (e : Fin 8) (k : Fin 3584) (c : Fin 1024) :
    val_main_v2 (F := Ideal) x5 (ix3 e k c) = x5 (ix4 0 e k c) := by
  rw [val_main_v2_apply]
  congr 1
  funext a
  apply Fin.ext
  match a with
  | ⟨0, _⟩ => rfl
  | ⟨1, _⟩ => show ((e.val * 3584 + k.val) * 1024 + c.val) / 3670016 % 8 = e.val; omega
  | ⟨2, _⟩ => show ((e.val * 3584 + k.val) * 1024 + c.val) / 1024 % 3584 = k.val; omega
  | ⟨3, _⟩ => show ((e.val * 3584 + k.val) * 1024 + c.val) % 1024 = c.val; omega

/-- The gate product. -/
theorem v14_at (x2 : Vec Ideal S71168x1024 .f32) (x3 : Vec Ideal S1x8x1024x3584 .f32) (r : Fin 71168) (e : Fin 8) (k : Fin 3584) :
    val_main_v14 (F := Ideal) x2 x3 (ix3 r e k) = project x2 x3 e r k := by
  rw [val_main_v14_apply]
  refine Finset.sum_congr rfl fun j _ => ?_
  rw [show lidx_main_v14 (ix3 r e k) j = ix2 r j from funext fun a => match a with | ⟨0, _⟩ => rfl | ⟨1, _⟩ => rfl,
    show ridx_main_v14 (ix3 r e k) j = ix3 e j k from funext fun a => match a with | ⟨0, _⟩ => rfl | ⟨1, _⟩ => rfl | ⟨2, _⟩ => rfl,
    gate_at]

/-- The up product. -/
theorem v16_at (x2 : Vec Ideal S71168x1024 .f32) (x4 : Vec Ideal S1x8x1024x3584 .f32) (r : Fin 71168) (e : Fin 8) (k : Fin 3584) :
    val_main_v16 (F := Ideal) x2 x4 (ix3 r e k) = project x2 x4 e r k := by
  rw [val_main_v16_apply]
  refine Finset.sum_congr rfl fun j _ => ?_
  rw [show lidx_main_v16 (ix3 r e k) j = ix2 r j from funext fun a => match a with | ⟨0, _⟩ => rfl | ⟨1, _⟩ => rfl,
    show ridx_main_v16 (ix3 r e k) j = ix3 e j k from funext fun a => match a with | ⟨0, _⟩ => rfl | ⟨1, _⟩ => rfl | ⟨2, _⟩ => rfl,
    up_at]

/-- The gated hidden value: jax's silu is `g · 1/(1 + e⁻ᵍ)`. -/
theorem v17_at (x2 : Vec Ideal S71168x1024 .f32) (x3 x4 : Vec Ideal S1x8x1024x3584 .f32) (r : Fin 71168) (e : Fin 8) (k : Fin 3584) :
    val_main_v17 (F := Ideal) x2 x3 x4 (ix3 r e k) = hidden x2 x3 x4 e r k := by
  rw [val_main_v17_apply, val_main_v15_apply, val_main_call2_v5_apply, val_main_call2_v4_apply, val_main_call2_v3_apply,
    val_main_call2_v2_apply, val_main_call2_v1_apply, val_main_call2_v0_apply, v14_at, v16_at, val_main_call2_cst_apply,
    val_main_call2_cst_0_apply, Ideal.ofBits_def, Ideal.ofBits_one_f32]
  rfl

/-- Every expert's result for every row. -/
theorem v18_at (x2 : Vec Ideal S71168x1024 .f32) (x3 x4 : Vec Ideal S1x8x1024x3584 .f32) (x5 : Vec Ideal S1x8x3584x1024 .f32)
    (e : Fin 8) (r : Fin 71168) (c : Fin 1024) :
    val_main_v18 (F := Ideal) x2 x3 x4 x5 (ix3 e r c) = expertRow x2 x3 x4 x5 e r c := by
  rw [val_main_v18_apply]
  refine Finset.sum_congr rfl fun k _ => ?_
  rw [show lidx_main_v18 (ix3 e r c) k = ix3 r e k from funext fun a => match a with | ⟨0, _⟩ => rfl | ⟨1, _⟩ => rfl | ⟨2, _⟩ => rfl,
    show ridx_main_v18 (ix3 e r c) k = ix3 e k c from funext fun a => match a with | ⟨0, _⟩ => rfl | ⟨1, _⟩ => rfl | ⟨2, _⟩ => rfl,
    v17_at, down_at]

/-- Multiplying the number of active tiles by the tile's rows does not wrap. -/
theorem active_rows (r : Fin 71168) (n : BitVec 32) (hn : n.toNat ≤ 139) :
    IntOp.cmpi .slt (BitVec.ofNat 32 r.val) (IntOp.muli n 512#32) = 1#1 ↔ r.val / 512 < n.toNat := by
  have hr := r.isLt
  have e1 : (BitVec.ofNat 32 r.val).toNat = r.val := by rw [BitVec.toNat_ofNat]; exact Nat.mod_eq_of_lt (by omega)
  have e2 : (IntOp.muli n 512#32).toNat = n.toNat * 512 := by
    show (n * 512#32).toNat = _
    rw [BitVec.toNat_mul]; exact Nat.mod_eq_of_lt (by show n.toNat * 512 < 4294967296; omega)
  rw [IntOp.cmpi_slt, BitVec.toInt_eq_toNat_of_lt (by rw [e1]; omega), BitVec.toInt_eq_toNat_of_lt (by rw [e2]; omega), e1, e2]
  omega

/-- The table word of a row is an expert's number exactly when it is that number's word. -/
theorem expert_word (w : BitVec 32) (e : Fin 8) : IntOp.cmpi .eq w (BitVec.ofNat 32 e.val) = 1#1 ↔ w.toNat = e.val := by
  have he := e.isLt
  have e1 : (BitVec.ofNat 32 e.val).toNat = e.val := by rw [BitVec.toNat_ofNat]; exact Nat.mod_eq_of_lt (by omega)
  rw [IntOp.cmpi_eq, ← BitVec.toNat_inj, e1]

/-- The weight the reference gives an expert in a row: one for the tile's expert in an active tile, else zero. -/
theorem v13_at (x0 : IVec S139 32) (x1 : IVec S1 32) (hn : (x1 (ix1 0)).toNat ≤ 139) (r : Fin 71168) (e : Fin 8) :
    (val_main_v13 (F := Ideal) x0 x1 (ix2 r e) : EReal)
      = if r.val / 512 < (x1 (ix1 0)).toNat ∧ (x0 (ix1 (tileOf r))).toNat = e.val then 1 else 0 := by
  have ha : val_main_call1_v1 (F := Ideal) x1 (ix2 r e) = IntOp.cmpi .slt (BitVec.ofNat 32 r.val) (IntOp.muli (x1 (ix1 0)) 512#32) := by
    rw [val_main_call1_v1_apply, val_main_v11_apply, val_main_v10_apply, val_main_v6_apply, val_main_v9_apply, val_main_v8_apply,
      val_main_v7_apply, val_main_c_apply]
    rw [show idx_main_v9 (idx_main_v11 (idx_main_call1_v1 (ix2 r e))) = ix1 0 from funext fun a => match a with | ⟨0, _⟩ => rfl]
  have hb : val_main_call0_v4 (F := Ideal) x0 (ix2 r e) = IntOp.cmpi .eq (x0 (ix1 (tileOf r))) (BitVec.ofNat 32 e.val) := by
    rw [val_main_call0_v4_apply, val_main_call0_v2_apply, val_main_call0_v0_apply, val_main_v5_apply, val_main_v4_apply,
      val_main_v3_apply, val_main_call0_v3_apply, val_main_call0_v1_apply]
    rw [show idx_main_v3 (idx_main_v4 (idx_main_v5 (idx_main_call0_v0 (idx_main_call0_v2 (ix2 r e))))) = ix1 (tileOf r) from
      funext fun a => match a with | ⟨0, _⟩ => rfl]
  rw [val_main_v13_apply, val_main_v12_apply, ha, hb]
  by_cases p : r.val / 512 < (x1 (ix1 0)).toNat
  · rw [(active_rows r _ hn).mpr p]
    by_cases q : (x0 (ix1 (tileOf r))).toNat = e.val
    · rw [(expert_word _ e).mpr q, if_pos ⟨p, q⟩]
      show (((1#1 : BitVec 1).toNat : ℝ) : EReal) = 1
      simp
    · rw [(BitVec.eq_zero_or_eq_one _).resolve_right (fun h => q ((expert_word _ e).mp h)), if_neg (fun h => q h.2)]
      show (((0#1 : BitVec 1).toNat : ℝ) : EReal) = 0
      simp
  · rw [(BitVec.eq_zero_or_eq_one _).resolve_right (fun h => p ((active_rows r _ hn).mp h)), if_neg (fun h => p h.1)]
    show val_main_call1_v2 (F := Ideal) (ix2 r e) = (0 : EReal)
    rw [val_main_call1_v2_apply, val_main_call1_v0_apply, val_main_cst_apply, Ideal.ofBits_def, Ideal.ofBits_zero_f32]

/-- The reference's result: of the weighted sum over the experts one term is left. -/
theorem result_at (x0 : IVec S139 32) (x1 : IVec S1 32) (h0 : ∀ i, (x0 i).toNat < 8) (hn : (x1 (ix1 0)).toNat ≤ 139)
    (x2 : Vec Ideal S71168x1024 .f32) (x3 x4 : Vec Ideal S1x8x1024x3584 .f32) (x5 : Vec Ideal S1x8x3584x1024 .f32) :
    val_main_v23 (F := Ideal) x0 x1 x2 x3 x4 x5 = result x0 x1 x2 x3 x4 x5 := by
  funext i
  obtain ⟨r, c, rfl⟩ : ∃ (r : Fin 71168) (c : Fin 1024), i = ix2 r c := ⟨i 0, i 1, eq_ix2 i⟩
  rw [val_main_v23_apply, val_main_cst_0_apply, Ideal.ofBits_def, Ideal.ofBits_zero_f32]
  have term : ∀ e : Fin 8, val_main_v22 (F := Ideal) x0 x1 x2 x3 x4 x5 (idx_main_v23 (ix2 r c) e)
      = (if r.val / 512 < (x1 (ix1 0)).toNat ∧ (x0 (ix1 (tileOf r))).toNat = e.val then 1 else 0 : EReal) * expertRow x2 x3 x4 x5 e r c := by
    intro e
    rw [show idx_main_v23 (ix2 r c) e = ix3 e r c from funext fun a => match a with | ⟨0, _⟩ => rfl | ⟨1, _⟩ => rfl | ⟨2, _⟩ => rfl,
      val_main_v22_apply, v18_at, val_main_v21_apply, val_main_v20_apply, val_main_v19_apply,
      show idx_main_v19 (idx_main_v20 (idx_main_v21 (ix3 e r c))) = ix2 r e from funext fun a => match a with | ⟨0, _⟩ => rfl | ⟨1, _⟩ => rfl]
    exact congrArg (fun z : EReal => z * expertRow x2 x3 x4 x5 e r c) (v13_at x0 x1 hn r e)
  refine Eq.trans (congrArg (fun z : EReal => 0 + z) (Finset.sum_congr rfl fun e _ => term e)) ?_
  rw [zero_add]
  have hw := h0 (ix1 (tileOf r))
  show _ = (if r.val / 512 < (x1 (ix1 0)).toNat then expertRow x2 x3 x4 x5 (expertOf (x0 (ix1 (tileOf r)))) r c else 0 : EReal)
  by_cases p : r.val / 512 < (x1 (ix1 0)).toNat
  · rw [if_pos p, Finset.sum_eq_single (expertOf (x0 (ix1 (tileOf r))))]
    · rw [if_pos ⟨p, (Nat.mod_eq_of_lt hw).symm⟩, one_mul]
    · intro e _ hne
      rw [if_neg (fun h => hne (Fin.ext (h.2.symm.trans (Nat.mod_eq_of_lt hw).symm))), zero_mul]
    · intro h; exact absurd (Finset.mem_univ _) h
  · rw [if_neg p]
    exact Finset.sum_eq_zero fun e _ => by rw [if_neg (fun h => p h.1), zero_mul]

end Cert.ReferenceIdeal.Experts

end
-- ==== Proof.NormSpec.lean ====
/- Root-mean-square normalisation of a row, over the extended reals. -/
module

public import Idealize.ShloMosaic.Lib.ValueIdx
public import Idealize.ShloMosaic.PureOps.Ideal.Laws
public import Idealize.ShloMosaic.Lib.Tactic

@[expose] public section

noncomputable section

namespace Cert.Norm

open Idealize.ShloMosaic Idealize.ShloMosaic.ValueIdx
open scoped BigOperators

/-- The row's mean of squares plus the small constant, under the inverse square root. -/
def invRms (x : Fin 1024 → EReal) : EReal :=
  FloatOps.rsqrt (F := Ideal) (φ := .f32) (FloatOps.addf (F := Ideal) (φ := .f32)
    (FloatOps.divf (F := Ideal) (φ := .f32) (∑ k : Fin 1024, x k * x k) (FloatOps.ofBits (F := Ideal) .f32 0x44800000#32))
    (FloatOps.ofBits (F := Ideal) .f32 0x358637BD#32))

/-- One entry of the normalised row. -/
def norm (x g : Fin 1024 → EReal) (j : Fin 1024) : EReal := x j * invRms x * g j

end Cert.Norm

end
-- ==== Proof.FfnSpec.lean ====
/- The feed-forward call's result, over the extended reals: a gated network of a row's normalised entries, added to the row. -/
module

public import proofs.«01_k».proof.Proof.NormSpec
public import Idealize.ShloMosaic.Lib.IdealHost

@[expose] public section

noncomputable section

namespace Cert.Ffn.Spec

open Idealize.ShloMosaic
open Idealize.ShloMosaic.ValueIdx Cert.Norm
open scoped BigOperators

/-- A normalised row against one column of a weight matrix. -/
def project (h : Fin 1024 → EReal) (g : Fin 1024 → EReal) (w : Fin 1024 → EReal) : EReal := ∑ j : Fin 1024, norm h g j * w j

/-- One hidden unit: the gate under its own logistic, times the linear part. -/
def unit (h g wg wu : Fin 1024 → EReal) : EReal := project h g wg * Ideal.logistic (project h g wg) * project h g wu

/-- One entry of the result. -/
def entry (h g : Fin 1024 → EReal) (wg wu : Fin 1024 → Fin 2816 → EReal) (wd : Fin 2816 → EReal) (c : Fin 1024) : EReal :=
  h c + ∑ k : Fin 2816, unit h g (fun j => wg j k) (fun j => wu j k) * wd k

/-- A sum over the hidden width is the sum over its two halves. -/
theorem sum_halves (f : Fin 2816 → EReal) :
    ∑ k : Fin 2816, f k = (∑ k : Fin 1408, f ⟨k.val, by omega⟩) + ∑ k : Fin 1408, f ⟨1408 + k.val, by omega⟩ :=
  Fin.sum_univ_add (a := 1408) (b := 1408) f

/-- The result, of the call's arguments. -/
def result (h : FVec Ideal ⟨2, ![33792, 1024]⟩ .f32) (g : FVec Ideal ⟨2, ![2, 1024]⟩ .f32) (wg wu : FVec Ideal ⟨3, ![1, 1024, 2816]⟩ .f32)
    (wd : FVec Ideal ⟨3, ![1, 2816, 1024]⟩ .f32) : FVec Ideal ⟨2, ![33792, 1024]⟩ .f32 :=
  fun i => entry (fun k => h (ix2 (i 0) k)) (fun k => g (ix2 0 k)) (fun j k => wg (ix3 0 j k)) (fun j k => wu (ix3 0 j k)) (fun k => wd (ix3 0 k (i 1))) (i 1)

end Cert.Ffn.Spec

end
-- ==== Proof.FfnPay.lean ====
/- The arithmetic of one row tile of the feed-forward call, over the extended reals and at one element. -/
module

public import proofs.«01_k».proof.Proof.NormSpec
public import proofs.«01_k».proof.Proof.Gen.FfnIdeal.Skeleton
public import Idealize.ShloMosaic.Lib.Pointwise

@[expose] public section

set_option maxRecDepth 16384

noncomputable section

namespace Cert.FfnIdeal.Tile

open Idealize.ShloMosaic hiding ix1 ix2 ix3 ix4
open Idealize.ShloMosaic.ValueIdx Cert.FfnIdeal Cert.FfnIdeal.Gen Cert.Norm
open scoped BigOperators

/-- The normalised row. -/
theorem pay2_at (x : Vec Ideal S512x1024 .f32) (g : Vec Ideal S1x1024 .f32) (r : Fin 512) (j : Fin 1024) :
    (k0_pay2 (F := Ideal) x g (ix2 r j) : EReal) = norm (fun k => x (ix2 r k)) (fun k => g (ix2 0 k)) j := by
  pointwise [k0_pay2]
  rfl

theorem pay3_at (x : Vec Ideal S512x1024 .f32) (g : Vec Ideal S1x1024 .f32) (wg wu : Vec Ideal S1024x1408 .bf16)
    (wd : Vec Ideal S1408x1024 .bf16) (r : Fin 512) (c : Fin 1024) :
    (k0_pay3 (F := Ideal) x g wg wu wd (ix2 r c) : EReal) = x (ix2 r c)
      + ∑ k : Fin 1408, ((∑ j : Fin 1024, (k0_pay2 (F := Ideal) x g (ix2 r j) : EReal) * wg (ix2 j k))
          * Ideal.logistic (∑ j : Fin 1024, (k0_pay2 (F := Ideal) x g (ix2 r j) : EReal) * wg (ix2 j k))
          * (∑ j : Fin 1024, (k0_pay2 (F := Ideal) x g (ix2 r j) : EReal) * wu (ix2 j k))) * (wd (ix2 k c) : EReal) := by
  pointwise [k0_pay3]
  rfl

/-- The gate of the second half of the hidden width. -/
theorem pay4_at (x : Vec Ideal S512x1024 .f32) (g : Vec Ideal S1x1024 .f32) (wg : Vec Ideal S1024x1408 .bf16) (r : Fin 512) (k : Fin 1408) :
    (k0_pay4 (F := Ideal) x g wg (ix2 r k) : EReal)
      = (∑ j : Fin 1024, (k0_pay2 (F := Ideal) x g (ix2 r j) : EReal) * wg (ix2 j k))
          * Ideal.logistic (∑ j : Fin 1024, (k0_pay2 (F := Ideal) x g (ix2 r j) : EReal) * wg (ix2 j k)) := by
  pointwise [k0_pay4]
  rfl

/-- The second half's weights pass through unchanged. -/
theorem pay5_at (w : Vec Ideal S1024x1408 .bf16) (j : Fin 1024) (k : Fin 1408) :
    (k0_pay5 (F := Ideal) w (ix2 j k) : EReal) = w (ix2 j k) := by
  pointwise [k0_pay5]

/-- The stored row: what the first half left, plus the second half. -/
theorem pay1_at (n : Vec Ideal S512x1024 .bf16) (acc : Vec Ideal S512x1024 .f32) (a : Vec Ideal S512x1408 .f32) (wu : Vec Ideal S1024x1408 .bf16)
    (wd : Vec Ideal S1408x1024 .bf16) (r : Fin 512) (c : Fin 1024) :
    (k0_pay1 (F := Ideal) n acc a wu (constant S512x1408 .f32 0x00000000#32) wd (ix2 r c) : EReal) = acc (ix2 r c)
      + ∑ k : Fin 1408, ((a (ix2 r k) : EReal) * (∑ j : Fin 1024, (n (ix2 r j) : EReal) * wu (ix2 j k))) * (wd (ix2 k c) : EReal) := by
  pointwise [k0_pay1]
  rfl

end Cert.FfnIdeal.Tile

end
-- ==== Proof.FfnValue.lean ====
/- The feed-forward call's result array: `Cert.Ffn.Spec.result` of its arguments. -/
module

public import proofs.«01_k».proof.Proof.FfnSpec
public import proofs.«01_k».proof.Proof.FfnPay
public import proofs.«01_k».proof.Proof.Gen.FfnIdeal.Value
public import Idealize.ShloMosaic.Lib.Pipeline.Value
public import Idealize.ShloMosaic.Lib.StableHlo.ReadAt
public import Idealize.ShloMosaic.Lib.Tactic

@[expose] public section

set_option maxRecDepth 16384

noncomputable section

namespace Cert.FfnIdeal.Tile

open Idealize.ShloMosaic hiding ix1 ix2 ix3 ix4
open Idealize.ShloMosaic.ValueIdx Idealize.ShloMosaic.TcCoe Idealize.SL.Sem Cert.FfnIdeal Cert.FfnIdeal.Gen Cert.FfnIdeal.Value Cert.Norm
open Idealize.ShloMosaic.Pipeline (Dat)
open scoped BigOperators

/-- What the body leaves of a row tile: the row, plus the gated network of it over the whole hidden width. -/
theorem out_at (x : Vec Ideal S512x1024 .f32) (g : Vec Ideal S1x1024 .f32) (wg wu : Vec Ideal S1024x2816 .bf16) (wd : Vec Ideal S2816x1024 .bf16)
    (gf : Vec Ideal S1x1024 .f32) (r : Fin 512) (c : Fin 1024) :
    (out0_6 (F := Ideal) x g wg wu wd gf (ix2 r c) : EReal)
      = Ffn.Spec.entry (fun k => x (ix2 r k)) (fun k => g (ix2 0 k)) (fun j k => wg (ix2 j k)) (fun j k => wu (ix2 j k)) (fun k => wd (ix2 k c)) c := by
  have hz2 : (![0, 0] : Fin 2 → Nat) = fun _ => 0 := by decide
  have e2 : ∀ (j : Fin 1024) (k : Fin 1408), r0_2.idx (ix2 j k) = (ix2 j ⟨k.val, by omega⟩ : S1024x2816.Idx) := fun j k =>
    funext fun a => Fin.ext (match a with
      | ⟨0, _⟩ => (by show 0 + 1 * j.val = j.val; omega)
      | ⟨1, _⟩ => (by show 0 + 1 * k.val = k.val; omega))
  have e4 : ∀ (j : Fin 1024) (k : Fin 1408), r0_4.idx (ix2 j k) = (ix2 j ⟨1408 + k.val, by omega⟩ : S1024x2816.Idx) := fun j k =>
    funext fun a => Fin.ext (match a with
      | ⟨0, _⟩ => (by show 0 + 1 * j.val = j.val; omega)
      | ⟨1, _⟩ => (by show 1408 + 1 * k.val = 1408 + k.val; omega))
  have e3 : ∀ (k : Fin 1408) (j : Fin 1024), r0_3.idx (ix2 k j) = (ix2 ⟨k.val, by omega⟩ j : S2816x1024.Idx) := fun k j =>
    funext fun a => Fin.ext (match a with
      | ⟨0, _⟩ => (by show 0 + 1 * k.val = k.val; omega)
      | ⟨1, _⟩ => (by show 0 + 1 * j.val = j.val; omega))
  have e5 : ∀ (k : Fin 1408) (j : Fin 1024), r0_5.idx (ix2 k j) = (ix2 ⟨1408 + k.val, by omega⟩ j : S2816x1024.Idx) := fun k j =>
    funext fun a => Fin.ext (match a with
      | ⟨0, _⟩ => (by show 1408 + 1 * k.val = 1408 + k.val; omega)
      | ⟨1, _⟩ => (by show 0 + 1 * j.val = j.val; omega))
  have l0 : View.ld (Val := Elt Ideal) x r0_0 = x := View.ld_unit_zero hz2 ..
  have l1 : View.ld (Val := Elt Ideal) g r0_1 = g := View.ld_unit_zero hz2 ..
  have p (n : Fin 1024) : (k0_pay2 (F := Ideal) x g (ix2 r n) : EReal) = norm (fun k => x (ix2 r k)) (fun k => g (ix2 0 k)) n := pay2_at x g r n
  unfold out0_6
  rw [View.canon_unit_zero hz2]
  rw [l0, l1, pay1_at, pay3_at]
  unfold Ffn.Spec.entry
  rw [Ffn.Spec.sum_halves, ← add_assoc]
  refine congrArg₂ (· + ·) (congrArg₂ (· + ·) rfl ?_) ?_
  · refine Finset.sum_congr rfl fun k _ => ?_
    simp only [p, View.ld, e2, e3]
    rfl
  · refine Finset.sum_congr rfl fun k _ => ?_
    simp only [pay4_at, pay5_at, p, View.ld, e4, e5]
    rfl

variable (m : (ℓ : Loc nD τ sig) → Buf (Elt Ideal) ℓ) (c : Dev nD)

/-! ## The operands as the call receives them -/

theorem g_at (j : Fin 1024) : (V m c main_v2 (ix2 0 j) : EReal) = m ((c.tc : Thread nD τ).loc main_arg1) (ix2 0 j) := by
  unfold V
  after_reads_at
  rfl

theorem wg_at (j : Fin 1024) (k : Fin 2816) : (V m c main_v4 (ix2 j k) : EReal) = m ((c.tc : Thread nD τ).loc main_arg2) (ix3 0 j k) := by
  unfold V
  after_reads_at
  rfl

theorem wu_at (j : Fin 1024) (k : Fin 2816) : (V m c main_v6 (ix2 j k) : EReal) = m ((c.tc : Thread nD τ).loc main_arg3) (ix3 0 j k) := by
  unfold V
  after_reads_at
  rfl

theorem wd_at (k : Fin 2816) (j : Fin 1024) : (V m c main_v8 (ix2 k j) : EReal) = m ((c.tc : Thread nD τ).loc main_arg4) (ix3 0 k j) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 0 j) := by
  rw [← g_at m c j]
  unfold iblk
  refine (View.read_apply ..).trans ?_
  show V m c main_v2 _ = _
  refine congrArg (V m c main_v2) (funext fun a => Fin.ext ?_)
  match a with
  | ⟨0, _⟩ => rfl
  | ⟨1, _⟩ => show 0 * 1024 + 1 * j.val = j.val; omega

theorem wg_block (j : Fin 1024) (k : Fin 2816) :
    ((iblk m c 2 t : Vec Ideal S1024x2816 .bf16) (ix2 j k) : EReal) = m ((c.tc : Thread nD τ).loc main_arg2) (ix3 0 j k) := by
  rw [← wg_at m c j k]
  unfold iblk
  refine (View.read_apply ..).trans ?_
  show V m c main_v4 _ = _
  refine congrArg (V m c main_v4) (funext fun a => Fin.ext ?_)
  match a with
  | ⟨0, _⟩ => show 0 * 1024 + 1 * j.val = j.val; omega
  | ⟨1, _⟩ => show 0 * 2816 + 1 * k.val = k.val; omega

theorem wu_block (j : Fin 1024) (k : Fin 2816) :
    ((iblk m c 3 t : Vec Ideal S1024x2816 .bf16) (ix2 j k) : EReal) = m ((c.tc : Thread nD τ).loc main_arg3) (ix3 0 j k) := by
  rw [← wu_at m c j k]
  unfold iblk
  refine (View.read_apply ..).trans ?_
  show V m c main_v6 _ = _
  refine congrArg (V m c main_v6) (funext fun a => Fin.ext ?_)
  match a with
  | ⟨0, _⟩ => show 0 * 1024 + 1 * j.val = j.val; omega
  | ⟨1, _⟩ => show 0 * 2816 + 1 * k.val = k.val; omega

theorem wd_block (k : Fin 2816) (j : Fin 1024) :
    ((iblk m c 4 t : Vec Ideal S2816x1024 .bf16) (ix2 k j) : EReal) = m ((c.tc : Thread nD τ).loc main_arg4) (ix3 0 k j) := by
  rw [← wd_at m c k j]
  unfold iblk
  refine (View.read_apply ..).trans ?_
  show V m c main_v8 _ = _
  refine congrArg (V m c main_v8) (funext fun a => Fin.ext ?_)
  match a with
  | ⟨0, _⟩ => show 0 * 2816 + 1 * k.val = k.val; omega
  | ⟨1, _⟩ => show 0 * 1024 + 1 * j.val = j.val; omega

/-! ## The result array -/

/-- The call's result over its own arguments. -/
abbrev G : Vec Ideal S33792x1024 .f32 :=
  Ffn.Spec.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- A tile's rows of the result. -/
theorem out_eq (r : Fin 512) (j : Fin 1024) (R : Fin 33792) (hR : R.val = t.val * 512 + r.val) :
    (out0_6 (F := Ideal) (iblk m c 0 t) (iblk m c 1 t) (iblk m c 2 t) (iblk m c 3 t) (iblk m c 4 t) (iblk m c 5 t) (ix2 r j) : EReal) = G m c (ix2 R j) := by
  refine (out_at ..).trans ?_
  have h0 := funext fun k => h_block m c t r k R hR
  have h1 := funext fun k => g_block m c t k
  have h2 := funext fun a => funext fun b => wg_block m c t a b
  have h3 := funext fun a => funext fun b => wu_block m c t a b
  have h4 := funext fun k => wd_block m c t k j
  rw [h0, h1, h2, h3, h4]
  rfl

/-- A tile's write-back writes the result's rows of that tile. -/
theorem flushed_eq (hf : (cfg0.win 6).flush t = true) :
    (dats m 0 c).flushed 6 t = ((cfg0.win 6).blk t).view.read (Elt Ideal) (G m c) := by
  have ht : t.val < 66 := Nat.lt_of_lt_of_eq t.isLt N_0
  refine (flushed6 m c t).trans ?_
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (out_eq m c t r j ⟨t.val * 512 + r.val, by omega⟩ rfl).trans ?_
  refine Eq.trans ?_ (View.read_apply ..).symm
  refine congrArg (G m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the result array lies in some tile's write-back. -/
theorem covered (i : S33792x1024.Idx) : ∃ t : Fin cfg0.N, (cfg0.win 6).flush t = true ∧ i ∈ ((cfg0.win 6).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_6 (grid0.coords t) 0 = (i 0 : Nat) / 512 := tile_index t
  refine ⟨t, flush0_6 t, ?_⟩
  refine (iff_of_eq (congrArg (fun s => i ∈ s) (View.set_slice_whole main_v10 ((cfg0.win 6).rect t)))).mpr ?_
  refine (Rect.mem_set_unit ..).mpr ?_
  intro a
  match a with
  | ⟨0, _⟩ =>
    show cc0_transform_6 (grid0.coords t) 0 * 512 ≤ (i 0 : Nat) ∧ (i 0 : Nat) < cc0_transform_6 (grid0.coords t) 0 * 512 + 512
    rw [hi']; omega
  | ⟨1, _⟩ => show 0 * 1024 ≤ (i 1 : Nat) ∧ (i 1 : Nat) < 0 * 1024 + 1024; omega

/-- So the result array ends at the result. -/
theorem final : (dats m 0 c).arrAt 6 cfg0.N = G m c :=
  (dats m 0 c).arrAt_eq_of_cover 6 (G m c) (flushed_eq m c) covered

end Cert.FfnIdeal.Tile

end
-- ==== Proof.FfnRef.lean ====
/- The feed-forward reference, read: its result is `Cert.Ffn.Spec.result` of its arguments. -/
module

public import proofs.«01_k».proof.Proof.FfnSpec
public import proofs.«01_k».proof.Proof.Gen.FfnReferenceIdeal.Read
public import Idealize.ShloMosaic.Lib.IdealHost

@[expose] public section

set_option maxRecDepth 16384

noncomputable section

namespace Cert.FfnReferenceIdeal.Rows

open Cert.FfnReferenceIdeal Cert.FfnReferenceIdeal.Gen Cert.FfnReferenceIdeal.Read Idealize.ShloMosaic Idealize.ShloMosaic.ValueIdx Cert.Norm
open scoped BigOperators

variable (x0 : FVec Ideal S33792x1024 .f32) (x1 : FVec Ideal S2x1024 .f32) (x2 x3 : FVec Ideal S1x1024x2816 .f32) (x4 : FVec Ideal S1x2816x1024 .f32)

/-- A row of the rows, and the gain the reference multiplies by. -/
abbrev row (r : Fin 33792) : Fin 1024 → EReal := fun k => x0 (ix2 r k)
abbrev gain : Fin 1024 → EReal := fun k => x1 (ix2 0 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 0 j from funext fun a => Fin.ext (match a with
      | ⟨0, _⟩ => rfl
      | ⟨1, _⟩ => (by show j.val % 1024 = j.val; omega))]
  rfl

/-- The first weights with their leading axis dropped. -/
theorem v15_at (j : Fin 1024) (k : Fin 2816) : (val_main_v15 (F := Ideal) x2 (ix2 j k) : EReal) = x2 (ix3 0 j k) := by
  rw [val_main_v15_apply]
  refine congrArg x2 (funext fun a => Fin.ext ?_)
  match a with
  | ⟨0, _⟩ => rfl
  | ⟨1, _⟩ => show (j.val * 2816 + k.val) / 2816 % 1024 = j.val; omega
  | ⟨2, _⟩ => show (j.val * 2816 + k.val) % 2816 = k.val; omega

/-- The linear weights likewise. -/
theorem v16_at (j : Fin 1024) (k : Fin 2816) : (val_main_v16 (F := Ideal) x3 (ix2 j k) : EReal) = x3 (ix3 0 j k) := v15_at x3 j k

/-- The second weights likewise. -/
theorem v17_at (k : Fin 2816) (j : Fin 1024) : (val_main_v17 (F := Ideal) x4 (ix2 k j) : EReal) = x4 (ix3 0 k j) := by
  rw [val_main_v17_apply]
  refine congrArg x4 (funext fun a => Fin.ext ?_)
  match a with
  | ⟨0, _⟩ => rfl
  | ⟨1, _⟩ => show (k.val * 1024 + j.val) / 1024 % 2816 = k.val; omega
  | ⟨2, _⟩ => show (k.val * 1024 + j.val) % 1024 = j.val; omega

/-- The gate product. -/
theorem v18_at (r : Fin 33792) (k : Fin 2816) :
    (val_main_v18 (F := Ideal) x0 x1 x2 (ix2 r k) : EReal) = Ffn.Spec.project (row x0 r) (gain x1) fun j => x2 (ix3 0 j k) := by
  rw [val_main_v18_apply]
  refine Finset.sum_congr rfl fun j _ => ?_
  rw [show lidx_main_v18 (ix2 r k) j = ix2 r j from funext fun a => match a with | ⟨0, _⟩ => rfl | ⟨1, _⟩ => rfl,
    show ridx_main_v18 (ix2 r k) j = ix2 j k from funext fun a => match a with | ⟨0, _⟩ => rfl | ⟨1, _⟩ => rfl, v14_at, v15_at]

/-- The linear product. -/
theorem v20_at (r : Fin 33792) (k : Fin 2816) :
    (val_main_v20 (F := Ideal) x0 x1 x3 (ix2 r k) : EReal) = Ffn.Spec.project (row x0 r) (gain x1) fun j => x3 (ix3 0 j k) := by
  rw [val_main_v20_apply]
  refine Finset.sum_congr rfl fun j _ => ?_
  rw [show lidx_main_v20 (ix2 r k) j = ix2 r j from funext fun a => match a with | ⟨0, _⟩ => rfl | ⟨1, _⟩ => rfl,
    show ridx_main_v20 (ix2 r k) j = ix2 j k from funext fun a => match a with | ⟨0, _⟩ => rfl | ⟨1, _⟩ => rfl, v14_at, v16_at]

/-- The hidden units. -/
theorem v21_at (r : Fin 33792) (k : Fin 2816) :
    (val_main_v21 (F := Ideal) x0 x1 x2 x3 (ix2 r k) : EReal)
      = Ffn.Spec.unit (row x0 r) (gain x1) (fun j => x2 (ix3 0 j k)) fun j => x3 (ix3 0 j k) := by
  rw [val_main_v21_apply, val_main_v19_apply, val_main_call0_v5_apply, val_main_call0_v4_apply, val_main_call0_v3_apply,
    val_main_call0_v2_apply, val_main_call0_v1_apply, val_main_call0_v0_apply, v18_at, v20_at, val_main_call0_cst_apply,
    val_main_call0_cst_0_apply, Ideal.ofBits_def, Ideal.ofBits_one_f32]
  rfl

/-- The reference's result. -/
theorem result_eq : val_main_v23 (F := Ideal) x0 x1 x2 x3 x4 = Ffn.Spec.result x0 x1 x2 x3 x4 := by
  funext i
  obtain ⟨r, c, rfl⟩ : ∃ (r : Fin 33792) (c : Fin 1024), i = ix2 r c := ⟨i 0, i 1, ValueIdx.eq_ix2 i⟩
  rw [val_main_v23_apply, val_main_v22_apply]
  refine congrArg (fun z : EReal => (x0 (ix2 r c) : EReal) + z) (Finset.sum_congr rfl fun k _ => ?_)
  rw [show lidx_main_v22 (ix2 r c) k = ix2 r k from funext fun a => match a with | ⟨0, _⟩ => rfl | ⟨1, _⟩ => rfl,
    show ridx_main_v22 (ix2 r c) k = ix2 k c from funext fun a => match a with | ⟨0, _⟩ => rfl | ⟨1, _⟩ => rfl, v21_at, v17_at]

end Cert.FfnReferenceIdeal.Rows

end
-- ==== Proof.InprojSpec.lean ====
/- The input projection's results, over the extended reals: a row's normalised entries against columns of the weights. -/
module

public import proofs.«01_k».proof.Proof.NormSpec
public import Idealize.ShloMosaic.Lib.IdealHost

@[expose] public section

noncomputable section

namespace Cert.Inproj.Spec

open Idealize.ShloMosaic
open Idealize.ShloMosaic.ValueIdx Cert.Norm
open scoped BigOperators

/-- The attention scale. -/
def scale : EReal := FloatOps.ofBits (F := Ideal) .f32 0x3DB504F3#32

/-- The weight column behind a column of the attention projections: the second branch's lie four further on. -/
def col (c : Fin 3072) : Fin 7172 := ⟨if c.val < 1536 then c.val else c.val + 4, by split <;> omega⟩

/-- A normalised row against one weight column. -/
def proj (h : FVec Ideal ⟨2, ![33792, 1024]⟩ .f32) (g : FVec Ideal ⟨2, ![2, 1024]⟩ .f32) (w : FVec Ideal ⟨3, ![2, 1024, 7172]⟩ .f32)
    (r : Fin 33792) (n : Fin 7172) : EReal :=
  ∑ j : Fin 1024, norm (fun k => h (ix2 r k)) (fun k => g (ix2 0 k)) j * w (ix3 0 j n)

/-- The attention projections: each branch's queries, its first 512 columns, scaled. -/
def qkv (h : FVec Ideal ⟨2, ![33792, 1024]⟩ .f32) (g : FVec Ideal ⟨2, ![2, 1024]⟩ .f32) (w : FVec Ideal ⟨3, ![2, 1024, 7172]⟩ .f32) :
    FVec Ideal ⟨2, ![33792, 3072]⟩ .bf16 :=
  fun i => if (i 1).val % 1536 < 512 then proj h g w (i 0) (col (i 1)) * scale else proj h g w (i 0) (col (i 1))

/-- The recurrent unit's projection. -/
def lru (h : FVec Ideal ⟨2, ![33792, 1024]⟩ .f32) (g : FVec Ideal ⟨2, ![2, 1024]⟩ .f32) (w : FVec Ideal ⟨3, ![2, 1024, 7172]⟩ .f32) :
    FVec Ideal ⟨2, ![33792, 1024]⟩ .f32 :=
  fun i => proj h g w (i 0) ⟨3076 + (i 1).val, by have h : (i 1).val < 1024 := (i 1).isLt; omega⟩

/-- The forget gate's projection. -/
def gate (h : FVec Ideal ⟨2, ![33792, 1024]⟩ .f32) (g : FVec Ideal ⟨2, ![2, 1024]⟩ .f32) (w : FVec Ideal ⟨3, ![2, 1024, 7172]⟩ .f32) :
    FVec Ideal ⟨2, ![33792, 128]⟩ .f32 :=
  fun i => proj h g w (i 0) ⟨1536 + (i 1).val, by have h : (i 1).val < 128 := (i 1).isLt; omega⟩

end Cert.Inproj.Spec

end
-- ==== Proof.InprojPay.lean ====
/- The arithmetic of one row tile of the input projection, over the extended reals and at one element. -/
module

public import proofs.«01_k».proof.Proof.NormSpec
public import proofs.«01_k».proof.Proof.Gen.InprojIdeal.Skeleton
public import Idealize.ShloMosaic.Lib.Pointwise

@[expose] public section

set_option maxRecDepth 16384

noncomputable section

namespace Cert.InprojIdeal.Tile

open Idealize.ShloMosaic hiding ix1 ix2 ix3 ix4
open Idealize.ShloMosaic.ValueIdx Cert.InprojIdeal Cert.InprojIdeal.Gen Cert.Norm
open scoped BigOperators

/-- The factor the query columns are scaled by. -/
abbrev scale : EReal := FloatOps.ofBits (F := Ideal) .f32 0x3DB504F3#32

/-- The normalised row. -/
theorem pay12_at (x : Vec Ideal S512x1024 .f32) (g : Vec Ideal S1x1024 .f32) (r : Fin 512) (j : Fin 1024) :
    (k0_pay12 (F := Ideal) x g (ix2 r j) : EReal) = norm (fun k => x (ix2 r k)) (fun k => g (ix2 0 k)) j := by
  pointwise [k0_pay12]
  rfl

variable (n : FVec Ideal S512x1024 .bf16) (v : Vec Ideal S1024x512 .bf16) (r k : Fin 512)

/-- The query columns of the second branch: scaled; -/
theorem pay1_at : (k0_pay1 (F := Ideal) n v (ix2 r k) : EReal) = (∑ j : Fin 1024, (n (ix2 r j) : EReal) * v (ix2 j k)) * scale := by
  pointwise [k0_pay1]
  rfl

/-- its other columns: as they are; -/
theorem pay2_at : (k0_pay2 (F := Ideal) n v (ix2 r k) : EReal) = ∑ j : Fin 1024, (n (ix2 r j) : EReal) * v (ix2 j k) := by
  pointwise [k0_pay2]
  rfl

theorem pay3_at : (k0_pay3 (F := Ideal) n v (ix2 r k) : EReal) = ∑ j : Fin 1024, (n (ix2 r j) : EReal) * v (ix2 j k) := by
  pointwise [k0_pay3]
  rfl

variable (x : Vec Ideal S512x1024 .f32) (g : Vec Ideal S1x1024 .f32)

/-- and the same of the first branch. -/
theorem pay13_at : (k0_pay13 (F := Ideal) x g v (ix2 r k) : EReal) = (∑ j : Fin 1024, (k0_pay12 (F := Ideal) x g (ix2 r j) : EReal) * v (ix2 j k)) * scale := by
  pointwise [k0_pay13]
  rfl

theorem pay14_at : (k0_pay14 (F := Ideal) x g v (ix2 r k) : EReal) = ∑ j : Fin 1024, (k0_pay12 (F := Ideal) x g (ix2 r j) : EReal) * v (ix2 j k) := by
  pointwise [k0_pay14]
  rfl

theorem pay15_at : (k0_pay15 (F := Ideal) x g v (ix2 r k) : EReal) = ∑ j : Fin 1024, (k0_pay12 (F := Ideal) x g (ix2 r j) : EReal) * v (ix2 j k) := by
  pointwise [k0_pay15]
  rfl

/-- The recurrent unit's columns, -/
theorem pay4_at (w : Vec Ideal S1024x1024 .bf16) (c : Fin 1024) :
    (k0_pay4 (F := Ideal) n w (ix2 r c) : EReal) = ∑ j : Fin 1024, (n (ix2 r j) : EReal) * w (ix2 j c) := by
  pointwise [k0_pay4]
  rfl

/-- and the forget gate's. -/
theorem pay5_at (w : Vec Ideal S1024x128 .bf16) (c : Fin 128) :
    (k0_pay5 (F := Ideal) n w (ix2 r c) : EReal) = ∑ j : Fin 1024, (n (ix2 r j) : EReal) * w (ix2 j c) := by
  pointwise [k0_pay5]
  rfl

/-! The weights are kept as they are read, their leading axis dropped. -/

theorem pay6_at (w : Vec Ideal S1x1024x1536 .f32) (j : Fin 1024) (c : Fin 1536) : (k0_pay6 (F := Ideal) w (ix2 j c) : EReal) = w (ix3 0 j c) := by
  pointwise [k0_pay6]
  rfl

theorem pay7_at (w : Vec Ideal S1x1024x512 .f32) (j : Fin 1024) (c : Fin 512) : (k0_pay7 (F := Ideal) w (ix2 j c) : EReal) = w (ix3 0 j c) := by
  pointwise [k0_pay7]
  rfl

theorem pay8_at (w : Vec Ideal S1x1024x512 .f32) (j : Fin 1024) (c : Fin 512) : (k0_pay8 (F := Ideal) w (ix2 j c) : EReal) = w (ix3 0 j c) := by
  pointwise [k0_pay8]
  rfl

theorem pay9_at (w : Vec Ideal S1x1024x512 .f32) (j : Fin 1024) (c : Fin 512) : (k0_pay9 (F := Ideal) w (ix2 j c) : EReal) = w (ix3 0 j c) := by
  pointwise [k0_pay9]
  rfl

theorem pay10_at (w : Vec Ideal S1x1024x1024 .f32) (j c : Fin 1024) : (k0_pay10 (F := Ideal) w (ix2 j c) : EReal) = w (ix3 0 j c) := by
  pointwise [k0_pay10]
  rfl

theorem pay11_at (w : Vec Ideal S1x1024x128 .f32) (j : Fin 1024) (c : Fin 128) : (k0_pay11 (F := Ideal) w (ix2 j c) : EReal) = w (ix3 0 j c) := by
  pointwise [k0_pay11]
  rfl

end Cert.InprojIdeal.Tile

end
-- ==== Proof.InprojCases.lean ====
/- What one row tile of the input projection leaves in its buffers, as plain values.

   The first point copies the weight columns it needs into three scratch buffers, closing the gap of four columns between
   the two attention branches; every point reads the weights there, the first after writing them. -/
module

public import proofs.«01_k».proof.Proof.Gen.InprojIdeal.Value
public import proofs.«01_k».proof.Proof.InprojPay
public import Idealize.ShloMosaic.Lib.Pipeline.Value
public import Idealize.ShloMosaic.Lib.Pipeline.ReadBack
public import Idealize.ShloMosaic.Lib.Tactic

@[expose] public section

set_option maxRecDepth 16384

noncomputable section

namespace Cert.InprojIdeal.Tile

open Idealize.ShloMosaic hiding ix1 ix2 ix3 ix4
open Idealize.ShloMosaic.ValueIdx Idealize.ShloMosaic.TcCoe Idealize.SL.Sem Cert.InprojIdeal Cert.InprojIdeal.Gen
open scoped BigOperators

theorem hz2 : (![0, 0] : Fin 2 → Nat) = fun _ => 0 := by decide

/-- The weight column behind a column of the attention projections. -/
def colQ (c : Fin 3072) : Fin 4224 := ⟨if c.val < 1536 then c.val else c.val + 4, by split <;> omega⟩

/-- The scratch weights: the attention projections', -/
def W0 (w : Vec Ideal S1x1024x4224 .f32) : Vec Ideal S1024x3072 .bf16 := fun i => w (ix3 0 (i 0) (colQ (i 1)))
/-- the recurrent unit's, -/
def W1 (w : Vec Ideal S1x1024x4224 .f32) : Vec Ideal S1024x1024 .bf16 :=
  fun i => w (ix3 0 (i 0) ⟨3076 + (i 1).val, by have h : (i 1).val < 1024 := (i 1).isLt; omega⟩)
/-- and the forget gate's. -/
def W2 (w : Vec Ideal S1x1024x4224 .f32) : Vec Ideal S1024x128 .bf16 :=
  fun i => w (ix3 0 (i 0) ⟨1536 + (i 1).val, by have h : (i 1).val < 128 := (i 1).isLt; omega⟩)

/-- The attention projections of a tile, over the scratch weights: each branch's first 512 columns scaled. -/
def tileQ (x : Vec Ideal S512x1024 .f32) (g : Vec Ideal S1x1024 .f32) (w : Vec Ideal S1024x3072 .bf16) : Vec Ideal S512x3072 .bf16 := fun i =>
  if (i 1).val % 1536 < 512 then (∑ j : Fin 1024, (k0_pay12 (F := Ideal) x g (ix2 (i 0) j) : EReal) * w (ix2 j (i 1))) * scale
  else ∑ j : Fin 1024, (k0_pay12 (F := Ideal) x g (ix2 (i 0) j) : EReal) * w (ix2 j (i 1))

/-! ## Rectangles of columns, at an index -/

theorem ld_cols (w : Vec Ideal S1024x3072 .bf16) (off : Nat) (inb : ∀ a, (![0, off] : Fin 2 → Nat) a + (![1024, 512] : Fin 2 → Nat) a ≤ S1024x3072.size a)
    (ho : off ≤ 2560) (j : Fin 1024) (k : Fin 512) :
    (View.ld (Val := Elt Ideal) (e' := .bf16) w (Rect.unit (s := S1024x3072) ![0, off] ![1024, 512] inb) (ix2 j k) : EReal) = w (ix2 j ⟨off + k.val, by omega⟩) := by
  refine congrArg w (funext fun a => Fin.ext ?_)
  match a with
  | ⟨0, _⟩ => show 0 + 1 * j.val = j.val; omega
  | ⟨1, _⟩ => show off + 1 * k.val = off + k.val; omega

theorem emb_out (off : Nat) (inb : ∀ a, (![0, off] : Fin 2 → Nat) a + (![512, 512] : Fin 2 → Nat) a ≤ S512x3072.size a) (ho : off ≤ 2560) (r k : Fin 512) :
    (Rect.unit (s := S512x3072) ![0, off] ![512, 512] inb).emb (ix2 r k) = (ix2 r ⟨off + k.val, by omega⟩ : S512x3072.Idx) := by
  refine funext fun a => Fin.ext ?_
  match a with
  | ⟨0, _⟩ => show 0 + 1 * r.val = r.val; omega
  | ⟨1, _⟩ => show off + 1 * k.val = off + k.val; omega

/-- A block of columns scaled, -/
theorem piece_scaled (x : Vec Ideal S512x1024 .f32) (g : Vec Ideal S1x1024 .f32) (w : Vec Ideal S1024x3072 .bf16) (off : Nat) (inb) (inb') (ho : off ≤ 2560)
    (hm : off % 1536 = 0) (p : FVec Ideal S512x512 .bf16)
    (hp : ∀ r k, (p (ix2 r k) : EReal) = (∑ j : Fin 1024, (k0_pay12 (F := Ideal) x g (ix2 r j) : EReal)
      * View.ld (Val := Elt Ideal) (e' := .bf16) w (Rect.unit (s := S1024x3072) ![0, off] ![1024, 512] inb') (ix2 j k)) * scale)
    (y : S512x512.Idx) : (p y : EReal) = tileQ x g w ((Rect.unit (s := S512x3072) ![0, off] ![512, 512] inb).emb y) := by
  obtain ⟨r, k, rfl⟩ : ∃ r k : Fin 512, y = ix2 r k := ⟨y 0, y 1, ValueIdx.eq_ix2 y⟩
  rw [emb_out off inb ho, hp]
  refine Eq.trans ?_ (if_pos (by show (off + k.val) % 1536 < 512; omega)).symm
  exact congrArg (· * scale) (Finset.sum_congr rfl fun j _ => congrArg (fun z : EReal => _ * z) (ld_cols w off inb' ho j k))

/-- and one as it is. -/
theorem piece_plain (x : Vec Ideal S512x1024 .f32) (g : Vec Ideal S1x1024 .f32) (w : Vec Ideal S1024x3072 .bf16) (off : Nat) (inb) (inb') (ho : off ≤ 2560)
    (hm : 512 ≤ off % 1536 ∧ off % 512 = 0) (p : FVec Ideal S512x512 .bf16)
    (hp : ∀ r k, (p (ix2 r k) : EReal) = ∑ j : Fin 1024, (k0_pay12 (F := Ideal) x g (ix2 r j) : EReal)
      * View.ld (Val := Elt Ideal) (e' := .bf16) w (Rect.unit (s := S1024x3072) ![0, off] ![1024, 512] inb') (ix2 j k))
    (y : S512x512.Idx) : (p y : EReal) = tileQ x g w ((Rect.unit (s := S512x3072) ![0, off] ![512, 512] inb).emb y) := by
  obtain ⟨r, k, rfl⟩ : ∃ r k : Fin 512, y = ix2 r k := ⟨y 0, y 1, ValueIdx.eq_ix2 y⟩
  rw [emb_out off inb ho, hp]
  refine Eq.trans ?_ (if_neg (by show ¬(off + k.val) % 1536 < 512; omega)).symm
  exact Finset.sum_congr rfl fun j _ => congrArg (fun z : EReal => _ * z) (ld_cols w off inb' ho j k)

/-- The six column blocks a point stores are the tile's attention projections. -/
theorem canon_tileQ (x : Vec Ideal S512x1024 .f32) (g : Vec Ideal S1x1024 .f32) (w : Vec Ideal S1024x3072 .bf16) :
    View.canon (Val := Elt Ideal) (s := S512x3072) (e := .bf16)
      [⟨Rect.unit (s := S512x3072) ![0, 2560] ![512, 512] inb_S512x3072_S512x512_0_2560,
          k0_pay3 (F := Ideal) (k0_pay12 x g) (View.ld (Val := Elt Ideal) (e' := .bf16) w (Rect.unit (s := S1024x3072) ![0, 2560] ![1024, 512] inb_S1024x3072_S1024x512_0_2560))⟩,
        ⟨Rect.unit (s := S512x3072) ![0, 2048] ![512, 512] inb_S512x3072_S512x512_0_2048,
          k0_pay2 (F := Ideal) (k0_pay12 x g) (View.ld (Val := Elt Ideal) (e' := .bf16) w (Rect.unit (s := S1024x3072) ![0, 2048] ![1024, 512] inb_S1024x3072_S1024x512_0_2048))⟩,
        ⟨Rect.unit (s := S512x3072) ![0, 1536] ![512, 512] inb_S512x3072_S512x512_0_1536,
          k0_pay1 (F := Ideal) (k0_pay12 x g) (View.ld (Val := Elt Ideal) (e' := .bf16) w (Rect.unit (s := S1024x3072) ![0, 1536] ![1024, 512] inb_S1024x3072_S1024x512_0_1536))⟩,
        ⟨Rect.unit (s := S512x3072) ![0, 1024] ![512, 512] inb_S512x3072_S512x512_0_1024,
          k0_pay15 (F := Ideal) x g (View.ld (Val := Elt Ideal) (e' := .bf16) w (Rect.unit (s := S1024x3072) ![0, 1024] ![1024, 512] inb_S1024x3072_S1024x512_0_1024))⟩,
        ⟨Rect.unit (s := S512x3072) ![0, 512] ![512, 512] inb_S512x3072_S512x512_0_512,
          k0_pay14 (F := Ideal) x g (View.ld (Val := Elt Ideal) (e' := .bf16) w (Rect.unit (s := S1024x3072) ![0, 512] ![1024, 512] inb_S1024x3072_S1024x512_0_512))⟩,
        ⟨Rect.unit (s := S512x3072) ![0, 0] ![512, 512] inb_S512x3072_S512x512_0_0,
          k0_pay13 (F := Ideal) x g (View.ld (Val := Elt Ideal) (e' := .bf16) w (Rect.unit (s := S1024x3072) ![0, 0] ![1024, 512] inb_S1024x3072_S1024x512_0_0))⟩]
      = tileQ x g w := by
  funext y
  rw [← List.append_nil (List.cons _ _)]
  refine View.canon_append_of_piecesOf (Val := Elt Ideal) (tileQ x g w) [] _ ?_ y (View.cover_of_tiledL (s := S512x3072) _ ![512, 512] (by sl_kernel_rfl) y)
  exact ⟨piece_plain x g w 2560 inb_S512x3072_S512x512_0_2560 inb_S1024x3072_S1024x512_0_2560 (by omega) (by omega) _ (fun r k => pay3_at _ _ r k),
    piece_plain x g w 2048 inb_S512x3072_S512x512_0_2048 inb_S1024x3072_S1024x512_0_2048 (by omega) (by omega) _ (fun r k => pay2_at _ _ r k),
    piece_scaled x g w 1536 inb_S512x3072_S512x512_0_1536 inb_S1024x3072_S1024x512_0_1536 (by omega) (by omega) _ (fun r k => pay1_at _ _ r k),
    piece_plain x g w 1024 inb_S512x3072_S512x512_0_1024 inb_S1024x3072_S1024x512_0_1024 (by omega) (by omega) _ (fun r k => pay15_at _ r k x g),
    piece_plain x g w 512 inb_S512x3072_S512x512_0_512 inb_S1024x3072_S1024x512_0_512 (by omega) (by omega) _ (fun r k => pay14_at _ r k x g),
    piece_scaled x g w 0 inb_S512x3072_S512x512_0_0 inb_S1024x3072_S1024x512_0_0 (by omega) (by omega) _ (fun r k => pay13_at _ r k x g), trivial⟩

/-- A block of 512 scratch columns is the weights' columns four further on. -/
theorem piece_w (w : Vec Ideal S1x1024x4224 .f32) (off off' : Nat) (inb) (inb' : ∀ a, (![0, 0, off'] : Fin 3 → Nat) a + (![1, 1024, 512] : Fin 3 → Nat) a ≤ S1x1024x4224.size a)
    (ho : 1536 ≤ off ∧ off ≤ 2560 ∧ off' = off + 4) (p : FVec Ideal S1024x512 .bf16)
    (hp : ∀ j k, (p (ix2 j k) : EReal) = View.ld (Val := Elt Ideal) (e' := .f32) w (Rect.unit (s := S1x1024x4224) ![0, 0, off'] ![1, 1024, 512] inb') (ix3 0 j k))
    (y : S1024x512.Idx) : (p y : EReal) = W0 w ((Rect.unit (s := S1024x3072) ![0, off] ![1024, 512] inb).emb y) := by
  obtain ⟨j, k, rfl⟩ : ∃ (j : Fin 1024) (k : Fin 512), y = ix2 j k := ⟨y 0, y 1, ValueIdx.eq_ix2 y⟩
  rw [hp]
  refine congrArg w (funext fun a => Fin.ext ?_)
  match a with
  | ⟨0, _⟩ => rfl
  | ⟨1, _⟩ => rfl
  | ⟨2, _⟩ =>
    show off' + 1 * k.val = if off + 1 * k.val < 1536 then off + 1 * k.val else off + 1 * k.val + 4
    rw [if_neg (by omega)]; omega

/-- The first 1536 scratch columns are the weights' own. -/
theorem piece_w0 (w : Vec Ideal S1x1024x4224 .f32) (y : S1024x1536.Idx) :
    (k0_pay6 (F := Ideal) (View.ld (Val := Elt Ideal) (e' := .f32) w (Rect.unit (s := S1x1024x4224) ![0, 0, 0] ![1, 1024, 1536] inb_S1x1024x4224_S1x1024x1536_0_0_0)) y : EReal)
      = W0 w ((Rect.unit (s := S1024x3072) ![0, 0] ![1024, 1536] inb_S1024x3072_S1024x1536_0_0).emb y) := by
  obtain ⟨j, k, rfl⟩ : ∃ (j : Fin 1024) (k : Fin 1536), y = ix2 j k := ⟨y 0, y 1, ValueIdx.eq_ix2 y⟩
  have hk := k.isLt
  refine (pay6_at _ j k).trans (congrArg w (funext fun a => Fin.ext ?_))
  match a with
  | ⟨0, _⟩ => rfl
  | ⟨1, _⟩ => rfl
  | ⟨2, _⟩ => exact (if_pos (show 0 + 1 * k.val < 1536 by omega)).symm

/-- The next 512 columns, -/
theorem piece_w1 (w : Vec Ideal S1x1024x4224 .f32) (y : S1024x512.Idx) :
    (k0_pay7 (F := Ideal) (View.ld (Val := Elt Ideal) (e' := .f32) w (Rect.unit (s := S1x1024x4224) ![0, 0, 1540] ![1, 1024, 512] inb_S1x1024x4224_S1x1024x512_0_0_1540)) y : EReal)
      = W0 w ((Rect.unit (s := S1024x3072) ![0, 1536] ![1024, 512] inb_S1024x3072_S1024x512_0_1536).emb y) :=
  piece_w w 1536 1540 inb_S1024x3072_S1024x512_0_1536 inb_S1x1024x4224_S1x1024x512_0_0_1540 (by omega)
    (k0_pay7 (F := Ideal) (View.ld (Val := Elt Ideal) (e' := .f32) w (Rect.unit (s := S1x1024x4224) ![0, 0, 1540] ![1, 1024, 512] inb_S1x1024x4224_S1x1024x512_0_0_1540)))
    (fun j k => pay7_at (View.ld (Val := Elt Ideal) (e' := .f32) w (Rect.unit (s := S1x1024x4224) ![0, 0, 1540] ![1, 1024, 512] inb_S1x1024x4224_S1x1024x512_0_0_1540)) j k) y

/-- the next -/
theorem piece_w2 (w : Vec Ideal S1x1024x4224 .f32) (y : S1024x512.Idx) :
    (k0_pay8 (F := Ideal) (View.ld (Val := Elt Ideal) (e' := .f32) w (Rect.unit (s := S1x1024x4224) ![0, 0, 2052] ![1, 1024, 512] inb_S1x1024x4224_S1x1024x512_0_0_2052)) y : EReal)
      = W0 w ((Rect.unit (s := S1024x3072) ![0, 2048] ![1024, 512] inb_S1024x3072_S1024x512_0_2048).emb y) :=
  piece_w w 2048 2052 inb_S1024x3072_S1024x512_0_2048 inb_S1x1024x4224_S1x1024x512_0_0_2052 (by omega)
    (k0_pay8 (F := Ideal) (View.ld (Val := Elt Ideal) (e' := .f32) w (Rect.unit (s := S1x1024x4224) ![0, 0, 2052] ![1, 1024, 512] inb_S1x1024x4224_S1x1024x512_0_0_2052)))
    (fun j k => pay8_at (View.ld (Val := Elt Ideal) (e' := .f32) w (Rect.unit (s := S1x1024x4224) ![0, 0, 2052] ![1, 1024, 512] inb_S1x1024x4224_S1x1024x512_0_0_2052)) j k) y

/-- and the last. -/
theorem piece_w3 (w : Vec Ideal S1x1024x4224 .f32) (y : S1024x512.Idx) :
    (k0_pay9 (F := Ideal) (View.ld (Val := Elt Ideal) (e' := .f32) w (Rect.unit (s := S1x1024x4224) ![0, 0, 2564] ![1, 1024, 512] inb_S1x1024x4224_S1x1024x512_0_0_2564)) y : EReal)
      = W0 w ((Rect.unit (s := S1024x3072) ![0, 2560] ![1024, 512] inb_S1024x3072_S1024x512_0_2560).emb y) :=
  piece_w w 2560 2564 inb_S1024x3072_S1024x512_0_2560 inb_S1x1024x4224_S1x1024x512_0_0_2564 (by omega)
    (k0_pay9 (F := Ideal) (View.ld (Val := Elt Ideal) (e' := .f32) w (Rect.unit (s := S1x1024x4224) ![0, 0, 2564] ![1, 1024, 512] inb_S1x1024x4224_S1x1024x512_0_0_2564)))
    (fun j k => pay9_at (View.ld (Val := Elt Ideal) (e' := .f32) w (Rect.unit (s := S1x1024x4224) ![0, 0, 2564] ![1, 1024, 512] inb_S1x1024x4224_S1x1024x512_0_0_2564)) j k) y

/-- The four blocks the first point stores are the attention projections' weights. -/
theorem canon_W0 (w : Vec Ideal S1x1024x4224 .f32) :
    View.canon (Val := Elt Ideal) (s := S1024x3072) (e := .bf16)
      [⟨Rect.unit (s := S1024x3072) ![0, 2560] ![1024, 512] inb_S1024x3072_S1024x512_0_2560,
          k0_pay9 (F := Ideal) (View.ld (Val := Elt Ideal) (e' := .f32) w (Rect.unit (s := S1x1024x4224) ![0, 0, 2564] ![1, 1024, 512] inb_S1x1024x4224_S1x1024x512_0_0_2564))⟩,
        ⟨Rect.unit (s := S1024x3072) ![0, 2048] ![1024, 512] inb_S1024x3072_S1024x512_0_2048,
          k0_pay8 (F := Ideal) (View.ld (Val := Elt Ideal) (e' := .f32) w (Rect.unit (s := S1x1024x4224) ![0, 0, 2052] ![1, 1024, 512] inb_S1x1024x4224_S1x1024x512_0_0_2052))⟩,
        ⟨Rect.unit (s := S1024x3072) ![0, 1536] ![1024, 512] inb_S1024x3072_S1024x512_0_1536,
          k0_pay7 (F := Ideal) (View.ld (Val := Elt Ideal) (e' := .f32) w (Rect.unit (s := S1x1024x4224) ![0, 0, 1540] ![1, 1024, 512] inb_S1x1024x4224_S1x1024x512_0_0_1540))⟩,
        ⟨Rect.unit (s := S1024x3072) ![0, 0] ![1024, 1536] inb_S1024x3072_S1024x1536_0_0,
          k0_pay6 (F := Ideal) (View.ld (Val := Elt Ideal) (e' := .f32) w (Rect.unit (s := S1x1024x4224) ![0, 0, 0] ![1, 1024, 1536] inb_S1x1024x4224_S1x1024x1536_0_0_0))⟩]
      = W0 w := by
  funext y
  rw [← List.append_nil (List.cons _ _)]
  refine View.canon_append_of_piecesOf (Val := Elt Ideal) (W0 w) [] _ ?_ y ?_
  · exact ⟨piece_w3 w, piece_w2 w, piece_w1 w, piece_w0 w, trivial⟩
  have h0 : (y 0).val < 1024 := (y 0).isLt
  have h1 : (y 1).val < 3072 := (y 1).isLt
  have hm (off wd : Nat) (inb : ∀ a, (![0, off] : Fin 2 → Nat) a + (![1024, wd] : Fin 2 → Nat) a ≤ S1024x3072.size a) (h : off ≤ (y 1).val ∧ (y 1).val < off + wd) :
      y ∈ (Rect.unit (s := S1024x3072) ![0, off] ![1024, wd] inb).set :=
    (Rect.mem_set_unit ..).mpr fun a => match a with
      | ⟨0, _⟩ => ⟨Nat.zero_le _, (by show (y 0).val < 0 + 1024; omega)⟩
      | ⟨1, _⟩ => h
  by_cases c3 : 2560 ≤ (y 1).val
  · exact ⟨_, List.mem_cons_self, hm 2560 512 inb_S1024x3072_S1024x512_0_2560 (by omega)⟩
  by_cases c2 : 2048 ≤ (y 1).val
  · exact ⟨_, List.mem_cons_of_mem _ List.mem_cons_self, hm 2048 512 inb_S1024x3072_S1024x512_0_2048 (by omega)⟩
  by_cases c1 : 1536 ≤ (y 1).val
  · exact ⟨_, List.mem_cons_of_mem _ (List.mem_cons_of_mem _ List.mem_cons_self), hm 1536 512 inb_S1024x3072_S1024x512_0_1536 (by omega)⟩
  · exact ⟨_, List.mem_cons_of_mem _ (List.mem_cons_of_mem _ (List.mem_cons_of_mem _ List.mem_cons_self)), hm 0 1536 inb_S1024x3072_S1024x1536_0_0 (by omega)⟩

/-- The recurrent unit's weights, read whole, -/
theorem ld_W1 (w : Vec Ideal S1x1024x4224 .f32) :
    k0_pay10 (F := Ideal) (View.ld (Val := Elt Ideal) (e' := .f32) w (Rect.unit (s := S1x1024x4224) ![0, 0, 3076] ![1, 1024, 1024] inb_S1x1024x4224_S1x1024x1024_0_0_3076)) = W1 w := by
  funext y
  obtain ⟨j, k, rfl⟩ : ∃ j k : Fin 1024, y = ix2 j k := ⟨y 0, y 1, ValueIdx.eq_ix2 y⟩
  refine (pay10_at _ j k).trans (congrArg w (funext fun a => Fin.ext ?_))
  match a with
  | ⟨0, _⟩ => rfl
  | ⟨1, _⟩ => show 0 + 1 * j.val = j.val; omega
  | ⟨2, _⟩ => show 3076 + 1 * k.val = 3076 + k.val; omega

/-- and the forget gate's. -/
theorem ld_W2 (w : Vec Ideal S1x1024x4224 .f32) :
    k0_pay11 (F := Ideal) (View.ld (Val := Elt Ideal) (e' := .f32) w (Rect.unit (s := S1x1024x4224) ![0, 0, 1536] ![1, 1024, 128] inb_S1x1024x4224_S1x1024x128_0_0_1536)) = W2 w := by
  funext y
  obtain ⟨j, k, rfl⟩ : ∃ (j : Fin 1024) (k : Fin 128), y = ix2 j k := ⟨y 0, y 1, ValueIdx.eq_ix2 y⟩
  refine (pay11_at _ j k).trans (congrArg w (funext fun a => Fin.ext ?_))
  match a with
  | ⟨0, _⟩ => rfl
  | ⟨1, _⟩ => show 0 + 1 * j.val = j.val; omega
  | ⟨2, _⟩ => show 1536 + 1 * k.val = 1536 + k.val; omega

/-! ## The two kinds of point -/

set_option maxHeartbeats 2000000 in
/-- The first point leaves the weights in the scratch buffers; -/
theorem w0_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_0 (F := Ideal) c i a1 h1 a2 h2 a3 h3 a4 h4 a5 h5 a6 h6 a7 h7 a8 h8 a9 h9 hc0 x0 x1 x2 = W0 x2 := by
  unfold sout0_A_0
  rw [View.read_writes_eq_canon _ _ _ (scover0_A_0 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  exact canon_W0 x2

set_option maxHeartbeats 2000000 in
/-- the recurrent unit's; -/
theorem w1_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_1 (F := Ideal) c i a1 h1 a2 h2 a3 h3 a4 h4 a5 h5 a6 h6 a7 h7 a8 h8 a9 h9 hc0 x0 x1 x2 = W1 x2 := by
  unfold sout0_A_1
  rw [View.read_writes_eq_canon _ _ _ (scover0_A_1 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]
  exact ld_W1 x2

set_option maxHeartbeats 2000000 in
/-- the forget gate's; -/
theorem w2_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_2 (F := Ideal) c i a1 h1 a2 h2 a3 h3 a4 h4 a5 h5 a6 h6 a7 h7 a8 h8 a9 h9 hc0 x0 x1 x2 = W2 x2 := by
  unfold sout0_A_2
  rw [View.read_writes_eq_canon _ _ _ (scover0_A_2 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]
  exact ld_W2 x2

set_option maxHeartbeats 2000000 in
/-- and its tile's attention projections, -/
theorem q_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_3 (F := Ideal) c i a1 h1 a2 h2 a3 h3 a4 h4 a5 h5 a6 h6 a7 h7 a8 h8 a9 h9 hc0 x0 x1 x2 = tileQ x0 x1 (W0 x2) := by
  unfold out0_A_3
  rw [View.read_writes_eq_canon _ _ _ (cover0_A_3 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  simp only [View.readCov_eq_canon']
  rw [canon_W0]
  exact canon_tileQ x0 x1 (W0 x2)

set_option maxHeartbeats 2000000 in
/-- the recurrent unit's -/
theorem lru_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_4 (F := Ideal) c i a1 h1 a2 h2 a3 h3 a4 h4 a5 h5 a6 h6 a7 h7 a8 h8 a9 h9 hc0 x0 x1 x2 = k0_pay4 (k0_pay12 x0 x1) (W1 x2) := by
  unfold out0_A_4
  rw [View.read_writes_eq_canon _ _ _ (cover0_A_4 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2, View.readCov_cons_toLoadRect, ← ld_W1 x2]

set_option maxHeartbeats 2000000 in
/-- and the forget gate's over them. -/
theorem f_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_5 (F := Ideal) c i a1 h1 a2 h2 a3 h3 a4 h4 a5 h5 a6 h6 a7 h7 a8 h8 a9 h9 hc0 x0 x1 x2 = k0_pay5 (k0_pay12 x0 x1) (W2 x2) := by
  unfold out0_A_5
  rw [View.read_writes_eq_canon _ _ _ (cover0_A_5 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2, View.readCov_cons_toLoadRect, ← ld_W2 x2]

set_option maxHeartbeats 2000000 in
/-- A later point leaves its tile's over the scratch weights: -/
theorem q_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_3 (F := Ideal) c i a1 h1 a2 h2 a3 h3 a4 h4 a5 h5 a6 h6 a7 h7 a8 h8 a9 h9 hc0 x0 x1 x2 xs0 xs1 xs2 = tileQ x0 x1 xs0 := by
  unfold out0_B_3
  rw [View.read_writes_eq_canon _ _ _ (cover0_B_3 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  exact canon_tileQ x0 x1 xs0

set_option maxHeartbeats 2000000 in
/-- the recurrent unit's; -/
theorem lru_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_4 (F := Ideal) c i a1 h1 a2 h2 a3 h3 a4 h4 a5 h5 a6 h6 a7 h7 a8 h8 a9 h9 hc0 x0 x1 x2 xs0 xs1 xs2 = k0_pay4 (k0_pay12 x0 x1) xs1 := by
  unfold out0_B_4
  rw [View.read_writes_eq_canon _ _ _ (cover0_B_4 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]

set_option maxHeartbeats 2000000 in
/-- the forget gate's. -/
theorem f_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_5 (F := Ideal) c i a1 h1 a2 h2 a3 h3 a4 h4 a5 h5 a6 h6 a7 h7 a8 h8 a9 h9 hc0 x0 x1 x2 xs0 xs1 xs2 = k0_pay5 (k0_pay12 x0 x1) xs2 := by
  unfold out0_B_5
  rw [View.read_writes_eq_canon _ _ _ (cover0_B_5 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]

end Cert.InprojIdeal.Tile

end
-- ==== Proof.InprojValue.lean ====
/- The input projection's three result arrays: `Cert.Inproj.Spec`'s of its arguments. -/
module

public import proofs.«01_k».proof.Proof.InprojSpec
public import proofs.«01_k».proof.Proof.InprojCases
public import Idealize.ShloMosaic.Lib.StableHlo.ReadAt

@[expose] public section

set_option maxRecDepth 16384

noncomputable section

namespace Cert.InprojIdeal.Tile

open Idealize.ShloMosaic hiding ix1 ix2 ix3 ix4
open Idealize.ShloMosaic.ValueIdx Idealize.ShloMosaic.TcCoe Idealize.SL.Sem Cert.InprojIdeal Cert.InprojIdeal.Gen Cert.InprojIdeal.Value Cert.Norm
open Idealize.ShloMosaic.Pipeline (Dat)
open scoped BigOperators

variable (m : (ℓ : Loc nD τ sig) → Buf (Elt Ideal) ℓ) (c : Dev nD)

/-- The gain as the call receives it. -/
theorem g_at (j : Fin 1024) : (V m c main_v2 (ix2 0 j) : EReal) = m ((c.tc : Thread nD τ).loc main_arg1) (ix2 0 j) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 0 j) := by
  rw [← g_at m c j]
  unfold iblk
  refine (View.read_apply ..).trans ?_
  show V m c main_v2 _ = _
  refine congrArg (V m c main_v2) (funext fun a => Fin.ext ?_)
  match a with
  | ⟨0, _⟩ => rfl
  | ⟨1, _⟩ => show 0 * 1024 + 1 * j.val = j.val; omega

/-- The weight columns every point holds: the first 4224 of the first layer's. -/
def Wt : Vec Ideal S1x1024x4224 .f32 := fun i =>
  m ((c.tc : Thread nD τ).loc main_arg2) (ix3 0 (i 1) ⟨(i 2).val, by have h : (i 2).val < 4224 := (i 2).isLt; omega⟩)

theorem w_block : X0_2 m c t = Wt m c := by
  funext i
  unfold X0_2 Pipeline.Window.fill
  rw [dif_pos (moved0_2 t i)]
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ =>
    have h : ((show S1x1024x4224.Idx from i) 0).val < 1 := ((show S1x1024x4224.Idx from i) 0).isLt
    show 0 * 1 + 1 * ((show S1x1024x4224.Idx from i) 0).val = 0; omega
  | ⟨1, _⟩ => show 0 * 1024 + 1 * ((show S1x1024x4224.Idx from i) 1).val = ((show S1x1024x4224.Idx from i) 1).val; omega
  | ⟨2, _⟩ => show 0 * 4224 + 1 * ((show S1x1024x4224.Idx from i) 2).val = ((show S1x1024x4224.Idx from i) 2).val; omega

/-! ## What every point leaves -/

/-- After every point the scratch buffers hold the weights. -/
theorem scratch_eq : ∀ (n : Nat) (hn : n < cfg0.N), (outsAt0 m c n hn).2.2.2 = (W0 (Wt m c), W1 (Wt m c), W2 (Wt m c))
  | 0, hn => by
    rw [outsAt0_A m c ⟨0, hn⟩ rfl]
    dsimp only
    rw [w0_A, w1_A, w2_A, w_block]
  | n + 1, hn => by
    have hN : n + 1 < 66 := Nat.lt_of_lt_of_eq hn N_0
    rw [outsAt0_B m c ⟨n + 1, hn⟩ (by show ¬(n + 1) % 66 = 0; omega)]
    exact scratch_eq n (Nat.lt_of_succ_lt hn)

/-- And its three tiles are the projections over them. -/
theorem outs_eq : (outsAt0 m c t.val t.isLt).1 = tileQ (iblk m c 0 t) (iblk m c 1 t) (W0 (Wt m c))
    ∧ (outsAt0 m c t.val t.isLt).2.1 = k0_pay4 (k0_pay12 (F := Ideal) (iblk m c 0 t) (iblk m c 1 t)) (W1 (Wt m c))
    ∧ (outsAt0 m c t.val t.isLt).2.2.1 = k0_pay5 (k0_pay12 (F := Ideal) (iblk m c 0 t) (iblk m c 1 t)) (W2 (Wt m c)) := by
  by_cases h0 : t.val % 66 = 0
  · rw [outsAt0_A m c t h0]
    dsimp only
    rw [q_A, lru_A, f_A, w_block]
    exact ⟨rfl, rfl, rfl⟩
  · rw [outsAt0_B m c t h0]
    dsimp only
    rw [q_B, lru_B, f_B, scratch_eq]
    exact ⟨rfl, rfl, rfl⟩

/-! ## The results over the call's arguments -/

/-- The three results. -/
abbrev Gq : Vec Ideal S33792x3072 .bf16 :=
  Inproj.Spec.qkv (m ((c.tc : Thread nD τ).loc main_arg0)) (m ((c.tc : Thread nD τ).loc main_arg1)) (m ((c.tc : Thread nD τ).loc main_arg2))
abbrev Gl : Vec Ideal S33792x1024 .f32 :=
  Inproj.Spec.lru (m ((c.tc : Thread nD τ).loc main_arg0)) (m ((c.tc : Thread nD τ).loc main_arg1)) (m ((c.tc : Thread nD τ).loc main_arg2))
abbrev Gf : Vec Ideal S33792x128 .f32 :=
  Inproj.Spec.gate (m ((c.tc : Thread nD τ).loc main_arg0)) (m ((c.tc : Thread nD τ).loc main_arg1)) (m ((c.tc : Thread nD τ).loc main_arg2))

/-- A tile's normalised row is the row's. -/
theorem norm_eq (r : Fin 512) (R : Fin 33792) (hR : R.val = t.val * 512 + r.val) (j : Fin 1024) :
    (k0_pay12 (F := Ideal) (iblk m c 0 t) (iblk m c 1 t) (ix2 r j) : EReal)
      = norm (fun k => m ((c.tc : Thread nD τ).loc main_arg0) (ix2 R k)) (fun k => m ((c.tc : Thread nD τ).loc main_arg1) (ix2 0 k)) j := by
  refine (pay12_at ..).trans ?_
  have h0 := funext fun k => h_block m c t r k R hR
  have h1 := funext fun k => g_block m c t k
  rw [h0, h1]

/-- A tile's attention projections are the result's rows of that tile; -/
theorem q_eq (r : Fin 512) (j : Fin 3072) (R : Fin 33792) (hR : R.val = t.val * 512 + r.val) :
    ((outsAt0 m c t.val t.isLt).1 (ix2 r j) : EReal) = Gq m c (ix2 R j) := by
  rw [(outs_eq m c t).1]
  have e : (∑ a : Fin 1024, (k0_pay12 (F := Ideal) (iblk m c 0 t) (iblk m c 1 t) (ix2 r a) : EReal) * W0 (Wt m c) (ix2 a j))
      = Inproj.Spec.proj (m ((c.tc : Thread nD τ).loc main_arg0)) (m ((c.tc : Thread nD τ).loc main_arg1)) (m ((c.tc : Thread nD τ).loc main_arg2)) R (Inproj.Spec.col j) :=
    Finset.sum_congr rfl fun a _ => congrArg₂ (· * ·) (norm_eq m c t r R hR a) rfl
  show (if j.val % 1536 < 512 then (∑ a : Fin 1024, (k0_pay12 (F := Ideal) (iblk m c 0 t) (iblk m c 1 t) (ix2 r a) : EReal) * W0 (Wt m c) (ix2 a j)) * scale
    else ∑ a : Fin 1024, (k0_pay12 (F := Ideal) (iblk m c 0 t) (iblk m c 1 t) (ix2 r a) : EReal) * W0 (Wt m c) (ix2 a j)) = _
  rw [e]
  rfl

/-- the recurrent unit's, -/
theorem l_eq (r : Fin 512) (j : Fin 1024) (R : Fin 33792) (hR : R.val = t.val * 512 + r.val) :
    ((outsAt0 m c t.val t.isLt).2.1 (ix2 r j) : EReal) = Gl m c (ix2 R j) := by
  rw [(outs_eq m c t).2.1]
  refine (pay4_at ..).trans ?_
  exact Finset.sum_congr rfl fun a _ => congrArg₂ (· * ·) (norm_eq m c t r R hR a) rfl

/-- and the forget gate's. -/
theorem f_eq (r : Fin 512) (j : Fin 128) (R : Fin 33792) (hR : R.val = t.val * 512 + r.val) :
    ((outsAt0 m c t.val t.isLt).2.2.1 (ix2 r j) : EReal) = Gf m c (ix2 R j) := by
  rw [(outs_eq m c t).2.2]
  refine (pay5_at ..).trans ?_
  exact Finset.sum_congr rfl fun a _ => congrArg₂ (· * ·) (norm_eq m c t r R hR a) rfl

/-! ## The array of the attention projections -/

/-- A tile's write-back writes the result's rows of that tile. -/
theorem flushed_q (hf : (cfg0.win 3).flush t = true) :
    (dats m 0 c).flushed 3 t = ((cfg0.win 3).blk t).view.read (Elt Ideal) (Gq m c) := by
  have ht : t.val < 66 := Nat.lt_of_lt_of_eq t.isLt N_0
  refine (flushed3 m c t).trans ?_
  funext i
  obtain ⟨r, j, rfl⟩ : ∃ (r : Fin 512) (j : Fin 3072), i = (ix2 r j : S512x3072.Idx) :=
    ⟨(show S512x3072.Idx from i) 0, (show S512x3072.Idx from i) 1, ValueIdx.eq_ix2 (show S512x3072.Idx from i)⟩
  have hr := r.isLt
  refine (q_eq m c t r j ⟨t.val * 512 + r.val, by omega⟩ rfl).trans ?_
  refine Eq.trans ?_ (View.read_apply ..).symm
  refine congrArg (Gq m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 3072 + 1 * j.val; omega

/-- Every element of the array lies in some tile's write-back. -/
theorem covered_q (i : S33792x3072.Idx) : ∃ t : Fin cfg0.N, (cfg0.win 3).flush t = true ∧ i ∈ ((cfg0.win 3).blk t).view.set := by
  have h0 : (i 0 : Nat) < 33792 := (i 0).isLt
  have h1 : (i 1 : Nat) < 3072 := (i 1).isLt
  have hN : cfg0.N = 66 := N_0
  let t : Fin cfg0.N := ⟨(i 0 : Nat) / 512, by rw [hN]; omega⟩
  have hi' : cc0_transform_3 (grid0.coords t) 0 = (i 0 : Nat) / 512 := tile_index t
  refine ⟨t, flush0_3 t, ?_⟩
  refine (iff_of_eq (congrArg (fun s => i ∈ s) (View.set_slice_whole main_v3_0 ((cfg0.win 3).rect t)))).mpr ?_
  refine (Rect.mem_set_unit ..).mpr ?_
  intro a
  match a with
  | ⟨0, _⟩ =>
    show cc0_transform_3 (grid0.coords t) 0 * 512 ≤ (i 0 : Nat) ∧ (i 0 : Nat) < cc0_transform_3 (grid0.coords t) 0 * 512 + 512
    rw [hi']; omega
  | ⟨1, _⟩ => show 0 * 3072 ≤ (i 1 : Nat) ∧ (i 1 : Nat) < 0 * 3072 + 3072; omega

/-- So the array ends at the result. -/
theorem final_q : (dats m 0 c).arrAt 3 cfg0.N = Gq m c :=
  (dats m 0 c).arrAt_eq_of_cover 3 (Gq m c) (flushed_q m c) covered_q

/-! ## The array of the recurrent unit's projection -/

/-- A tile's write-back writes the result's rows of that tile. -/
theorem flushed_l (hf : (cfg0.win 4).flush t = true) :
    (dats m 0 c).flushed 4 t = ((cfg0.win 4).blk t).view.read (Elt Ideal) (Gl m c) := by
  have ht : t.val < 66 := Nat.lt_of_lt_of_eq t.isLt N_0
  refine (flushed4 m c t).trans ?_
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (l_eq m c t r j ⟨t.val * 512 + r.val, by omega⟩ rfl).trans ?_
  refine Eq.trans ?_ (View.read_apply ..).symm
  refine congrArg (Gl m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the array lies in some tile's write-back. -/
theorem covered_l (i : S33792x1024.Idx) : ∃ t : Fin cfg0.N, (cfg0.win 4).flush t = true ∧ i ∈ ((cfg0.win 4).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_4 (grid0.coords t) 0 = (i 0 : Nat) / 512 := tile_index t
  refine ⟨t, flush0_4 t, ?_⟩
  refine (iff_of_eq (congrArg (fun s => i ∈ s) (View.set_slice_whole main_v3_1 ((cfg0.win 4).rect t)))).mpr ?_
  refine (Rect.mem_set_unit ..).mpr ?_
  intro a
  match a with
  | ⟨0, _⟩ =>
    show cc0_transform_4 (grid0.coords t) 0 * 512 ≤ (i 0 : Nat) ∧ (i 0 : Nat) < cc0_transform_4 (grid0.coords t) 0 * 512 + 512
    rw [hi']; omega
  | ⟨1, _⟩ => show 0 * 1024 ≤ (i 1 : Nat) ∧ (i 1 : Nat) < 0 * 1024 + 1024; omega

/-- So the array ends at the result. -/
theorem final_l : (dats m 0 c).arrAt 4 cfg0.N = Gl m c :=
  (dats m 0 c).arrAt_eq_of_cover 4 (Gl m c) (flushed_l m c) covered_l

/-! ## The array of the forget gate's projection -/

/-- A tile's write-back writes the result's rows of that tile. -/
theorem flushed_f (hf : (cfg0.win 5).flush t = true) :
    (dats m 0 c).flushed 5 t = ((cfg0.win 5).blk t).view.read (Elt Ideal) (Gf m c) := by
  have ht : t.val < 66 := Nat.lt_of_lt_of_eq t.isLt N_0
  refine (flushed5 m c t).trans ?_
  funext i
  obtain ⟨r, j, rfl⟩ : ∃ (r : Fin 512) (j : Fin 128), i = (ix2 r j : S512x128.Idx) :=
    ⟨(show S512x128.Idx from i) 0, (show S512x128.Idx from i) 1, ValueIdx.eq_ix2 (show S512x128.Idx from i)⟩
  have hr := r.isLt
  refine (f_eq m c t r j ⟨t.val * 512 + r.val, by omega⟩ rfl).trans ?_
  refine Eq.trans ?_ (View.read_apply ..).symm
  refine congrArg (Gf m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 128 + 1 * j.val; omega

/-- Every element of the array lies in some tile's write-back. -/
theorem covered_f (i : S33792x128.Idx) : ∃ t : Fin cfg0.N, (cfg0.win 5).flush t = true ∧ i ∈ ((cfg0.win 5).blk t).view.set := by
  have h0 : (i 0 : Nat) < 33792 := (i 0).isLt
  have h1 : (i 1 : Nat) < 128 := (i 1).isLt
  have hN : cfg0.N = 66 := N_0
  let t : Fin cfg0.N := ⟨(i 0 : Nat) / 512, by rw [hN]; omega⟩
  have hi' : cc0_transform_5 (grid0.coords t) 0 = (i 0 : Nat) / 512 := tile_index t
  refine ⟨t, flush0_5 t, ?_⟩
  refine (iff_of_eq (congrArg (fun s => i ∈ s) (View.set_slice_whole main_v3_2 ((cfg0.win 5).rect t)))).mpr ?_
  refine (Rect.mem_set_unit ..).mpr ?_
  intro a
  match a with
  | ⟨0, _⟩ =>
    show cc0_transform_5 (grid0.coords t) 0 * 512 ≤ (i 0 : Nat) ∧ (i 0 : Nat) < cc0_transform_5 (grid0.coords t) 0 * 512 + 512
    rw [hi']; omega
  | ⟨1, _⟩ => show 0 * 128 ≤ (i 1 : Nat) ∧ (i 1 : Nat) < 0 * 128 + 128; omega

/-- So the array ends at the result. -/
theorem final_f : (dats m 0 c).arrAt 5 cfg0.N = Gf m c :=
  (dats m 0 c).arrAt_eq_of_cover 5 (Gf m c) (flushed_f m c) covered_f

end Cert.InprojIdeal.Tile

end
-- ==== Proof.InprojRef.lean ====
/- The input projection's reference, read: its results are `Cert.Inproj.Spec`'s of its arguments. -/
module

public import proofs.«01_k».proof.Proof.InprojSpec
public import proofs.«01_k».proof.Proof.Gen.InprojReferenceIdeal.Read
public import Idealize.ShloMosaic.Lib.IdealHost
public import Idealize.ShloMosaic.Lib.Pipeline.Value

@[expose] public section

set_option maxRecDepth 16384

noncomputable section

namespace Cert.InprojReferenceIdeal.Rows

open Cert.InprojReferenceIdeal Cert.InprojReferenceIdeal.Gen Cert.InprojReferenceIdeal.Read Idealize.ShloMosaic Idealize.ShloMosaic.ValueIdx Cert.Norm
open scoped BigOperators

variable (x0 : FVec Ideal S33792x1024 .f32) (x1 : FVec Ideal S2x1024 .f32) (x2 : FVec Ideal S2x1024x7172 .f32)

/-- A row of the rows, and the gain the reference multiplies by. -/
abbrev row (r : Fin 33792) : Fin 1024 → EReal := fun k => x0 (ix2 r k)
abbrev gain : Fin 1024 → EReal := fun k => x1 (ix2 0 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 0 j from funext fun a => Fin.ext (match a with
      | ⟨0, _⟩ => rfl
      | ⟨1, _⟩ => (by show j.val % 1024 = j.val; omega))]
  rfl

/-- The weights of the first layer. -/
theorem v16_at (j : Fin 1024) (k : Fin 7172) : (val_main_v16 (F := Ideal) x2 (ix2 j k) : EReal) = x2 (ix3 0 j k) := by
  rw [val_main_v16_apply, val_main_v15_apply]
  refine congrArg x2 (funext fun a => Fin.ext ?_)
  match a with
  | ⟨0, _⟩ => rfl
  | ⟨1, _⟩ => show (j.val * 7172 + k.val) / 7172 % 1024 = j.val; omega
  | ⟨2, _⟩ => show (j.val * 7172 + k.val) % 7172 = k.val; omega

/-- The whole product. -/
theorem v17_at (r : Fin 33792) (k : Fin 7172) : (val_main_v17 (F := Ideal) x0 x1 x2 (ix2 r k) : EReal) = Inproj.Spec.proj x0 x1 x2 r k := by
  rw [val_main_v17_apply]
  refine Finset.sum_congr rfl fun j _ => ?_
  rw [show lidx_main_v17 (ix2 r k) j = ix2 r j from funext fun a => match a with | ⟨0, _⟩ => rfl | ⟨1, _⟩ => rfl,
    show ridx_main_v17 (ix2 r k) j = ix2 j k from funext fun a => match a with | ⟨0, _⟩ => rfl | ⟨1, _⟩ => rfl, v14_at, v16_at]

/-- The whole product at any index. -/
theorem v17_eq (i : S33792x7172.Idx) : (val_main_v17 (F := Ideal) x0 x1 x2 i : EReal) = Inproj.Spec.proj x0 x1 x2 (i 0) (i 1) := by
  obtain ⟨r, k, rfl⟩ : ∃ (r : Fin 33792) (k : Fin 7172), i = ix2 r k := ⟨i 0, i 1, ValueIdx.eq_ix2 i⟩
  exact v17_at x0 x1 x2 r k

/-- The first branch's queries, scaled; -/
theorem v22_at (r : Fin 33792) (k : Fin 512) :
    (val_main_v22 (F := Ideal) x0 x1 x2 (ix2 r k) : EReal) = Inproj.Spec.proj x0 x1 x2 r ⟨k.val, by omega⟩ * Inproj.Spec.scale := by
  rw [val_main_v22_apply, val_main_v20_apply, val_main_v18_apply, v17_eq, val_main_v21_apply, val_main_cst_2_apply]
  rfl

/-- its keys and values; -/
theorem v23_at (r : Fin 33792) (k : Fin 1024) :
    (val_main_v23 (F := Ideal) x0 x1 x2 (ix2 r k) : EReal) = Inproj.Spec.proj x0 x1 x2 r ⟨512 + k.val, by omega⟩ := by
  rw [val_main_v23_apply, val_main_v18_apply, v17_eq]
  rfl

/-- the second branch's queries, scaled; -/
theorem v26_at (r : Fin 33792) (k : Fin 512) :
    (val_main_v26 (F := Ideal) x0 x1 x2 (ix2 r k) : EReal) = Inproj.Spec.proj x0 x1 x2 r ⟨1540 + k.val, by omega⟩ * Inproj.Spec.scale := by
  rw [val_main_v26_apply, val_main_v24_apply, val_main_v19_apply, v17_eq, val_main_v25_apply, val_main_cst_3_apply]
  rfl

/-- its keys and values. -/
theorem v27_at (r : Fin 33792) (k : Fin 1024) :
    (val_main_v27 (F := Ideal) x0 x1 x2 (ix2 r k) : EReal) = Inproj.Spec.proj x0 x1 x2 r ⟨1540 + (512 + k.val), by omega⟩ := by
  rw [val_main_v27_apply, val_main_v19_apply, v17_eq]
  rfl

/-- The attention projections at an entry. -/
theorem qkv_at (r : Fin 33792) (c : Fin 3072) : (val_main_v29 (F := Ideal) x0 x1 x2 (ix2 r c) : EReal) = Inproj.Spec.qkv x0 x1 x2 (ix2 r c) := by
  have hc := c.isLt
  rw [val_main_v29_apply]
  refine Eq.trans (b := (val_main_v28 (F := Ideal) x0 x1 x2 (ix2 r c) : EReal)) rfl ?_
  unfold val_main_v28
  by_cases c1 : c.val < 512
  · refine Eq.trans (concatenate_apply_piece (α := EReal) (t := S33792x3072) 1 _ _ (ix2 r c) 0 (by show 0 < 4; decide) S33792x512 (val_main_v22 (F := Ideal) x0 x1 x2) rfl rfl 0 rfl
      (ix2 r ⟨c.val, by omega⟩) (fun b hb => match b, hb with | ⟨0, _⟩, _ => rfl | ⟨1, _⟩, hb => absurd rfl hb) (by show 0 + c.val = c.val; omega)) ?_
    rw [v22_at]
    refine Eq.trans ?_ (if_pos (by show c.val % 1536 < 512; omega)).symm
    exact congrArg (fun n => Inproj.Spec.proj x0 x1 x2 r n * Inproj.Spec.scale) (Fin.ext (if_pos (show c.val < 1536 by omega)).symm)
  by_cases c2 : c.val < 1536
  · refine Eq.trans (concatenate_apply_piece (α := EReal) (t := S33792x3072) 1 _ _ (ix2 r c) 1 (by show 1 < 4; decide) S33792x1024 (val_main_v23 (F := Ideal) x0 x1 x2) rfl rfl 512 rfl
      (ix2 r ⟨c.val - 512, by omega⟩) (fun b hb => match b, hb with | ⟨0, _⟩, _ => rfl | ⟨1, _⟩, hb => absurd rfl hb) (by show 512 + (c.val - 512) = c.val; omega)) ?_
    rw [v23_at]
    refine Eq.trans ?_ (if_neg (by show ¬c.val % 1536 < 512; omega)).symm
    exact congrArg (fun n => Inproj.Spec.proj x0 x1 x2 r n) (Fin.ext (Eq.trans (by show 512 + (c.val - 512) = c.val; omega) (if_pos (show c.val < 1536 by omega)).symm))
  by_cases c3 : c.val < 2048
  · refine Eq.trans (concatenate_apply_piece (α := EReal) (t := S33792x3072) 1 _ _ (ix2 r c) 2 (by show 2 < 4; decide) S33792x512 (val_main_v26 (F := Ideal) x0 x1 x2) rfl rfl 1536 rfl
      (ix2 r ⟨c.val - 1536, by omega⟩) (fun b hb => match b, hb with | ⟨0, _⟩, _ => rfl | ⟨1, _⟩, hb => absurd rfl hb) (by show 1536 + (c.val - 1536) = c.val; omega)) ?_
    rw [v26_at]
    refine Eq.trans ?_ (if_pos (by show c.val % 1536 < 512; omega)).symm
    exact congrArg (fun n => Inproj.Spec.proj x0 x1 x2 r n * Inproj.Spec.scale) (Fin.ext (Eq.trans (by show 1540 + (c.val - 1536) = c.val + 4; omega) (if_neg (show ¬c.val < 1536 by omega)).symm))
  · refine Eq.trans (concatenate_apply_piece (α := EReal) (t := S33792x3072) 1 _ _ (ix2 r c) 3 (by show 3 < 4; decide) S33792x1024 (val_main_v27 (F := Ideal) x0 x1 x2) rfl rfl 2048 rfl
      (ix2 r ⟨c.val - 2048, by omega⟩) (fun b hb => match b, hb with | ⟨0, _⟩, _ => rfl | ⟨1, _⟩, hb => absurd rfl hb) (by show 2048 + (c.val - 2048) = c.val; omega)) ?_
    rw [v27_at]
    refine Eq.trans ?_ (if_neg (by show ¬c.val % 1536 < 512; omega)).symm
    exact congrArg (fun n => Inproj.Spec.proj x0 x1 x2 r n) (Fin.ext (Eq.trans (by show 1540 + (512 + (c.val - 2048)) = c.val + 4; omega) (if_neg (show ¬c.val < 1536 by omega)).symm))

/-- The reference's attention projections, -/
theorem qkv_eq : val_main_v29 (F := Ideal) x0 x1 x2 = Inproj.Spec.qkv x0 x1 x2 := by
  funext i
  obtain ⟨r, c, rfl⟩ : ∃ (r : Fin 33792) (c : Fin 3072), i = ix2 r c := ⟨i 0, i 1, ValueIdx.eq_ix2 i⟩
  exact qkv_at x0 x1 x2 r c

/-- its recurrent unit's projection, -/
theorem lru_eq : val_main_v30 (F := Ideal) x0 x1 x2 = Inproj.Spec.lru x0 x1 x2 := by
  funext i
  rw [val_main_v30_apply, v17_eq]
  rfl

/-- and its forget gate's. -/
theorem gate_eq : val_main_v31 (F := Ideal) x0 x1 x2 = Inproj.Spec.gate x0 x1 x2 := by
  funext i
  rw [val_main_v31_apply, v17_eq]
  rfl

end Cert.InprojReferenceIdeal.Rows

end
-- ==== Proof.MergeIdealRun.lean ====
/- One run of the merge kernel's body, at any staging buffers.

   The first point copies the gate weights into the scratch buffer, each branch's 1024 columns from one block and the first four
   of the next; every point then reads them there. What a run leaves is stated in closed form: of the last weight block, which
   reaches past the array's end, only the payload of the last scratch store depends (`scr`). -/
module

public import proofs.«01_k».proof.Proof.Gen.MergeIdeal.Frame
public import proofs.«01_k».proof.Proof.Gen.MergeIdeal.Skeleton
public import proofs.«01_k».proof.Proof.Gen.MergeIdeal.Launch
public import Idealize.ShloMosaic.Lib.Pipeline.FrameBody
public import Idealize.ShloMosaic.Lib.Pipeline.ReadBack
public import Idealize.ShloMosaic.Lib.Exec
public import Idealize.ShloMosaic.Lib.Tactic

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's one condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 66 = 0 :=
  (fun t => by
    have ht : t.val < 66 := Nat.lt_of_lt_of_eq t.isLt N_0
    have e0 : (grid0.coords t 0).val = t.val / 1 % 66 := Pipeline.Grid.coords_val t 0 (by decide) rfl
    simp only [cond0_0, e0]
    word_cmp
   : ∀ t : Fin grid0.N, cond0_0 (grid0.coords t) ↔ t.val % 66 = 0)

/-! ## The buffers at a point -/

/-- The staging buffer each window uses at a point, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)
/-- The scratch buffer. -/
abbrev scM0_0 : Memref sig .tc .vmem S1024x3072 .bf16 := Memref.whole cc0_scratch0

/-- What the region hands the first point: the scratch buffer at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at the first point: the pieces it leaves in its output buffer and in the scratch buffer of the gate weights, and the
    triple that finds them. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    Σ' (L14 : List (View.Piece (Elt F) S512x1024 .f32)), { LS0 : List (View.Piece (Elt F) S1024x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_merge_eq_skeleton]; unfold cc0_merge_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; iexact HS0

set_option maxHeartbeats 1000000 in
/-- The body at a later point, which reads the scratch buffer and leaves it as it was. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) :
    Σ' (L14 : List (View.Piece (Elt F) S512x1024 .f32)), { LS0 : List (View.Piece (Elt F) S1024x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg16 fullShare xs0) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], fun E K => ?run⟩
  case run =>
    simp only [cc0_merge_eq_skeleton]; unfold cc0_merge_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; isplitr; · ipureintro; exact harg16.read_unread _
    iexact HS0

/-! ## What a run leaves -/

theorem hz2 : (![0, 0] : Fin 2 → Nat) = fun _ => 0 := by decide
theorem hz3 : (![0, 0, 0] : Fin 3 → Nat) = fun _ => 0 := by decide

/-- The scratch buffer after the first point: three blocks of columns over the four weight blocks. -/
def scr (x2 x3 x4 : Vec F S1x1024x1024 .f32) (x5 : Vec F S1x1024x128 .f32) : Vec F S1024x3072 .bf16 :=
  View.canon (Val := Elt F) (s := S1024x3072) (e := .bf16)
    [⟨Rect.unit (s := S1024x3072) ![0, 2048] S1024x1024.size inb_S1024x3072_S1024x1024_0_2048, k0_pay4 x4 x5⟩,
      ⟨Rect.unit (s := S1024x3072) ![0, 1024] S1024x1024.size inb_S1024x3072_S1024x1024_0_1024,
        k0_pay3 x3 (View.ld (Val := Elt F) (e' := .f32) x4 (Rect.unit (s := S1x1024x1024) ![0, 0, 0] S1x1024x128.size inb_S1x1024x1024_S1x1024x128_0_0_0))⟩,
      ⟨Rect.unit (s := S1024x3072) ![0, 0] S1024x1024.size inb_S1024x3072_S1024x1024_0_0,
        k0_pay2 x2 (View.ld (Val := Elt F) (e' := .f32) x3 (Rect.unit (s := S1x1024x1024) ![0, 0, 0] S1x1024x128.size inb_S1x1024x1024_S1x1024x128_0_0_0))⟩]

/-- Column blocks of the scratch buffer and of the bias. -/
abbrev ldW (w : Vec F S1024x3072 .bf16) (o : Nat) (h : ∀ a, (![0, o] : Fin 2 → Nat) a + S1024x1024.size a ≤ S1024x3072.size a) : Vec F S1024x1024 .bf16 :=
  View.ld (Val := Elt F) (e' := .bf16) w (Rect.unit (s := S1024x3072) ![0, o] S1024x1024.size h)
abbrev ldB (b : Vec F S1x3072 .f32) (o : Nat) (h : ∀ a, (![0, o] : Fin 2 → Nat) a + S1x1024.size a ≤ S1x3072.size a) : Vec F S1x1024 .f32 :=
  View.ld (Val := Elt F) (e' := .f32) b (Rect.unit (s := S1x3072) ![0, o] S1x1024.size h)

/-- The output tile over a scratch buffer `w`. -/
def tile (w : Vec F S1024x3072 .bf16) (x0 : Vec F S512x1024 .f32) (x1 : Vec F S1x1024 .f32) (x6 : Vec F S1x3072 .f32) (x7 x8 x9 : Vec F S512x512 .bf16)
    (x10 x11 x12 : Vec F S512x1024 .bf16) (x13 : Vec F S1024x1024 .bf16) : Vec F S512x1024 .f32 :=
  k0_pay1 x0 (k0_pay5 x0 x1)
    (k0_pay6 x0 x1 (ldW w 0 inb_S1024x3072_S1024x1024_0_0) (ldB x6 0 inb_S1x3072_S1x1024_0_0) x7 x10)
    (k0_pay7 x0 x1 (ldW w 1024 inb_S1024x3072_S1024x1024_0_1024)) (ldB x6 1024 inb_S1x3072_S1x1024_0_1024) x8 x11
    (ldW w 2048 inb_S1024x3072_S1024x1024_0_2048) (ldB x6 2048 inb_S1x3072_S1x1024_0_2048) x9 x12 x13

/-- The pieces of the first point cover the scratch buffer, -/
theorem scov_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (y : S1024x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1 S1024x1024.size (by sl_kernel_rfl) y
/-- and the output; -/
theorem ocov_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1 S512x1024.size (by sl_kernel_rfl) y
/-- those of a later point cover the output. -/
theorem ocov_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1 S512x1024.size (by sl_kernel_rfl) y

set_option maxHeartbeats 2000000 in
/-- The first point leaves `scr` in the scratch buffer -/
theorem scan_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1 = scr x2 x3 x4 x5 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  rfl

set_option maxHeartbeats 2000000 in
/-- and its tile over it in the output; -/
theorem ocan_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1 = tile (scr x2 x3 x4 x5) x0 x1 x6 x7 x8 x9 x10 x11 x12 x13 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  simp only [View.readCov_eq_canon']
  rw [View.canon_unit_zero hz2]
  rfl

set_option maxHeartbeats 2000000 in
/-- a later point its tile over what the scratch buffer holds. -/
theorem ocan_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1 = tile xs0 x0 x1 x6 x7 x8 x9 x10 x11 x12 x13 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  rw [View.canon_unit_zero hz2]
  rfl

end Cert.MergeIdeal.Hand

end
-- ==== Proof.MergeIdealFrame.lean ====
/- The frame of the merge kernel: what every buffer holds at every point, the body's obligation, the run.

   The weights are staged in four blocks, the last of which reaches past the array's end. Only its first four columns are used,
   and those are inside: so what the first point leaves in the scratch buffer is a function of the array alone, `scrW`. -/
module

public import proofs.«01_k».proof.Proof.MergeIdealRun
public import Idealize.ShloMosaic.Lib.Pipeline.Value
public import Idealize.ShloMosaic.Lib.Pointwise
public import Idealize.ShloMosaic.Lib.Claim

@[expose] public section

set_option maxRecDepth 16384

noncomputable section

namespace Cert.MergeIdeal.Hand

open Cert.MergeIdeal Cert.MergeIdeal.Gen
open Idealize.ShloMosaic hiding ix1 ix2 ix3 ix4
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The scratch buffer and the clipped block -/

/-- A scratch piece at an entry: of the first block, from its fifth column on, -/
theorem pay4_lo (x4 : Vec F S1x1024x1024 .f32) (x5 : Vec F S1x1024x128 .f32) (r c : Fin 1024) (h : 4 + c.val < 1024) :
    k0_pay4 x4 x5 (ix2 r c) = FloatOps.truncf .bf16 bitsLt_bf16_f32 (x4 (ix3 0 r ⟨4 + c.val, h⟩)) := by
  pointwise [k0_pay4]
  exact congrArg (FloatOps.truncf .bf16 bitsLt_bf16_f32) (dif_pos h)

/-- and past its end of the next one's first four. -/
theorem pay4_hi (x4 : Vec F S1x1024x1024 .f32) (x5 : Vec F S1x1024x128 .f32) (r c : Fin 1024) (h : ¬4 + c.val < 1024) :
    k0_pay4 x4 x5 (ix2 r c) = FloatOps.truncf .bf16 bitsLt_bf16_f32 (x5 (ix3 0 r ⟨4 + c.val - 1024, by omega⟩)) := by
  pointwise [k0_pay4]
  exact congrArg (FloatOps.truncf .bf16 bitsLt_bf16_f32) (dif_neg h)

/-- So it depends on the first four columns of the second block only, -/
theorem pay4_congr (x4 : Vec F S1x1024x1024 .f32) (x5 x5' : Vec F S1x1024x128 .f32)
    (h : ∀ (r : Fin 1024) (k : Fin 128), k.val < 4 → x5 (ix3 0 r k) = x5' (ix3 0 r k)) : k0_pay4 x4 x5 = k0_pay4 x4 x5' := by
  funext i
  obtain ⟨r, c, rfl⟩ : ∃ r c : Fin 1024, i = ix2 r c := ⟨i 0, i 1, ValueIdx.eq_ix2 i⟩
  have hc := c.isLt
  by_cases hl : 4 + c.val < 1024
  · rw [pay4_lo x4 x5 r c hl, pay4_lo x4 x5' r c hl]
  · rw [pay4_hi x4 x5 r c hl, pay4_hi x4 x5' r c hl, h r _ (show 4 + c.val - 1024 < 4 by omega)]

/-- and so does the scratch buffer on those of the last block. -/
theorem scr_congr (x2 x3 x4 : Vec F S1x1024x1024 .f32) (x5 x5' : Vec F S1x1024x128 .f32)
    (h : ∀ (r : Fin 1024) (k : Fin 128), k.val < 4 → x5 (ix3 0 r k) = x5' (ix3 0 r k)) : scr x2 x3 x4 x5 = scr x2 x3 x4 x5' := by
  unfold scr; rw [pay4_congr x4 x5 x5' h]

variable (m : (ℓ : Loc nD τ sig) → Buf (Elt F) ℓ) (ρ : Dev nD → PrngReg)

/-- A default for the part of the last block that no transfer fills. -/
def dflt0_5 : (cfg0.win 5).block.Idx → Elt F (cfg0.win 5).elt := fun _ => Classical.choice inferInstance

/-- The last block's buffer, over anything. -/
def Y0_5 (c : Dev nD) (t : Fin cfg0.N) (d : (cfg0.win 5).block.Idx → Elt F (cfg0.win 5).elt) : (cfg0.win 5).block.Idx → Elt F (cfg0.win 5).elt :=
  (cfg0.win 5).fill (cfg0.grid.coords t) d (iblk m c 5 t)

/-- The extents a transfer of the last block fills: all rows, four columns. -/
theorem xsize0_5 : ∀ t : Fin cfg0.N, (cfg0.win 5).xsize (cfg0.grid.coords t) 0 = 1 ∧ (cfg0.win 5).xsize (cfg0.grid.coords t) 1 = 1024
    ∧ (cfg0.win 5).xsize (cfg0.grid.coords t) 2 = 4 := by decide +kernel

/-- The first four columns are filled: -/
theorem moved0_5 (t : Fin cfg0.N) (r : Fin 1024) (k : Fin 128) (hk : k.val < 4) :
    (cfg0.win 5).moved (cfg0.grid.coords t) (show (cfg0.win 5).block.Idx from (ix3 0 r k : S1x1024x128.Idx)) = true :=
  ((cfg0.win 5).moved_iff _ _).mpr fun a => match a with
    | ⟨0, _⟩ => lt_of_lt_of_eq (show 0 < 1 by decide) (xsize0_5 t).1.symm
    | ⟨1, _⟩ => lt_of_lt_of_eq r.isLt (xsize0_5 t).2.1.symm
    | ⟨2, _⟩ => lt_of_lt_of_eq hk (xsize0_5 t).2.2.symm

/-- two fillings agree there. -/
theorem Y0_5_agree (c : Dev nD) (t : Fin cfg0.N) (d d') (r : Fin 1024) (k : Fin 128) (hk : k.val < 4) :
    (Y0_5 m c t d : Vec F S1x1024x128 .f32) (ix3 0 r k) = (Y0_5 m c t d' : Vec F S1x1024x128 .f32) (ix3 0 r k) := by
  have h : ∀ d, Y0_5 m c t d (show (cfg0.win 5).block.Idx from (ix3 0 r k : S1x1024x128.Idx)) = iblk m c 5 t _ := fun d => by
    unfold Y0_5 Pipeline.Window.fill; exact dif_pos (moved0_5 t r k hk)
  exact (h d).trans (h d').symm

/-- Point 0. -/
abbrev t0 : Fin cfg0.N := ⟨0, by rw [show cfg0.N = 66 from N_0]; decide⟩

/-- The scratch buffer from the first point on. -/
def scrW (c : Dev nD) : Vec F S1024x3072 .bf16 := scr (X0_2 m c t0) (X0_3 m c t0) (X0_4 m c t0) (Y0_5 m c t0 dflt0_5)

/-- The first point leaves it, whatever the last block's buffer held. -/
theorem scrW_eq (c : Dev nD) (d) : scr (X0_2 m c t0) (X0_3 m c t0) (X0_4 m c t0) (Y0_5 m c t0 d) = scrW m c :=
  scr_congr _ _ _ _ _ fun r k hk => Y0_5_agree m c t0 d dflt0_5 r k hk

/-- The output tile of a point. -/
def tileW (c : Dev nD) (t : Fin cfg0.N) : Vec F S512x1024 .f32 :=
  tile (scrW m c) (iblk m c 0 t) (iblk m c 1 t) (iblk m c 6 t) (iblk m c 7 t) (iblk m c 8 t) (iblk m c 9 t) (iblk m c 10 t) (iblk m c 11 t)
    (iblk m c 12 t) (iblk m c 13 t)

/-- The invariant: before the first point whatever the region hands over, then the scratch buffer at `scrW`. -/
def PhiS (c : Dev nD) : ℕ → sProp 𝕄
  | 0 => Pipeline.ΦA spec0 c
  | _ + 1 => iprop(iprop(owns (c : Thread nD τ) scM0_0 fullShare (scrW m c)) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (scrW m c)) ∗ (∃ r, prngReg c r)) := by
  cases n with
  | zero => exact absurd rfl hz
  | succ n => rfl

/-! ## The pipeline's proof data -/

/-- The proof data: each input buffer keeps its block, the output buffer gets its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => Y0_5 m c t dflt0_5
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tileW m c t
  Φ t := PhiS m c t.val
  q w := Pipeline.shareOf spec0 w
  owed _ := 0

/-- The arrays are those of the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val := by
  dsimp only [dats]; rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = Y0_5 m c t dflt0_5 := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = tileW m c t := by dsimp only [dats]

/-- Each input's buffer holds its block at every point; the last weight block's over anything. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = Y0_5 m c t d :=
  ((dats m 0 c).before_in_eq_fetched 5 rfl (fun _ => rfl)
      (fun t t' h => funext fun a => congrArg (fun n => Pipeline.Clip.of n ((cfg0.win 5).size a) (S2x1024x7172.size a)) (congrFun h a))
      (fun t => by rw [after0_5]; unfold Y0_5; rw [Pipeline.Window.cut_fill]; unfold Dat.blockOf iblk; rw [A_eq]; try rfl) t d).trans
    (by unfold Dat.fetched Y0_5; unfold Dat.blockOf iblk; rw [A_eq]; try rfl)
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at a point -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns: each weight block over anything outside the array. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ (∃ d, owns (c : Thread nD τ) (ms0_3 t) fullShare ((cfg0.win 3).fill (cfg0.grid.coords t) d ((cfg0.win 3).cut (cfg0.grid.coords t) ((dats m 0 c).after 3 t))))
    ∗ (∃ d, owns (c : Thread nD τ) (ms0_4 t) fullShare ((cfg0.win 4).fill (cfg0.grid.coords t) d ((cfg0.win 4).cut (cfg0.grid.coords t) ((dats m 0 c).after 4 t))))
    ∗ (∃ d, owns (c : Thread nD τ) (ms0_5 t) fullShare ((cfg0.win 5).fill (cfg0.grid.coords t) d ((cfg0.win 5).cut (cfg0.grid.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the first fills the scratch buffer, the others read it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) from rfl, PhiS_pos m c (t.val + 1) (Nat.succ_ne_zero _)]
  have hN : t.val < 66 := lt_of_lt_of_eq t.isLt (show cfg0.N = 66 from N_0)
  by_cases h0 : t.val % 66 = 0
  · by_cases hz : t.val = 0
    · obtain rfl : t = t0 := Fin.ext hz
      rw [PhiS_castSucc m c t0, PhiS_zero m c _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t0) _ _ _ _ _ _ _ _ _ _ _ _ _ _ _ _ _ _ _ _ _ _ _ _ _ _ _ _ _ _ _ _ ((hcond0_0 t0).mpr h0) (iblk m c 0 t0) (iblk m c 1 t0) (X0_2 m c t0) (X0_3 m c t0) (X0_4 m c t0) (Y0_5 m c t0 d5) (iblk m c 6 t0) (iblk m c 7 t0) (iblk m c 8 t0) (iblk m c 9 t0) (iblk m c 10 t0) (iblk m c 11 t0) (iblk m c 12 t0) (iblk m c 13 t0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [HS0 Hg]
      · isplitl [HS0]
        · unfold owns; iexists _; isplitr
          swap; · iexact HS0
          ipureintro; rw [View.read_writes_eq_canon _ _ _ (scov_A c _ _ _ _ _ _ _ _ _ _ _ _ _ _ _ _ _ _ _ _ _ _ _ _ _ _ _ _ _ _ _ _ _ _ _ _ _ _ _ _ _ _ _ _ _ _ _ _), scan_A]; exact scrW_eq m c d5
        iexact Hg
      isplitl [Ho]; · iexact Ho
      isplitl [H0]; · iexact H0
      isplitl [H1]; · iexact H1
      isplitl [H2]
      · iexists X0_2 m c t0; rw [(cfg0.win 2).fill_cut]; iexact H2
      isplitl [H3]
      · iexists X0_3 m c t0; rw [(cfg0.win 3).fill_cut]; iexact H3
      isplitl [H4]
      · iexists X0_4 m c t0; rw [(cfg0.win 4).fill_cut]; iexact H4
      isplitl [H5]
      · iexists d5; rw [show (cfg0.win 5).fill (cfg0.grid.coords t0) d5 ((cfg0.win 5).cut (cfg0.grid.coords t0) (Y0_5 m c t0 dflt0_5)) = Y0_5 m c t0 d5 from by unfold Y0_5; rw [(cfg0.win 5).cut_fill]]; iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; rw [View.read_writes_eq_canon _ _ _ (ocov_A c _ _ _ _ _ _ _ _ _ _ _ _ _ _ _ _ _ _ _ _ _ _ _ _ _ _ _ _ _ _ _ _ _ _ _ _ _ _ _ _ _ _ _ _ _ _ _ _), ocan_A, scrW_eq m c d5]; rfl
    · exfalso; have hN : t.val < 66 := lt_of_lt_of_eq t.isLt (show cfg0.N = 66 from N_0); omega
  · by_cases hz : t.val = 0
    · exfalso; have hN : t.val < 66 := lt_of_lt_of_eq t.isLt (show cfg0.N = 66 from N_0); omega
    · rw [PhiS_castSucc m c t, PhiS_pos m c _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (X0_2 m c t) (X0_3 m c t) (X0_4 m c t) (Y0_5 m c t d5) (iblk m c 6 t) (iblk m c 7 t) (iblk m c 8 t) (iblk m c 9 t) (iblk m c 10 t) (iblk m c 11 t) (iblk m c 12 t) (iblk m c 13 t) (scrW m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, HS0⟩
      isplitl [HS0 Hg]
      · isplitl [HS0]
        · iexact HS0
        iexact Hg
      isplitl [Ho]; · iexact Ho
      isplitl [H0]; · iexact H0
      isplitl [H1]; · iexact H1
      isplitl [H2]
      · iexists X0_2 m c t; rw [(cfg0.win 2).fill_cut]; iexact H2
      isplitl [H3]
      · iexists X0_3 m c t; rw [(cfg0.win 3).fill_cut]; iexact H3
      isplitl [H4]
      · iexists X0_4 m c t; rw [(cfg0.win 4).fill_cut]; iexact H4
      isplitl [H5]
      · iexists d5; rw [show (cfg0.win 5).fill (cfg0.grid.coords t) d5 ((cfg0.win 5).cut (cfg0.grid.coords t) (Y0_5 m c t dflt0_5)) = Y0_5 m c t d5 from by unfold Y0_5; rw [(cfg0.win 5).cut_fill]]; iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; rw [View.read_writes_eq_canon _ _ _ (ocov_B c _ _ _ _ _ _ _ _ _ _ _ _ _ _ _ _ _ _ _ _ _ _ _ _ _ _ _ _ _ _ _ _ _ _ _ _ _ _ _ _ _ _ _ _ _ _ _ _ _), ocan_B]; rfl

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 66 := N_0; omega), PhiA0_eq]
  iintro ⟨HS0, Hg⟩
  isplitl [HS0]
  · iexists _; iexact HS0
  iexact Hg

/-! ## The run and the frame -/

set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

/-- The run: every array of the pipeline ends at what the proof data says, every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.MergeIdeal.Hand

end
-- ==== Proof.MergePay.lean ====
/- The arithmetic of one row tile of the merge, over the extended reals and at one element. -/
module

public import proofs.«01_k».proof.Proof.NormSpec
public import proofs.«01_k».proof.Proof.MergeIdealFrame
public import Idealize.ShloMosaic.Lib.Pointwise

@[expose] public section

set_option maxRecDepth 16384

noncomputable section

namespace Cert.MergeIdeal.Hand

open Idealize.ShloMosaic hiding ix1 ix2 ix3 ix4
open Idealize.ShloMosaic.ValueIdx Cert.MergeIdeal Cert.MergeIdeal.Gen Cert.Norm
open scoped BigOperators

/-- The normalised row. -/
theorem pay5_at (x : Vec Ideal S512x1024 .f32) (g : Vec Ideal S1x1024 .f32) (r : Fin 512) (j : Fin 1024) :
    (k0_pay5 (F := Ideal) x g (ix2 r j) : EReal) = norm (fun k => x (ix2 r k)) (fun k => g (ix2 0 k)) j := by
  pointwise [k0_pay5]
  rfl

/-- The second branch's gate columns before the bias. -/
theorem pay7_at (x : Vec Ideal S512x1024 .f32) (g : Vec Ideal S1x1024 .f32) (w : Vec Ideal S1024x1024 .bf16) (r : Fin 512) (k : Fin 1024) :
    (k0_pay7 (F := Ideal) x g w (ix2 r k) : EReal) = ∑ j : Fin 1024, (k0_pay5 (F := Ideal) x g (ix2 r j) : EReal) * w (ix2 j k) := by
  pointwise [k0_pay7]
  rfl

/-- The first branch under its gate. -/
theorem pay6_at (x : Vec Ideal S512x1024 .f32) (g : Vec Ideal S1x1024 .f32) (w : Vec Ideal S1024x1024 .bf16) (b : Vec Ideal S1x1024 .f32)
    (y : Vec Ideal S512x512 .bf16) (o : Vec Ideal S512x1024 .bf16) (r : Fin 512) (k : Fin 1024) :
    (k0_pay6 (F := Ideal) x g w b y o (ix2 r k) : EReal)
      = Ideal.logistic ((∑ j : Fin 1024, (k0_pay5 (F := Ideal) x g (ix2 r j) : EReal) * w (ix2 j k)) + b (ix2 0 k))
        * ∑ i : Fin 512, (y (ix2 r i) : EReal) * o (ix2 i k) := by
  pointwise [k0_pay6]
  rfl

/-- The tile: the row plus the gated sum through the last weights. -/
theorem pay1_at (x : Vec Ideal S512x1024 .f32) (n : FVec Ideal S512x1024 .bf16) (a p : FVec Ideal S512x1024 .f32) (b1 : Vec Ideal S1x1024 .f32)
    (y1 : Vec Ideal S512x512 .bf16) (o1 : Vec Ideal S512x1024 .bf16) (w2 : Vec Ideal S1024x1024 .bf16) (b2 : Vec Ideal S1x1024 .f32)
    (y2 : Vec Ideal S512x512 .bf16) (o2 : Vec Ideal S512x1024 .bf16) (wo : Vec Ideal S1024x1024 .bf16) (r : Fin 512) (c : Fin 1024) :
    (k0_pay1 (F := Ideal) x n a p b1 y1 o1 w2 b2 y2 o2 wo (ix2 r c) : EReal)
      = (x (ix2 r c) : EReal) + ∑ k : Fin 1024,
        ((a (ix2 r k) : EReal) + Ideal.logistic ((p (ix2 r k) : EReal) + b1 (ix2 0 k)) * (∑ i : Fin 512, (y1 (ix2 r i) : EReal) * o1 (ix2 i k))
          + Ideal.logistic ((∑ j : Fin 1024, (n (ix2 r j) : EReal) * w2 (ix2 j k)) + b2 (ix2 0 k)) * ∑ i : Fin 512, (y2 (ix2 r i) : EReal) * o2 (ix2 i k))
        * wo (ix2 k c) := by
  pointwise [k0_pay1]
  rfl

/-- The scratch pieces at an entry: of the one block, from its fifth column on, -/
theorem pay2_lo (v : Vec Ideal S1x1024x1024 .f32) (u : Vec Ideal S1x1024x128 .f32) (r c : Fin 1024) (h : 4 + c.val < 1024) :
    (k0_pay2 (F := Ideal) v u (ix2 r c) : EReal) = v (ix3 0 r ⟨4 + c.val, h⟩) := by
  pointwise [k0_pay2]
  exact dif_pos h

theorem pay2_hi (v : Vec Ideal S1x1024x1024 .f32) (u : Vec Ideal S1x1024x128 .f32) (r c : Fin 1024) (h : ¬4 + c.val < 1024) :
    (k0_pay2 (F := Ideal) v u (ix2 r c) : EReal) = u (ix3 0 r ⟨4 + c.val - 1024, by omega⟩) := by
  pointwise [k0_pay2]
  exact dif_neg h

/-- and past its end of the next. -/
theorem pay3_lo (v : Vec Ideal S1x1024x1024 .f32) (u : Vec Ideal S1x1024x128 .f32) (r c : Fin 1024) (h : 4 + c.val < 1024) :
    (k0_pay3 (F := Ideal) v u (ix2 r c) : EReal) = v (ix3 0 r ⟨4 + c.val, h⟩) := by
  pointwise [k0_pay3]
  exact dif_pos h

theorem pay3_hi (v : Vec Ideal S1x1024x1024 .f32) (u : Vec Ideal S1x1024x128 .f32) (r c : Fin 1024) (h : ¬4 + c.val < 1024) :
    (k0_pay3 (F := Ideal) v u (ix2 r c) : EReal) = u (ix3 0 r ⟨4 + c.val - 1024, by omega⟩) := by
  pointwise [k0_pay3]
  exact dif_neg h

end Cert.MergeIdeal.Hand

end
-- ==== Proof.MergeScratch.lean ====
/- The merge's scratch buffer: the first layer's gate weights. -/
module

public import proofs.«01_k».proof.Proof.MergePay
public import Idealize.ShloMosaic.Lib.StableHlo.ReadAt

@[expose] public section

set_option maxRecDepth 16384

noncomputable section

namespace Cert.MergeIdeal.Hand

open Idealize.ShloMosaic hiding ix1 ix2 ix3 ix4
open Idealize.ShloMosaic.ValueIdx Idealize.ShloMosaic.TcCoe Idealize.SL.Sem Cert.MergeIdeal Cert.MergeIdeal.Gen Cert.Norm
open Idealize.ShloMosaic.Pipeline (Dat)
open scoped BigOperators

/-- The gate weights: the first layer's columns past the branches' 4100. -/
def GW (W : FVec Ideal S2x1024x7172 .f32) : Vec Ideal S1024x3072 .bf16 := fun i =>
  W (ix3 0 (i 0) ⟨4100 + (i 1).val, by have h : (i 1).val < 3072 := (i 1).isLt; omega⟩)

variable (W : FVec Ideal S2x1024x7172 .f32)

/-- Where a scratch column lies in a block of 1024 that starts at `off`. -/
theorem emb_scr (off : Nat) (inb) (ho : off + 1024 ≤ 3072) (r c : Fin 1024) :
    GW W ((Rect.unit (s := S1024x3072) ![0, off] S1024x1024.size inb).emb (ix2 r c)) = W (ix3 0 r ⟨4100 + (off + c.val), by omega⟩) := by
  refine congrArg W (funext fun a => Fin.ext ?_)
  match a with
  | ⟨0, _⟩ => rfl
  | ⟨1, _⟩ => show 0 + 1 * r.val = r.val; omega
  | ⟨2, _⟩ => show 4100 + (off + 1 * c.val) = 4100 + (off + c.val); omega

/-- The first four columns of a block, read as the body does. -/
theorem ld_head (x : Vec Ideal S1x1024x1024 .f32) (r : Fin 1024) (k : Fin 128) :
    (View.ld (Val := Elt Ideal) (e' := .f32) x (Rect.unit (s := S1x1024x1024) ![0, 0, 0] S1x1024x128.size inb_S1x1024x1024_S1x1024x128_0_0_0) (ix3 0 r k) : EReal)
      = x (ix3 0 r ⟨k.val, by omega⟩) := by
  refine congrArg x (funext fun a => Fin.ext ?_)
  match a with
  | ⟨0, _⟩ => rfl
  | ⟨1, _⟩ => show 0 + 1 * r.val = r.val; omega
  | ⟨2, _⟩ => show 0 + 1 * k.val = k.val; omega

/-- A block of 1024 scratch columns, from a weight block and the first four columns of the next. -/
theorem piece_gw (off : Nat) (inb) (ho : off + 1024 ≤ 3072) (p : FVec Ideal S1024x1024 .bf16) (v : Vec Ideal S1x1024x1024 .f32) (u : Vec Ideal S1x1024x128 .f32)
    (hv : ∀ r k : Fin 1024, (v (ix3 0 r k) : EReal) = W (ix3 0 r ⟨4096 + off + k.val, by omega⟩))
    (hu : ∀ (r : Fin 1024) (k : Fin 128) (hk : k.val < 4), (u (ix3 0 r k) : EReal) = W (ix3 0 r ⟨4096 + off + 1024 + k.val, by omega⟩))
    (lo : ∀ (r c : Fin 1024) (h : 4 + c.val < 1024), (p (ix2 r c) : EReal) = v (ix3 0 r ⟨4 + c.val, h⟩))
    (hi : ∀ (r c : Fin 1024) (h : ¬4 + c.val < 1024), (p (ix2 r c) : EReal) = u (ix3 0 r ⟨4 + c.val - 1024, by omega⟩))
    (y : S1024x1024.Idx) : (p y : EReal) = GW W ((Rect.unit (s := S1024x3072) ![0, off] S1024x1024.size inb).emb y) := by
  obtain ⟨r, c, rfl⟩ : ∃ r c : Fin 1024, y = ix2 r c := ⟨y 0, y 1, ValueIdx.eq_ix2 y⟩
  have hc := c.isLt
  rw [emb_scr W off inb ho]
  by_cases h : 4 + c.val < 1024
  · rw [lo r c h, hv]
    refine congrArg (fun k => W (ix3 0 r k)) (Fin.ext ?_)
    show 4096 + off + (4 + c.val) = 4100 + (off + c.val); omega
  · rw [hi r c h, hu r _ (show 4 + c.val - 1024 < 4 by omega)]
    refine congrArg (fun k => W (ix3 0 r k)) (Fin.ext ?_)
    show 4096 + off + 1024 + (4 + c.val - 1024) = 4100 + (off + c.val); omega

/-- The last scratch piece at an entry, over the extended reals. -/
theorem pay4_lo' (v : Vec Ideal S1x1024x1024 .f32) (u : Vec Ideal S1x1024x128 .f32) (r c : Fin 1024) (h : 4 + c.val < 1024) :
    (k0_pay4 (F := Ideal) v u (ix2 r c) : EReal) = v (ix3 0 r ⟨4 + c.val, h⟩) := pay4_lo v u r c h
theorem pay4_hi' (v : Vec Ideal S1x1024x1024 .f32) (u : Vec Ideal S1x1024x128 .f32) (r c : Fin 1024) (h : ¬4 + c.val < 1024) :
    (k0_pay4 (F := Ideal) v u (ix2 r c) : EReal) = u (ix3 0 r ⟨4 + c.val - 1024, by omega⟩) := pay4_hi v u r c h

/-- The three blocks the first point stores are the gate weights. -/
theorem scr_eq (x2 x3 x4 : Vec Ideal S1x1024x1024 .f32) (x5 : Vec Ideal S1x1024x128 .f32)
    (h2 : ∀ r k : Fin 1024, (x2 (ix3 0 r k) : EReal) = W (ix3 0 r ⟨4096 + k.val, by omega⟩))
    (h3 : ∀ r k : Fin 1024, (x3 (ix3 0 r k) : EReal) = W (ix3 0 r ⟨5120 + k.val, by omega⟩))
    (h4 : ∀ r k : Fin 1024, (x4 (ix3 0 r k) : EReal) = W (ix3 0 r ⟨6144 + k.val, by omega⟩))
    (h5 : ∀ (r : Fin 1024) (k : Fin 128) (hk : k.val < 4), (x5 (ix3 0 r k) : EReal) = W (ix3 0 r ⟨7168 + k.val, by omega⟩)) :
    scr (F := Ideal) x2 x3 x4 x5 = GW W := by
  have p2 := piece_gw W 0 inb_S1024x3072_S1024x1024_0_0 (by omega) _ x2 _ h2
    (fun r k hk => (ld_head x3 r k).trans (h3 r ⟨k.val, by omega⟩)) (pay2_lo x2 _) (pay2_hi x2 _)
  have p3 := piece_gw W 1024 inb_S1024x3072_S1024x1024_0_1024 (by omega) _ x3 _ h3
    (fun r k hk => (ld_head x4 r k).trans (h4 r ⟨k.val, by omega⟩)) (pay3_lo x3 _) (pay3_hi x3 _)
  have p4 := piece_gw W 2048 inb_S1024x3072_S1024x1024_0_2048 (by omega) _ x4 x5 h4 h5 (pay4_lo' x4 x5) (pay4_hi' x4 x5)
  unfold scr
  funext y
  rw [← List.append_nil (List.cons _ _)]
  refine View.canon_append_of_piecesOf (Val := Elt Ideal) (GW W) [] _ ?_ y ?_
  · exact ⟨p4, p3, p2, trivial⟩
  have h0 : (y 0).val < 1024 := (y 0).isLt
  have h1 : (y 1).val < 3072 := (y 1).isLt
  have hm (off : Nat) (inb : ∀ a, (![0, off] : Fin 2 → Nat) a + S1024x1024.size a ≤ S1024x3072.size a) (h : off ≤ (y 1).val ∧ (y 1).val < off + 1024) :
      y ∈ (Rect.unit (s := S1024x3072) ![0, off] S1024x1024.size inb).set :=
    (Rect.mem_set_unit ..).mpr fun a => match a with
      | ⟨0, _⟩ => ⟨Nat.zero_le _, (by show (y 0).val < 0 + 1024; omega)⟩
      | ⟨1, _⟩ => h
  by_cases c2 : 2048 ≤ (y 1).val
  · exact ⟨_, List.mem_cons_self, hm 2048 inb_S1024x3072_S1024x1024_0_2048 (by omega)⟩
  by_cases c1 : 1024 ≤ (y 1).val
  · exact ⟨_, List.mem_cons_of_mem _ List.mem_cons_self, hm 1024 inb_S1024x3072_S1024x1024_0_1024 (by omega)⟩
  · exact ⟨_, List.mem_cons_of_mem _ (List.mem_cons_of_mem _ List.mem_cons_self), hm 0 inb_S1024x3072_S1024x1024_0_0 (by omega)⟩

variable (m : (ℓ : Loc nD τ sig) → Buf (Elt Ideal) ℓ) (c : Dev nD) (t : Fin cfg0.N)

/-! ## The weight blocks -/

theorem x2_block (r k : Fin 1024) : ((X0_2 m c t : Vec Ideal S1x1024x1024 .f32) (ix3 0 r k) : EReal)
    = m ((c.tc : Thread nD τ).loc main_arg2) (ix3 0 r ⟨4096 + k.val, by omega⟩) := by
  unfold X0_2 Pipeline.Window.fill
  refine (dif_pos (moved0_2 t (show (cfg0.win 2).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 4 * 1024 + 1 * k.val = 4096 + k.val; omega

theorem x3_block (r k : Fin 1024) : ((X0_3 m c t : Vec Ideal S1x1024x1024 .f32) (ix3 0 r k) : EReal)
    = m ((c.tc : Thread nD τ).loc main_arg2) (ix3 0 r ⟨5120 + k.val, by omega⟩) := by
  unfold X0_3 Pipeline.Window.fill
  refine (dif_pos (moved0_3 t (show (cfg0.win 3).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 5 * 1024 + 1 * k.val = 5120 + k.val; omega

theorem x4_block (r k : Fin 1024) : ((X0_4 m c t : Vec Ideal S1x1024x1024 .f32) (ix3 0 r k) : EReal)
    = m ((c.tc : Thread nD τ).loc main_arg2) (ix3 0 r ⟨6144 + k.val, by omega⟩) := by
  unfold X0_4 Pipeline.Window.fill
  refine (dif_pos (moved0_4 t (show (cfg0.win 4).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 6 * 1024 + 1 * k.val = 6144 + k.val; omega

/-- Of the last block, its first four columns. -/
theorem x5_block (d) (r : Fin 1024) (k : Fin 128) (hk : k.val < 4) : ((Y0_5 m c t d : Vec Ideal S1x1024x128 .f32) (ix3 0 r k) : EReal)
    = m ((c.tc : Thread nD τ).loc main_arg2) (ix3 0 r ⟨7168 + k.val, by omega⟩) := by
  unfold Y0_5 Pipeline.Window.fill
  refine (dif_pos (moved0_5 t r k hk)).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 56 * 128 + 1 * k.val = 7168 + k.val; omega

/-- So the scratch buffer holds the gate weights. -/
theorem scrW_gw : scrW m c = GW (m ((c.tc : Thread nD τ).loc main_arg2)) :=
  scr_eq _ _ _ _ _ (x2_block m c t0) (x3_block m c t0) (x4_block m c t0) (x5_block m c t0 dflt0_5)

end Cert.MergeIdeal.Hand

end
-- ==== Proof.MergeBlocks.lean ====
/- The blocks the merge's points read, over the call's arguments. -/
module

public import proofs.«01_k».proof.Proof.MergePay
public import Idealize.ShloMosaic.Lib.StableHlo.ReadAt

@[expose] public section

set_option maxRecDepth 16384

noncomputable section

namespace Cert.MergeIdeal.Hand

open Idealize.ShloMosaic hiding ix1 ix2 ix3 ix4
open Idealize.ShloMosaic.ValueIdx Idealize.ShloMosaic.TcCoe Idealize.SL.Sem Cert.MergeIdeal Cert.MergeIdeal.Gen Cert.Norm
open Idealize.ShloMosaic.Pipeline (Dat)
open scoped BigOperators

variable (m : (ℓ : Loc nD τ sig) → Buf (Elt Ideal) ℓ) (c : Dev nD)

/-! ## What the call receives -/

/-- The gain, -/
theorem g_at (j : Fin 1024) : (V m c main_v2 (ix2 0 j) : EReal) = m ((c.tc : Thread nD τ).loc main_arg1) (ix2 0 j) := by
  unfold V
  after_reads_at
  rfl

/-- the bias, -/
theorem b_at (n : Fin 3072) : (V m c main_v5 (ix2 0 n) : EReal) = m ((c.tc : Thread nD τ).loc main_arg3) (ix2 0 n) := by
  unfold V
  after_reads_at
  rfl

/-- the branches' weights, -/
theorem wf_at (i : Fin 512) (k : Fin 1024) : (V m c main_v8 (ix2 i k) : EReal) = m ((c.tc : Thread nD τ).loc main_arg7) (ix3 0 i k) := by
  unfold V
  after_reads_at
  rfl

theorem ws_at (i : Fin 512) (k : Fin 1024) : (V m c main_v11 (ix2 i k) : EReal) = m ((c.tc : Thread nD τ).loc main_arg8) (ix3 0 i k) := by
  unfold V
  after_reads_at
  rfl

theorem wl_at (i : Fin 512) (k : Fin 1024) : (V m c main_v14 (ix2 i k) : EReal) = m ((c.tc : Thread nD τ).loc main_arg9) (ix3 0 i k) := by
  unfold V
  after_reads_at
  rfl

/-- and the last weights. -/
theorem wo_at (i k : Fin 1024) : (V m c main_v17 (ix2 i k) : EReal) = m ((c.tc : Thread nD τ).loc main_arg10) (ix3 0 i k) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 0 j) := by
  rw [← g_at m c j]
  unfold iblk
  refine (View.read_apply ..).trans ?_
  show V m c main_v2 _ = _
  refine congrArg (V m c main_v2) (funext fun a => Fin.ext ?_)
  match a with
  | ⟨0, _⟩ => rfl
  | ⟨1, _⟩ => show 0 * 1024 + 1 * j.val = j.val; omega

theorem b_block (n : Fin 3072) : ((iblk m c 6 t : Vec Ideal S1x3072 .f32) (ix2 0 n) : EReal) = m ((c.tc : Thread nD τ).loc main_arg3) (ix2 0 n) := by
  rw [← b_at m c n]
  unfold iblk
  refine (View.read_apply ..).trans ?_
  show V m c main_v5 _ = _
  refine congrArg (V m c main_v5) (funext fun a => Fin.ext ?_)
  match a with
  | ⟨0, _⟩ => rfl
  | ⟨1, _⟩ => show 0 * 3072 + 1 * n.val = n.val; omega

theorem yf_block (r i : Fin 512) (R : Fin 33792) (hR : R.val = t.val * 512 + r.val) :
    ((iblk m c 7 t : Vec Ideal S512x512 .bf16) (ix2 r i) : EReal) = m ((c.tc : Thread nD τ).loc main_arg4) (ix2 R i) := by
  unfold iblk
  refine (View.read_apply ..).trans ?_
  show V m c main_arg4 _ = _
  rw [V_main_arg4]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem ys_block (r i : Fin 512) (R : Fin 33792) (hR : R.val = t.val * 512 + r.val) :
    ((iblk m c 8 t : Vec Ideal S512x512 .bf16) (ix2 r i) : EReal) = m ((c.tc : Thread nD τ).loc main_arg5) (ix2 R i) := by
  unfold iblk
  refine (View.read_apply ..).trans ?_
  show V m c main_arg5 _ = _
  rw [V_main_arg5]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem yl_block (r i : Fin 512) (R : Fin 33792) (hR : R.val = t.val * 512 + r.val) :
    ((iblk m c 9 t : Vec Ideal S512x512 .bf16) (ix2 r i) : EReal) = m ((c.tc : Thread nD τ).loc main_arg6) (ix2 R i) := by
  unfold iblk
  refine (View.read_apply ..).trans ?_
  show V m c main_arg6 _ = _
  rw [V_main_arg6]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem wf_block (i : Fin 512) (k : Fin 1024) :
    ((iblk m c 10 t : Vec Ideal S512x1024 .bf16) (ix2 i k) : EReal) = m ((c.tc : Thread nD τ).loc main_arg7) (ix3 0 i k) := by
  rw [← wf_at m c i k]
  unfold iblk
  refine (View.read_apply ..).trans ?_
  show V m c main_v8 _ = _
  refine congrArg (V m c main_v8) (funext fun a => Fin.ext ?_)
  match a with
  | ⟨0, _⟩ => show 0 * 512 + 1 * i.val = i.val; omega
  | ⟨1, _⟩ => show 0 * 1024 + 1 * k.val = k.val; omega

theorem ws_block (i : Fin 512) (k : Fin 1024) :
    ((iblk m c 11 t : Vec Ideal S512x1024 .bf16) (ix2 i k) : EReal) = m ((c.tc : Thread nD τ).loc main_arg8) (ix3 0 i k) := by
  rw [← ws_at m c i k]
  unfold iblk
  refine (View.read_apply ..).trans ?_
  show V m c main_v11 _ = _
  refine congrArg (V m c main_v11) (funext fun a => Fin.ext ?_)
  match a with
  | ⟨0, _⟩ => show 0 * 512 + 1 * i.val = i.val; omega
  | ⟨1, _⟩ => show 0 * 1024 + 1 * k.val = k.val; omega

theorem wl_block (i : Fin 512) (k : Fin 1024) :
    ((iblk m c 12 t : Vec Ideal S512x1024 .bf16) (ix2 i k) : EReal) = m ((c.tc : Thread nD τ).loc main_arg9) (ix3 0 i k) := by
  rw [← wl_at m c i k]
  unfold iblk
  refine (View.read_apply ..).trans ?_
  show V m c main_v14 _ = _
  refine congrArg (V m c main_v14) (funext fun a => Fin.ext ?_)
  match a with
  | ⟨0, _⟩ => show 0 * 512 + 1 * i.val = i.val; omega
  | ⟨1, _⟩ => show 0 * 1024 + 1 * k.val = k.val; omega

theorem wo_block (i k : Fin 1024) :
    ((iblk m c 13 t : Vec Ideal S1024x1024 .bf16) (ix2 i k) : EReal) = m ((c.tc : Thread nD τ).loc main_arg10) (ix3 0 i k) := by
  rw [← wo_at m c i k]
  unfold iblk
  refine (View.read_apply ..).trans ?_
  show V m c main_v17 _ = _
  refine congrArg (V m c main_v17) (funext fun a => Fin.ext ?_)
  match a with
  | ⟨0, _⟩ => show 0 * 1024 + 1 * i.val = i.val; omega
  | ⟨1, _⟩ => show 0 * 1024 + 1 * k.val = k.val; omega

end Cert.MergeIdeal.Hand

end
-- ==== Proof.MergeSpec.lean ====
/- The merge's result, over the extended reals: the three branches' projections under their gates, through the last weights. -/
module

public import proofs.«01_k».proof.Proof.InprojSpec
public import Idealize.ShloMosaic.Lib.IdealHost

@[expose] public section

noncomputable section

namespace Cert.Merge.Spec

open Idealize.ShloMosaic
open Idealize.ShloMosaic.ValueIdx
open scoped BigOperators

variable (h : FVec Ideal ⟨2, ![33792, 1024]⟩ .f32) (g : FVec Ideal ⟨2, ![2, 1024]⟩ .f32) (w : FVec Ideal ⟨3, ![2, 1024, 7172]⟩ .f32)
  (b : FVec Ideal ⟨2, ![2, 3072]⟩ .f32) (yf ys yl : FVec Ideal ⟨2, ![33792, 512]⟩ .bf16)
  (wf ws wl : FVec Ideal ⟨3, ![2, 512, 1024]⟩ .f32) (wo : FVec Ideal ⟨3, ![2, 1024, 1024]⟩ .f32)

/-- One gate: the normalised row against its weight column, which lies past the branches' 4100, plus its bias. -/
def gate (r : Fin 33792) (n : Fin 3072) : EReal :=
  Ideal.logistic (Inproj.Spec.proj h g w r ⟨4100 + n.val, by omega⟩ + b (ix2 0 n))

/-- A branch's row against one output column. -/
def branch (y : FVec Ideal ⟨2, ![33792, 512]⟩ .bf16) (o : FVec Ideal ⟨3, ![2, 512, 1024]⟩ .f32) (r : Fin 33792) (k : Fin 1024) : EReal :=
  ∑ i : Fin 512, (y (ix2 r i) : EReal) * o (ix3 0 i k)

/-- The gated sum of the three branches. -/
def merged (r : Fin 33792) (k : Fin 1024) : EReal :=
  gate h g w b r ⟨k.val, by omega⟩ * branch yf wf r k + gate h g w b r ⟨1024 + k.val, by omega⟩ * branch ys ws r k
    + gate h g w b r ⟨2048 + k.val, by omega⟩ * branch yl wl r k

/-- The result: the row plus the merged row through the last weights. -/
def result : FVec Ideal ⟨2, ![33792, 1024]⟩ .f32 :=
  fun i => (h (ix2 (i 0) (i 1)) : EReal) + ∑ k : Fin 1024, merged h g w b yf ys yl wf ws wl (i 0) k * wo (ix3 0 k (i 1))

end Cert.Merge.Spec

end
-- ==== Proof.MergeValue.lean ====
/- The merge's array after the run: the row plus the gated sum of the three branches through the last weights. -/
module

public import proofs.«01_k».proof.Proof.MergeScratch
public import proofs.«01_k».proof.Proof.MergeBlocks
public import proofs.«01_k».proof.Proof.MergeSpec

@[expose] public section

set_option maxRecDepth 16384

noncomputable section

namespace Cert.MergeIdeal.Hand

open Idealize.ShloMosaic hiding ix1 ix2 ix3 ix4
open Idealize.ShloMosaic.ValueIdx Idealize.ShloMosaic.TcCoe Idealize.SL.Sem Cert.MergeIdeal Cert.MergeIdeal.Gen Cert.Norm
open Idealize.ShloMosaic.Pipeline (Dat)
open scoped BigOperators

/-! ## A tile over its inputs -/

/-- 1024 of the scratch buffer's columns, from `off`. -/
theorem ldW_at (W : FVec Ideal S2x1024x7172 .f32) (off : Nat) (inb) (ho : off + 1024 ≤ 3072) (j k : Fin 1024) :
    (ldW (F := Ideal) (GW W) off inb (ix2 j k) : EReal) = W (ix3 0 j ⟨4100 + (off + k.val), by omega⟩) :=
  emb_scr W off inb ho j k

/-- 1024 of the bias's entries, from `off`. -/
theorem ldB_at (b : Vec Ideal S1x3072 .f32) (off : Nat) (inb) (ho : off + 1024 ≤ 3072) (k : Fin 1024) :
    (ldB (F := Ideal) b off inb (ix2 0 k) : EReal) = b (ix2 0 ⟨off + k.val, by omega⟩) := by
  refine congrArg b (funext fun a => Fin.ext ?_)
  match a with
  | ⟨0, _⟩ => rfl
  | ⟨1, _⟩ => show off + 1 * k.val = off + k.val; omega

section
variable (h : FVec Ideal S33792x1024 .f32) (g : FVec Ideal S2x1024 .f32) (W : FVec Ideal S2x1024x7172 .f32) (b : FVec Ideal S2x3072 .f32)
  (x0 : Vec Ideal S512x1024 .f32) (x1 : Vec Ideal S1x1024 .f32) (x6 : Vec Ideal S1x3072 .f32) (r : Fin 512) (R : Fin 33792)

/-- The normalised row a tile starts from. -/
theorem norm_eq (h0 : ∀ k : Fin 1024, (x0 (ix2 r k) : EReal) = h (ix2 R k)) (h1 : ∀ k : Fin 1024, (x1 (ix2 0 k) : EReal) = g (ix2 0 k)) (j : Fin 1024) :
    (k0_pay5 (F := Ideal) x0 x1 (ix2 r j) : EReal) = norm (fun k => h (ix2 R k)) (fun k => g (ix2 0 k)) j := by
  refine (pay5_at ..).trans ?_
  rw [funext h0, funext h1]

/-- A gate's columns before the bias: the projection past the branches' 4100. -/
theorem proj_eq (h0 : ∀ k : Fin 1024, (x0 (ix2 r k) : EReal) = h (ix2 R k)) (h1 : ∀ k : Fin 1024, (x1 (ix2 0 k) : EReal) = g (ix2 0 k))
    (off : Nat) (inb) (ho : off + 1024 ≤ 3072) (k : Fin 1024) :
    (∑ j : Fin 1024, (k0_pay5 (F := Ideal) x0 x1 (ix2 r j) : EReal) * ldW (F := Ideal) (GW W) off inb (ix2 j k))
      = Inproj.Spec.proj h g W R ⟨4100 + (off + k.val), by omega⟩ :=
  Finset.sum_congr rfl fun j _ => congrArg₂ (· * ·) (norm_eq h g x0 x1 r R h0 h1 j) (ldW_at W off inb ho j k)

/-- A gate, given its columns before the bias. -/
theorem gate_eq (h6 : ∀ n : Fin 3072, (x6 (ix2 0 n) : EReal) = b (ix2 0 n)) (off : Nat) (inb) (ho : off + 1024 ≤ 3072) (k : Fin 1024) (p : EReal)
    (hp : p = Inproj.Spec.proj h g W R ⟨4100 + (off + k.val), by omega⟩) :
    Ideal.logistic (p + (ldB (F := Ideal) x6 off inb (ix2 0 k) : EReal)) = Merge.Spec.gate h g W b R ⟨off + k.val, by omega⟩ := by
  rw [ldB_at x6 off inb ho k, h6, hp]
  rfl

/-- A branch's row against an output column. -/
theorem branch_eq (x : Vec Ideal S512x512 .bf16) (o : Vec Ideal S512x1024 .bf16) (y : FVec Ideal S33792x512 .bf16) (O : FVec Ideal S2x512x1024 .f32)
    (hx : ∀ i : Fin 512, (x (ix2 r i) : EReal) = y (ix2 R i)) (k : Fin 1024) (ho : ∀ i : Fin 512, (o (ix2 i k) : EReal) = O (ix3 0 i k)) :
    (∑ i : Fin 512, (x (ix2 r i) : EReal) * o (ix2 i k)) = Merge.Spec.branch y O R k :=
  Finset.sum_congr rfl fun i _ => congrArg₂ (· * ·) (hx i) (ho i)

/-- A tile's entry is the result's, whatever the tile's row is called there. -/
theorem tile_at (x7 x8 x9 : Vec Ideal S512x512 .bf16) (x10 x11 x12 : Vec Ideal S512x1024 .bf16) (x13 : Vec Ideal S1024x1024 .bf16)
    (yf ys yl : FVec Ideal S33792x512 .bf16) (wf ws wl : FVec Ideal S2x512x1024 .f32) (wo : FVec Ideal S2x1024x1024 .f32)
    (h0 : ∀ k : Fin 1024, (x0 (ix2 r k) : EReal) = h (ix2 R k)) (h1 : ∀ k : Fin 1024, (x1 (ix2 0 k) : EReal) = g (ix2 0 k))
    (h6 : ∀ n : Fin 3072, (x6 (ix2 0 n) : EReal) = b (ix2 0 n)) (h7 : ∀ i : Fin 512, (x7 (ix2 r i) : EReal) = yf (ix2 R i))
    (h8 : ∀ i : Fin 512, (x8 (ix2 r i) : EReal) = ys (ix2 R i)) (h9 : ∀ i : Fin 512, (x9 (ix2 r i) : EReal) = yl (ix2 R i))
    (h10 : ∀ (i : Fin 512) (k : Fin 1024), (x10 (ix2 i k) : EReal) = wf (ix3 0 i k)) (h11 : ∀ (i : Fin 512) (k : Fin 1024), (x11 (ix2 i k) : EReal) = ws (ix3 0 i k))
    (h12 : ∀ (i : Fin 512) (k : Fin 1024), (x12 (ix2 i k) : EReal) = wl (ix3 0 i k)) (h13 : ∀ i k : Fin 1024, (x13 (ix2 i k) : EReal) = wo (ix3 0 i k)) (j : Fin 1024) :
    (tile (F := Ideal) (GW W) x0 x1 x6 x7 x8 x9 x10 x11 x12 x13 (ix2 r j) : EReal) = Merge.Spec.result h g W b yf ys yl wf ws wl wo (ix2 R j) := by
  unfold tile
  refine (pay1_at ..).trans ?_
  have ef (k : Fin 1024) := (pay6_at x0 x1 (ldW (F := Ideal) (GW W) 0 inb_S1024x3072_S1024x1024_0_0) (ldB (F := Ideal) x6 0 inb_S1x3072_S1x1024_0_0) x7 x10 r k).trans
    (congrArg₂ (· * ·) ((gate_eq h g W b x6 R h6 0 inb_S1x3072_S1x1024_0_0 (by omega) k _
        (proj_eq h g W x0 x1 r R h0 h1 0 inb_S1024x3072_S1024x1024_0_0 (by omega) k)).trans
          (congrArg (Merge.Spec.gate h g W b R) (Fin.ext (Nat.zero_add k.val) : (⟨0 + k.val, by omega⟩ : Fin 3072) = ⟨k.val, by omega⟩)))
      (branch_eq r R x7 x10 yf wf h7 k fun i => h10 i k))
  have es (k : Fin 1024) := congrArg₂ (· * ·) (gate_eq h g W b x6 R h6 1024 inb_S1x3072_S1x1024_0_1024 (by omega) k _
      ((pay7_at x0 x1 (ldW (F := Ideal) (GW W) 1024 inb_S1024x3072_S1024x1024_0_1024) r k).trans
        (proj_eq h g W x0 x1 r R h0 h1 1024 inb_S1024x3072_S1024x1024_0_1024 (by omega) k)))
    (branch_eq r R x8 x11 ys ws h8 k fun i => h11 i k)
  have el (k : Fin 1024) := congrArg₂ (· * ·) (gate_eq h g W b x6 R h6 2048 inb_S1x3072_S1x1024_0_2048 (by omega) k _
      (proj_eq h g W x0 x1 r R h0 h1 2048 inb_S1024x3072_S1024x1024_0_2048 (by omega) k))
    (branch_eq r R x9 x12 yl wl h9 k fun i => h12 i k)
  exact congrArg₂ (· + ·) (h0 j) (Finset.sum_congr rfl fun k _ =>
    congrArg₂ (· * ·) (congrArg₂ (· + ·) (congrArg₂ (· + ·) (ef k) (es k)) (el k)) (h13 k j))

end

variable (m : (ℓ : Loc nD τ sig) → Buf (Elt Ideal) ℓ) (c : Dev nD) (t : Fin cfg0.N)

/-- The result, over the call's arguments. -/
def G : FVec Ideal S33792x1024 .f32 :=
  Merge.Spec.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- A tile is the result's rows of that tile. -/
theorem tile_eq (r : Fin 512) (j : Fin 1024) (R : Fin 33792) (hR : R.val = t.val * 512 + r.val) :
    (tileW m c t (ix2 r j) : EReal) = G m c (ix2 R j) := by
  unfold tileW
  rw [scrW_gw]
  exact tile_at _ _ _ _ _ _ _ r R _ _ _ _ _ _ _ _ _ _ _ _ _ _ (fun k => h_block m c t r k R hR) (g_block m c t) (b_block m c t)
    (fun i => yf_block m c t r i R hR) (fun i => ys_block m c t r i R hR) (fun i => yl_block m c t r i R hR)
    (wf_block m c t) (ws_block m c t) (wl_block m c t) (wo_block m c t) j

/-! ## The array -/

/-- A tile's write-back writes the result's rows of that tile. -/
theorem flushed14 (hf : (cfg0.win 14).flush t = true) :
    (dats m 0 c).flushed 14 t = ((cfg0.win 14).blk t).view.read (Elt Ideal) (G m c) := by
  have ht : t.val < 66 := Nat.lt_of_lt_of_eq t.isLt N_0
  show (cfg0.win 14).cut (grid0.coords t) ((dats m 0 c).after 14 t) = _
  rw [after0_14]
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (tile_eq m c t r j ⟨t.val * 512 + r.val, by omega⟩ rfl).trans ?_
  refine Eq.trans ?_ (View.read_apply ..).symm
  refine congrArg (G m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the array lies in some tile's write-back. -/
theorem covered14 (i : S33792x1024.Idx) : ∃ t : Fin cfg0.N, (cfg0.win 14).flush t = true ∧ i ∈ ((cfg0.win 14).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_14 (grid0.coords t) 0 = (i 0 : Nat) / 512 := tile_index t
  refine ⟨t, flush0_14 t, ?_⟩
  refine (iff_of_eq (congrArg (fun s => i ∈ s) (View.set_slice_whole main_v18 ((cfg0.win 14).rect t)))).mpr ?_
  refine (Rect.mem_set_unit ..).mpr ?_
  intro a
  match a with
  | ⟨0, _⟩ =>
    show cc0_transform_14 (grid0.coords t) 0 * 512 ≤ (i 0 : Nat) ∧ (i 0 : Nat) < cc0_transform_14 (grid0.coords t) 0 * 512 + 512
    rw [hi']; omega
  | ⟨1, _⟩ => show 0 * 1024 ≤ (i 1 : Nat) ∧ (i 1 : Nat) < 0 * 1024 + 1024; omega

/-- So the array ends at the result. -/
theorem final14 : (dats m 0 c).arrAt 14 cfg0.N = G m c :=
  (dats m 0 c).arrAt_eq_of_cover 14 (G m c) (flushed14 m c) covered14

/-! ## The run -/

variable (ρ : Dev nD → PrngReg)

/-- After a run the kernel's array holds the result and its arguments are as launched. -/
theorem run : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 14).trans (final14 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.MergeIdeal.Hand

end
-- ==== Proof.MergeRef.lean ====
/- The merge's reference is `Cert.Merge.Spec`'s result of its arguments. -/
module

public import proofs.«01_k».proof.Proof.MergeSpec
public import proofs.«01_k».proof.Proof.Gen.MergeReferenceIdeal.Read
public import Idealize.ShloMosaic.Lib.IdealHost
public import Idealize.ShloMosaic.Lib.Pipeline.Value

@[expose] public section

set_option maxRecDepth 16384

noncomputable section

namespace Cert.MergeReferenceIdeal.Rows

open Cert.MergeReferenceIdeal Cert.MergeReferenceIdeal.Gen Cert.MergeReferenceIdeal.Read Idealize.ShloMosaic Idealize.ShloMosaic.ValueIdx Cert.Norm
open scoped BigOperators

variable (x0 : FVec Ideal S33792x1024 .f32) (x1 : FVec Ideal S2x1024 .f32) (x2 : FVec Ideal S2x1024x7172 .f32) (x3 : FVec Ideal S2x3072 .f32)
  (x4 x5 x6 : FVec Ideal S33792x512 .bf16) (x7 x8 x9 : FVec Ideal S2x512x1024 .f32) (x10 : FVec Ideal S2x1024x1024 .f32)

/-- A row of the rows, and the gain the reference multiplies by. -/
abbrev row (r : Fin 33792) : Fin 1024 → EReal := fun k => x0 (ix2 r k)
abbrev gain : Fin 1024 → EReal := fun k => x1 (ix2 0 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 0 j from funext fun a => Fin.ext (match a with
      | ⟨0, _⟩ => rfl
      | ⟨1, _⟩ => (by show j.val % 1024 = j.val; omega))]
  rfl

/-- The gate weights: the first layer's columns past the branches'. -/
theorem v17_at (j : Fin 1024) (n : Fin 3072) : (val_main_v17 (F := Ideal) x2 (ix2 j n) : EReal) = x2 (ix3 0 j ⟨4100 + n.val, by omega⟩) := by
  rw [val_main_v17_apply, val_main_v16_apply, val_main_v15_apply]
  refine congrArg x2 (funext fun a => Fin.ext ?_)
  match a with
  | ⟨0, _⟩ => rfl
  | ⟨1, _⟩ => show (j.val * 7172 + (4100 + n.val)) / 7172 % 1024 = j.val; omega
  | ⟨2, _⟩ => show (j.val * 7172 + (4100 + n.val)) % 7172 = 4100 + n.val; omega

/-- Their product. -/
theorem v18_at (r : Fin 33792) (n : Fin 3072) :
    (val_main_v18 (F := Ideal) x0 x1 x2 (ix2 r n) : EReal) = Inproj.Spec.proj x0 x1 x2 r ⟨4100 + n.val, by omega⟩ := by
  rw [val_main_v18_apply]
  refine Finset.sum_congr rfl fun j _ => ?_
  rw [show lidx_main_v18 (ix2 r n) j = ix2 r j from funext fun a => match a with | ⟨0, _⟩ => rfl | ⟨1, _⟩ => rfl,
    show ridx_main_v18 (ix2 r n) j = ix2 j n from funext fun a => match a with | ⟨0, _⟩ => rfl | ⟨1, _⟩ => rfl, v14_at, v17_at]

/-- The bias of the first layer. -/
theorem v22_at (r : Fin 33792) (n : Fin 3072) : (val_main_v22 (F := Ideal) x3 (ix2 r n) : EReal) = x3 (ix2 0 n) := by
  rw [val_main_v22_apply, val_main_v21_apply, val_main_v20_apply, val_main_v19_apply]
  refine congrArg x3 (funext fun a => Fin.ext ?_)
  match a with
  | ⟨0, _⟩ => rfl
  | ⟨1, _⟩ => show n.val % 3072 = n.val; omega

/-- The gates. -/
theorem v29_at (r : Fin 33792) (n : Fin 3072) : (val_main_v29 (F := Ideal) x0 x1 x2 x3 (ix2 r n) : EReal) = Merge.Spec.gate x0 x1 x2 x3 r n := by
  rw [val_main_v29_apply, val_main_v28_apply, val_main_v27_apply, val_main_v26_apply, val_main_v25_apply, val_main_v24_apply,
    val_main_v23_apply, v18_at, v22_at, val_main_cst_2_apply, val_main_cst_3_apply, Ideal.ofBits_def, Ideal.ofBits_one_f32]
  rfl

/-- The gates of each branch. -/
theorem v44_at (r : Fin 33792) (k : Fin 1024) :
    (val_main_v44 (F := Ideal) x0 x1 x2 x3 (ix2 r k) : EReal) = Merge.Spec.gate x0 x1 x2 x3 r ⟨k.val, by omega⟩ := by
  rw [val_main_v44_apply, val_main_v43_apply, val_main_v30_apply, ← v29_at]
  refine congrArg (val_main_v29 (F := Ideal) x0 x1 x2 x3) (funext fun a => Fin.ext ?_)
  match a with
  | ⟨0, _⟩ => show (((r.val * 1024 + k.val) / 1024 * 3 + 0) * 1024 + (r.val * 1024 + k.val) % 1024) / 3072 = r.val; omega
  | ⟨1, _⟩ => show (((r.val * 1024 + k.val) / 1024 * 3 + 0) * 1024 + (r.val * 1024 + k.val) % 1024) % 3072 = k.val; omega

theorem v47_at (r : Fin 33792) (k : Fin 1024) :
    (val_main_v47 (F := Ideal) x0 x1 x2 x3 (ix2 r k) : EReal) = Merge.Spec.gate x0 x1 x2 x3 r ⟨1024 + k.val, by omega⟩ := by
  rw [val_main_v47_apply, val_main_v46_apply, val_main_v30_apply, ← v29_at]
  refine congrArg (val_main_v29 (F := Ideal) x0 x1 x2 x3) (funext fun a => Fin.ext ?_)
  match a with
  | ⟨0, _⟩ => show (((r.val * 1024 + k.val) / 1024 * 3 + (1 + 0)) * 1024 + (r.val * 1024 + k.val) % 1024) / 3072 = r.val; omega
  | ⟨1, _⟩ => show (((r.val * 1024 + k.val) / 1024 * 3 + (1 + 0)) * 1024 + (r.val * 1024 + k.val) % 1024) % 3072 = 1024 + k.val; omega

theorem v51_at (r : Fin 33792) (k : Fin 1024) :
    (val_main_v51 (F := Ideal) x0 x1 x2 x3 (ix2 r k) : EReal) = Merge.Spec.gate x0 x1 x2 x3 r ⟨2048 + k.val, by omega⟩ := by
  rw [val_main_v51_apply, val_main_v50_apply, val_main_v30_apply, ← v29_at]
  refine congrArg (val_main_v29 (F := Ideal) x0 x1 x2 x3) (funext fun a => Fin.ext ?_)
  match a with
  | ⟨0, _⟩ => show (((r.val * 1024 + k.val) / 1024 * 3 + (2 + 0)) * 1024 + (r.val * 1024 + k.val) % 1024) / 3072 = r.val; omega
  | ⟨1, _⟩ => show (((r.val * 1024 + k.val) / 1024 * 3 + (2 + 0)) * 1024 + (r.val * 1024 + k.val) % 1024) % 3072 = 2048 + k.val; omega

/-- The branches' weights, of the first layer, -/
theorem v33_at (i : Fin 512) (k : Fin 1024) : (val_main_v33 (F := Ideal) x7 (ix2 i k) : EReal) = x7 (ix3 0 i k) := by
  rw [val_main_v33_apply, val_main_v32_apply]
  refine congrArg x7 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

theorem v37_at (i : Fin 512) (k : Fin 1024) : (val_main_v37 (F := Ideal) x8 (ix2 i k) : EReal) = x8 (ix3 0 i k) := by
  rw [val_main_v37_apply, val_main_v36_apply]
  refine congrArg x8 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

theorem v41_at (i : Fin 512) (k : Fin 1024) : (val_main_v41 (F := Ideal) x9 (ix2 i k) : EReal) = x9 (ix3 0 i k) := by
  rw [val_main_v41_apply, val_main_v40_apply]
  refine congrArg x9 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

/-- and the last weights. -/
theorem v55_at (k c : Fin 1024) : (val_main_v55 (F := Ideal) x10 (ix2 k c) : EReal) = x10 (ix3 0 k c) := by
  rw [val_main_v55_apply, val_main_v54_apply]
  refine congrArg x10 (funext fun a => Fin.ext ?_)
  match a with
  | ⟨0, _⟩ => rfl
  | ⟨1, _⟩ => show (k.val * 1024 + c.val) / 1024 % 1024 = k.val; omega
  | ⟨2, _⟩ => show (k.val * 1024 + c.val) % 1024 = c.val; omega

/-- The branches. -/
theorem v34_at (r : Fin 33792) (k : Fin 1024) : (val_main_v34 (F := Ideal) x4 x7 (ix2 r k) : EReal) = Merge.Spec.branch x4 x7 r k := by
  rw [val_main_v34_apply]
  refine Finset.sum_congr rfl fun i _ => ?_
  rw [show lidx_main_v34 (ix2 r k) i = ix2 r i from funext fun a => match a with | ⟨0, _⟩ => rfl | ⟨1, _⟩ => rfl,
    show ridx_main_v34 (ix2 r k) i = ix2 i k from funext fun a => match a with | ⟨0, _⟩ => rfl | ⟨1, _⟩ => rfl, v33_at, val_main_v31_apply]
  rfl

theorem v38_at (r : Fin 33792) (k : Fin 1024) : (val_main_v38 (F := Ideal) x5 x8 (ix2 r k) : EReal) = Merge.Spec.branch x5 x8 r k := by
  rw [val_main_v38_apply]
  refine Finset.sum_congr rfl fun i _ => ?_
  rw [show lidx_main_v38 (ix2 r k) i = ix2 r i from funext fun a => match a with | ⟨0, _⟩ => rfl | ⟨1, _⟩ => rfl,
    show ridx_main_v38 (ix2 r k) i = ix2 i k from funext fun a => match a with | ⟨0, _⟩ => rfl | ⟨1, _⟩ => rfl, v37_at, val_main_v35_apply]
  rfl

theorem v42_at (r : Fin 33792) (k : Fin 1024) : (val_main_v42 (F := Ideal) x6 x9 (ix2 r k) : EReal) = Merge.Spec.branch x6 x9 r k := by
  rw [val_main_v42_apply]
  refine Finset.sum_congr rfl fun i _ => ?_
  rw [show lidx_main_v42 (ix2 r k) i = ix2 r i from funext fun a => match a with | ⟨0, _⟩ => rfl | ⟨1, _⟩ => rfl,
    show ridx_main_v42 (ix2 r k) i = ix2 i k from funext fun a => match a with | ⟨0, _⟩ => rfl | ⟨1, _⟩ => rfl, v41_at, val_main_v39_apply]
  rfl

/-- Their gated sum. -/
theorem v53_at (r : Fin 33792) (k : Fin 1024) :
    (val_main_v53 (F := Ideal) x0 x1 x2 x3 x4 x5 x6 x7 x8 x9 (ix2 r k) : EReal) = Merge.Spec.merged x0 x1 x2 x3 x4 x5 x6 x7 x8 x9 r k := by
  rw [val_main_v53_apply, val_main_v52_apply, val_main_v49_apply, val_main_v48_apply, val_main_v45_apply, v44_at, v47_at, v51_at, v34_at, v38_at, v42_at]
  rfl

/-- The reference's result. -/
theorem result_eq :
    val_main_v57 (F := Ideal) x0 x1 x2 x3 x4 x5 x6 x7 x8 x9 x10 = Merge.Spec.result x0 x1 x2 x3 x4 x5 x6 x7 x8 x9 x10 := by
  funext i
  obtain ⟨r, c, rfl⟩ : ∃ (r : Fin 33792) (c : Fin 1024), i = ix2 r c := ⟨i 0, i 1, ValueIdx.eq_ix2 i⟩
  rw [val_main_v57_apply, val_main_v56_apply]
  refine congrArg (fun z : EReal => (x0 (ix2 r c) : EReal) + z) (Finset.sum_congr rfl fun k _ => ?_)
  rw [show lidx_main_v56 (ix2 r c) k = ix2 r k from funext fun a => match a with | ⟨0, _⟩ => rfl | ⟨1, _⟩ => rfl,
    show ridx_main_v56 (ix2 r c) k = ix2 k c from funext fun a => match a with | ⟨0, _⟩ => rfl | ⟨1, _⟩ => rfl, v53_at, v55_at]

end Cert.MergeReferenceIdeal.Rows

end
-- ==== Proof.Inproj1Spec.lean ====
/- The second layer's input projection's results, over the extended reals: a row's normalised entries against columns of the weights. -/
module

public import proofs.«01_k».proof.Proof.NormSpec
public import Idealize.ShloMosaic.Lib.IdealHost

@[expose] public section

noncomputable section

namespace Cert.Inproj1.Spec

open Idealize.ShloMosaic
open Idealize.ShloMosaic.ValueIdx Cert.Norm
open scoped BigOperators

/-- The attention scale. -/
def scale : EReal := FloatOps.ofBits (F := Ideal) .f32 0x3DB504F3#32

/-- The weight column behind a column of the attention projections: the second branch's lie four further on. -/
def col (c : Fin 3072) : Fin 7172 := ⟨if c.val < 1536 then c.val else c.val + 4, by split <;> omega⟩

/-- A normalised row against one weight column. -/
def proj (h : FVec Ideal ⟨2, ![33792, 1024]⟩ .f32) (g : FVec Ideal ⟨2, ![2, 1024]⟩ .f32) (w : FVec Ideal ⟨3, ![2, 1024, 7172]⟩ .f32)
    (r : Fin 33792) (n : Fin 7172) : EReal :=
  ∑ j : Fin 1024, norm (fun k => h (ix2 r k)) (fun k => g (ix2 1 k)) j * w (ix3 1 j n)

/-- The attention projections: each branch's queries, its first 512 columns, scaled. -/
def qkv (h : FVec Ideal ⟨2, ![33792, 1024]⟩ .f32) (g : FVec Ideal ⟨2, ![2, 1024]⟩ .f32) (w : FVec Ideal ⟨3, ![2, 1024, 7172]⟩ .f32) :
    FVec Ideal ⟨2, ![33792, 3072]⟩ .bf16 :=
  fun i => if (i 1).val % 1536 < 512 then proj h g w (i 0) (col (i 1)) * scale else proj h g w (i 0) (col (i 1))

/-- The recurrent unit's projection. -/
def lru (h : FVec Ideal ⟨2, ![33792, 1024]⟩ .f32) (g : FVec Ideal ⟨2, ![2, 1024]⟩ .f32) (w : FVec Ideal ⟨3, ![2, 1024, 7172]⟩ .f32) :
    FVec Ideal ⟨2, ![33792, 1024]⟩ .f32 :=
  fun i => proj h g w (i 0) ⟨3076 + (i 1).val, by have h : (i 1).val < 1024 := (i 1).isLt; omega⟩

/-- The forget gate's projection. -/
def gate (h : FVec Ideal ⟨2, ![33792, 1024]⟩ .f32) (g : FVec Ideal ⟨2, ![2, 1024]⟩ .f32) (w : FVec Ideal ⟨3, ![2, 1024, 7172]⟩ .f32) :
    FVec Ideal ⟨2, ![33792, 128]⟩ .f32 :=
  fun i => proj h g w (i 0) ⟨1536 + (i 1).val, by have h : (i 1).val < 128 := (i 1).isLt; omega⟩

end Cert.Inproj1.Spec

end
-- ==== Proof.Inproj1Pay.lean ====
/- The arithmetic of one row tile of the second layer's input projection, over the extended reals and at one element. -/
module

public import proofs.«01_k».proof.Proof.NormSpec
public import proofs.«01_k».proof.Proof.Gen.Inproj1Ideal.Skeleton
public import Idealize.ShloMosaic.Lib.Pointwise

@[expose] public section

set_option maxRecDepth 16384

noncomputable section

namespace Cert.Inproj1Ideal.Tile

open Idealize.ShloMosaic hiding ix1 ix2 ix3 ix4
open Idealize.ShloMosaic.ValueIdx Cert.Inproj1Ideal Cert.Inproj1Ideal.Gen Cert.Norm
open scoped BigOperators

/-- The factor the query columns are scaled by. -/
abbrev scale : EReal := FloatOps.ofBits (F := Ideal) .f32 0x3DB504F3#32

/-- The normalised row. -/
theorem pay12_at (x : Vec Ideal S512x1024 .f32) (g : Vec Ideal S1x1024 .f32) (r : Fin 512) (j : Fin 1024) :
    (k0_pay12 (F := Ideal) x g (ix2 r j) : EReal) = norm (fun k => x (ix2 r k)) (fun k => g (ix2 0 k)) j := by
  pointwise [k0_pay12]
  rfl

variable (n : FVec Ideal S512x1024 .bf16) (v : Vec Ideal S1024x512 .bf16) (r k : Fin 512)

/-- The query columns of the second branch: scaled; -/
theorem pay1_at : (k0_pay1 (F := Ideal) n v (ix2 r k) : EReal) = (∑ j : Fin 1024, (n (ix2 r j) : EReal) * v (ix2 j k)) * scale := by
  pointwise [k0_pay1]
  rfl

/-- its other columns: as they are; -/
theorem pay2_at : (k0_pay2 (F := Ideal) n v (ix2 r k) : EReal) = ∑ j : Fin 1024, (n (ix2 r j) : EReal) * v (ix2 j k) := by
  pointwise [k0_pay2]
  rfl

theorem pay3_at : (k0_pay3 (F := Ideal) n v (ix2 r k) : EReal) = ∑ j : Fin 1024, (n (ix2 r j) : EReal) * v (ix2 j k) := by
  pointwise [k0_pay3]
  rfl

variable (x : Vec Ideal S512x1024 .f32) (g : Vec Ideal S1x1024 .f32)

/-- and the same of the first branch. -/
theorem pay13_at : (k0_pay13 (F := Ideal) x g v (ix2 r k) : EReal) = (∑ j : Fin 1024, (k0_pay12 (F := Ideal) x g (ix2 r j) : EReal) * v (ix2 j k)) * scale := by
  pointwise [k0_pay13]
  rfl

theorem pay14_at : (k0_pay14 (F := Ideal) x g v (ix2 r k) : EReal) = ∑ j : Fin 1024, (k0_pay12 (F := Ideal) x g (ix2 r j) : EReal) * v (ix2 j k) := by
  pointwise [k0_pay14]
  rfl

theorem pay15_at : (k0_pay15 (F := Ideal) x g v (ix2 r k) : EReal) = ∑ j : Fin 1024, (k0_pay12 (F := Ideal) x g (ix2 r j) : EReal) * v (ix2 j k) := by
  pointwise [k0_pay15]
  rfl

/-- The recurrent unit's columns, -/
theorem pay4_at (w : Vec Ideal S1024x1024 .bf16) (c : Fin 1024) :
    (k0_pay4 (F := Ideal) n w (ix2 r c) : EReal) = ∑ j : Fin 1024, (n (ix2 r j) : EReal) * w (ix2 j c) := by
  pointwise [k0_pay4]
  rfl

/-- and the forget gate's. -/
theorem pay5_at (w : Vec Ideal S1024x128 .bf16) (c : Fin 128) :
    (k0_pay5 (F := Ideal) n w (ix2 r c) : EReal) = ∑ j : Fin 1024, (n (ix2 r j) : EReal) * w (ix2 j c) := by
  pointwise [k0_pay5]
  rfl

/-! The weights are kept as they are read, their leading axis dropped. -/

theorem pay6_at (w : Vec Ideal S1x1024x1536 .f32) (j : Fin 1024) (c : Fin 1536) : (k0_pay6 (F := Ideal) w (ix2 j c) : EReal) = w (ix3 0 j c) := by
  pointwise [k0_pay6]
  rfl

theorem pay7_at (w : Vec Ideal S1x1024x512 .f32) (j : Fin 1024) (c : Fin 512) : (k0_pay7 (F := Ideal) w (ix2 j c) : EReal) = w (ix3 0 j c) := by
  pointwise [k0_pay7]
  rfl

theorem pay8_at (w : Vec Ideal S1x1024x512 .f32) (j : Fin 1024) (c : Fin 512) : (k0_pay8 (F := Ideal) w (ix2 j c) : EReal) = w (ix3 0 j c) := by
  pointwise [k0_pay8]
  rfl

theorem pay9_at (w : Vec Ideal S1x1024x512 .f32) (j : Fin 1024) (c : Fin 512) : (k0_pay9 (F := Ideal) w (ix2 j c) : EReal) = w (ix3 0 j c) := by
  pointwise [k0_pay9]
  rfl

theorem pay10_at (w : Vec Ideal S1x1024x1024 .f32) (j c : Fin 1024) : (k0_pay10 (F := Ideal) w (ix2 j c) : EReal) = w (ix3 0 j c) := by
  pointwise [k0_pay10]
  rfl

theorem pay11_at (w : Vec Ideal S1x1024x128 .f32) (j : Fin 1024) (c : Fin 128) : (k0_pay11 (F := Ideal) w (ix2 j c) : EReal) = w (ix3 0 j c) := by
  pointwise [k0_pay11]
  rfl

end Cert.Inproj1Ideal.Tile

end
-- ==== Proof.Inproj1Cases.lean ====
/- What one row tile of the second layer's input projection leaves in its buffers, as plain values.

   The first point copies the weight columns it needs into three scratch buffers, closing the gap of four columns between
   the two attention branches; every point reads the weights there, the first after writing them. -/
module

public import proofs.«01_k».proof.Proof.Gen.Inproj1Ideal.Value
public import proofs.«01_k».proof.Proof.Inproj1Pay
public import Idealize.ShloMosaic.Lib.Pipeline.Value
public import Idealize.ShloMosaic.Lib.Pipeline.ReadBack
public import Idealize.ShloMosaic.Lib.Tactic

@[expose] public section

set_option maxRecDepth 16384

noncomputable section

namespace Cert.Inproj1Ideal.Tile

open Idealize.ShloMosaic hiding ix1 ix2 ix3 ix4
open Idealize.ShloMosaic.ValueIdx Idealize.ShloMosaic.TcCoe Idealize.SL.Sem Cert.Inproj1Ideal Cert.Inproj1Ideal.Gen
open scoped BigOperators

theorem hz2 : (![0, 0] : Fin 2 → Nat) = fun _ => 0 := by decide

/-- The weight column behind a column of the attention projections. -/
def colQ (c : Fin 3072) : Fin 4224 := ⟨if c.val < 1536 then c.val else c.val + 4, by split <;> omega⟩

/-- The scratch weights: the attention projections', -/
def W0 (w : Vec Ideal S1x1024x4224 .f32) : Vec Ideal S1024x3072 .bf16 := fun i => w (ix3 0 (i 0) (colQ (i 1)))
/-- the recurrent unit's, -/
def W1 (w : Vec Ideal S1x1024x4224 .f32) : Vec Ideal S1024x1024 .bf16 :=
  fun i => w (ix3 0 (i 0) ⟨3076 + (i 1).val, by have h : (i 1).val < 1024 := (i 1).isLt; omega⟩)
/-- and the forget gate's. -/
def W2 (w : Vec Ideal S1x1024x4224 .f32) : Vec Ideal S1024x128 .bf16 :=
  fun i => w (ix3 0 (i 0) ⟨1536 + (i 1).val, by have h : (i 1).val < 128 := (i 1).isLt; omega⟩)

/-- The attention projections of a tile, over the scratch weights: each branch's first 512 columns scaled. -/
def tileQ (x : Vec Ideal S512x1024 .f32) (g : Vec Ideal S1x1024 .f32) (w : Vec Ideal S1024x3072 .bf16) : Vec Ideal S512x3072 .bf16 := fun i =>
  if (i 1).val % 1536 < 512 then (∑ j : Fin 1024, (k0_pay12 (F := Ideal) x g (ix2 (i 0) j) : EReal) * w (ix2 j (i 1))) * scale
  else ∑ j : Fin 1024, (k0_pay12 (F := Ideal) x g (ix2 (i 0) j) : EReal) * w (ix2 j (i 1))

/-! ## Rectangles of columns, at an index -/

theorem ld_cols (w : Vec Ideal S1024x3072 .bf16) (off : Nat) (inb : ∀ a, (![0, off] : Fin 2 → Nat) a + (![1024, 512] : Fin 2 → Nat) a ≤ S1024x3072.size a)
    (ho : off ≤ 2560) (j : Fin 1024) (k : Fin 512) :
    (View.ld (Val := Elt Ideal) (e' := .bf16) w (Rect.unit (s := S1024x3072) ![0, off] ![1024, 512] inb) (ix2 j k) : EReal) = w (ix2 j ⟨off + k.val, by omega⟩) := by
  refine congrArg w (funext fun a => Fin.ext ?_)
  match a with
  | ⟨0, _⟩ => show 0 + 1 * j.val = j.val; omega
  | ⟨1, _⟩ => show off + 1 * k.val = off + k.val; omega

theorem emb_out (off : Nat) (inb : ∀ a, (![0, off] : Fin 2 → Nat) a + (![512, 512] : Fin 2 → Nat) a ≤ S512x3072.size a) (ho : off ≤ 2560) (r k : Fin 512) :
    (Rect.unit (s := S512x3072) ![0, off] ![512, 512] inb).emb (ix2 r k) = (ix2 r ⟨off + k.val, by omega⟩ : S512x3072.Idx) := by
  refine funext fun a => Fin.ext ?_
  match a with
  | ⟨0, _⟩ => show 0 + 1 * r.val = r.val; omega
  | ⟨1, _⟩ => show off + 1 * k.val = off + k.val; omega

/-- A block of columns scaled, -/
theorem piece_scaled (x : Vec Ideal S512x1024 .f32) (g : Vec Ideal S1x1024 .f32) (w : Vec Ideal S1024x3072 .bf16) (off : Nat) (inb) (inb') (ho : off ≤ 2560)
    (hm : off % 1536 = 0) (p : FVec Ideal S512x512 .bf16)
    (hp : ∀ r k, (p (ix2 r k) : EReal) = (∑ j : Fin 1024, (k0_pay12 (F := Ideal) x g (ix2 r j) : EReal)
      * View.ld (Val := Elt Ideal) (e' := .bf16) w (Rect.unit (s := S1024x3072) ![0, off] ![1024, 512] inb') (ix2 j k)) * scale)
    (y : S512x512.Idx) : (p y : EReal) = tileQ x g w ((Rect.unit (s := S512x3072) ![0, off] ![512, 512] inb).emb y) := by
  obtain ⟨r, k, rfl⟩ : ∃ r k : Fin 512, y = ix2 r k := ⟨y 0, y 1, ValueIdx.eq_ix2 y⟩
  rw [emb_out off inb ho, hp]
  refine Eq.trans ?_ (if_pos (by show (off + k.val) % 1536 < 512; omega)).symm
  exact congrArg (· * scale) (Finset.sum_congr rfl fun j _ => congrArg (fun z : EReal => _ * z) (ld_cols w off inb' ho j k))

/-- and one as it is. -/
theorem piece_plain (x : Vec Ideal S512x1024 .f32) (g : Vec Ideal S1x1024 .f32) (w : Vec Ideal S1024x3072 .bf16) (off : Nat) (inb) (inb') (ho : off ≤ 2560)
    (hm : 512 ≤ off % 1536 ∧ off % 512 = 0) (p : FVec Ideal S512x512 .bf16)
    (hp : ∀ r k, (p (ix2 r k) : EReal) = ∑ j : Fin 1024, (k0_pay12 (F := Ideal) x g (ix2 r j) : EReal)
      * View.ld (Val := Elt Ideal) (e' := .bf16) w (Rect.unit (s := S1024x3072) ![0, off] ![1024, 512] inb') (ix2 j k))
    (y : S512x512.Idx) : (p y : EReal) = tileQ x g w ((Rect.unit (s := S512x3072) ![0, off] ![512, 512] inb).emb y) := by
  obtain ⟨r, k, rfl⟩ : ∃ r k : Fin 512, y = ix2 r k := ⟨y 0, y 1, ValueIdx.eq_ix2 y⟩
  rw [emb_out off inb ho, hp]
  refine Eq.trans ?_ (if_neg (by show ¬(off + k.val) % 1536 < 512; omega)).symm
  exact Finset.sum_congr rfl fun j _ => congrArg (fun z : EReal => _ * z) (ld_cols w off inb' ho j k)

/-- The six column blocks a point stores are the tile's attention projections. -/
theorem canon_tileQ (x : Vec Ideal S512x1024 .f32) (g : Vec Ideal S1x1024 .f32) (w : Vec Ideal S1024x3072 .bf16) :
    View.canon (Val := Elt Ideal) (s := S512x3072) (e := .bf16)
      [⟨Rect.unit (s := S512x3072) ![0, 2560] ![512, 512] inb_S512x3072_S512x512_0_2560,
          k0_pay3 (F := Ideal) (k0_pay12 x g) (View.ld (Val := Elt Ideal) (e' := .bf16) w (Rect.unit (s := S1024x3072) ![0, 2560] ![1024, 512] inb_S1024x3072_S1024x512_0_2560))⟩,
        ⟨Rect.unit (s := S512x3072) ![0, 2048] ![512, 512] inb_S512x3072_S512x512_0_2048,
          k0_pay2 (F := Ideal) (k0_pay12 x g) (View.ld (Val := Elt Ideal) (e' := .bf16) w (Rect.unit (s := S1024x3072) ![0, 2048] ![1024, 512] inb_S1024x3072_S1024x512_0_2048))⟩,
        ⟨Rect.unit (s := S512x3072) ![0, 1536] ![512, 512] inb_S512x3072_S512x512_0_1536,
          k0_pay1 (F := Ideal) (k0_pay12 x g) (View.ld (Val := Elt Ideal) (e' := .bf16) w (Rect.unit (s := S1024x3072) ![0, 1536] ![1024, 512] inb_S1024x3072_S1024x512_0_1536))⟩,
        ⟨Rect.unit (s := S512x3072) ![0, 1024] ![512, 512] inb_S512x3072_S512x512_0_1024,
          k0_pay15 (F := Ideal) x g (View.ld (Val := Elt Ideal) (e' := .bf16) w (Rect.unit (s := S1024x3072) ![0, 1024] ![1024, 512] inb_S1024x3072_S1024x512_0_1024))⟩,
        ⟨Rect.unit (s := S512x3072) ![0, 512] ![512, 512] inb_S512x3072_S512x512_0_512,
          k0_pay14 (F := Ideal) x g (View.ld (Val := Elt Ideal) (e' := .bf16) w (Rect.unit (s := S1024x3072) ![0, 512] ![1024, 512] inb_S1024x3072_S1024x512_0_512))⟩,
        ⟨Rect.unit (s := S512x3072) ![0, 0] ![512, 512] inb_S512x3072_S512x512_0_0,
          k0_pay13 (F := Ideal) x g (View.ld (Val := Elt Ideal) (e' := .bf16) w (Rect.unit (s := S1024x3072) ![0, 0] ![1024, 512] inb_S1024x3072_S1024x512_0_0))⟩]
      = tileQ x g w := by
  funext y
  rw [← List.append_nil (List.cons _ _)]
  refine View.canon_append_of_piecesOf (Val := Elt Ideal) (tileQ x g w) [] _ ?_ y (View.cover_of_tiledL (s := S512x3072) _ ![512, 512] (by sl_kernel_rfl) y)
  exact ⟨piece_plain x g w 2560 inb_S512x3072_S512x512_0_2560 inb_S1024x3072_S1024x512_0_2560 (by omega) (by omega) _ (fun r k => pay3_at _ _ r k),
    piece_plain x g w 2048 inb_S512x3072_S512x512_0_2048 inb_S1024x3072_S1024x512_0_2048 (by omega) (by omega) _ (fun r k => pay2_at _ _ r k),
    piece_scaled x g w 1536 inb_S512x3072_S512x512_0_1536 inb_S1024x3072_S1024x512_0_1536 (by omega) (by omega) _ (fun r k => pay1_at _ _ r k),
    piece_plain x g w 1024 inb_S512x3072_S512x512_0_1024 inb_S1024x3072_S1024x512_0_1024 (by omega) (by omega) _ (fun r k => pay15_at _ r k x g),
    piece_plain x g w 512 inb_S512x3072_S512x512_0_512 inb_S1024x3072_S1024x512_0_512 (by omega) (by omega) _ (fun r k => pay14_at _ r k x g),
    piece_scaled x g w 0 inb_S512x3072_S512x512_0_0 inb_S1024x3072_S1024x512_0_0 (by omega) (by omega) _ (fun r k => pay13_at _ r k x g), trivial⟩

/-- A block of 512 scratch columns is the weights' columns four further on. -/
theorem piece_w (w : Vec Ideal S1x1024x4224 .f32) (off off' : Nat) (inb) (inb' : ∀ a, (![0, 0, off'] : Fin 3 → Nat) a + (![1, 1024, 512] : Fin 3 → Nat) a ≤ S1x1024x4224.size a)
    (ho : 1536 ≤ off ∧ off ≤ 2560 ∧ off' = off + 4) (p : FVec Ideal S1024x512 .bf16)
    (hp : ∀ j k, (p (ix2 j k) : EReal) = View.ld (Val := Elt Ideal) (e' := .f32) w (Rect.unit (s := S1x1024x4224) ![0, 0, off'] ![1, 1024, 512] inb') (ix3 0 j k))
    (y : S1024x512.Idx) : (p y : EReal) = W0 w ((Rect.unit (s := S1024x3072) ![0, off] ![1024, 512] inb).emb y) := by
  obtain ⟨j, k, rfl⟩ : ∃ (j : Fin 1024) (k : Fin 512), y = ix2 j k := ⟨y 0, y 1, ValueIdx.eq_ix2 y⟩
  rw [hp]
  refine congrArg w (funext fun a => Fin.ext ?_)
  match a with
  | ⟨0, _⟩ => rfl
  | ⟨1, _⟩ => rfl
  | ⟨2, _⟩ =>
    show off' + 1 * k.val = if off + 1 * k.val < 1536 then off + 1 * k.val else off + 1 * k.val + 4
    rw [if_neg (by omega)]; omega

/-- The first 1536 scratch columns are the weights' own. -/
theorem piece_w0 (w : Vec Ideal S1x1024x4224 .f32) (y : S1024x1536.Idx) :
    (k0_pay6 (F := Ideal) (View.ld (Val := Elt Ideal) (e' := .f32) w (Rect.unit (s := S1x1024x4224) ![0, 0, 0] ![1, 1024, 1536] inb_S1x1024x4224_S1x1024x1536_0_0_0)) y : EReal)
      = W0 w ((Rect.unit (s := S1024x3072) ![0, 0] ![1024, 1536] inb_S1024x3072_S1024x1536_0_0).emb y) := by
  obtain ⟨j, k, rfl⟩ : ∃ (j : Fin 1024) (k : Fin 1536), y = ix2 j k := ⟨y 0, y 1, ValueIdx.eq_ix2 y⟩
  have hk := k.isLt
  refine (pay6_at _ j k).trans (congrArg w (funext fun a => Fin.ext ?_))
  match a with
  | ⟨0, _⟩ => rfl
  | ⟨1, _⟩ => rfl
  | ⟨2, _⟩ => exact (if_pos (show 0 + 1 * k.val < 1536 by omega)).symm

/-- The next 512 columns, -/
theorem piece_w1 (w : Vec Ideal S1x1024x4224 .f32) (y : S1024x512.Idx) :
    (k0_pay7 (F := Ideal) (View.ld (Val := Elt Ideal) (e' := .f32) w (Rect.unit (s := S1x1024x4224) ![0, 0, 1540] ![1, 1024, 512] inb_S1x1024x4224_S1x1024x512_0_0_1540)) y : EReal)
      = W0 w ((Rect.unit (s := S1024x3072) ![0, 1536] ![1024, 512] inb_S1024x3072_S1024x512_0_1536).emb y) :=
  piece_w w 1536 1540 inb_S1024x3072_S1024x512_0_1536 inb_S1x1024x4224_S1x1024x512_0_0_1540 (by omega)
    (k0_pay7 (F := Ideal) (View.ld (Val := Elt Ideal) (e' := .f32) w (Rect.unit (s := S1x1024x4224) ![0, 0, 1540] ![1, 1024, 512] inb_S1x1024x4224_S1x1024x512_0_0_1540)))
    (fun j k => pay7_at (View.ld (Val := Elt Ideal) (e' := .f32) w (Rect.unit (s := S1x1024x4224) ![0, 0, 1540] ![1, 1024, 512] inb_S1x1024x4224_S1x1024x512_0_0_1540)) j k) y

/-- the next -/
theorem piece_w2 (w : Vec Ideal S1x1024x4224 .f32) (y : S1024x512.Idx) :
    (k0_pay8 (F := Ideal) (View.ld (Val := Elt Ideal) (e' := .f32) w (Rect.unit (s := S1x1024x4224) ![0, 0, 2052] ![1, 1024, 512] inb_S1x1024x4224_S1x1024x512_0_0_2052)) y : EReal)
      = W0 w ((Rect.unit (s := S1024x3072) ![0, 2048] ![1024, 512] inb_S1024x3072_S1024x512_0_2048).emb y) :=
  piece_w w 2048 2052 inb_S1024x3072_S1024x512_0_2048 inb_S1x1024x4224_S1x1024x512_0_0_2052 (by omega)
    (k0_pay8 (F := Ideal) (View.ld (Val := Elt Ideal) (e' := .f32) w (Rect.unit (s := S1x1024x4224) ![0, 0, 2052] ![1, 1024, 512] inb_S1x1024x4224_S1x1024x512_0_0_2052)))
    (fun j k => pay8_at (View.ld (Val := Elt Ideal) (e' := .f32) w (Rect.unit (s := S1x1024x4224) ![0, 0, 2052] ![1, 1024, 512] inb_S1x1024x4224_S1x1024x512_0_0_2052)) j k) y

/-- and the last. -/
theorem piece_w3 (w : Vec Ideal S1x1024x4224 .f32) (y : S1024x512.Idx) :
    (k0_pay9 (F := Ideal) (View.ld (Val := Elt Ideal) (e' := .f32) w (Rect.unit (s := S1x1024x4224) ![0, 0, 2564] ![1, 1024, 512] inb_S1x1024x4224_S1x1024x512_0_0_2564)) y : EReal)
      = W0 w ((Rect.unit (s := S1024x3072) ![0, 2560] ![1024, 512] inb_S1024x3072_S1024x512_0_2560).emb y) :=
  piece_w w 2560 2564 inb_S1024x3072_S1024x512_0_2560 inb_S1x1024x4224_S1x1024x512_0_0_2564 (by omega)
    (k0_pay9 (F := Ideal) (View.ld (Val := Elt Ideal) (e' := .f32) w (Rect.unit (s := S1x1024x4224) ![0, 0, 2564] ![1, 1024, 512] inb_S1x1024x4224_S1x1024x512_0_0_2564)))
    (fun j k => pay9_at (View.ld (Val := Elt Ideal) (e' := .f32) w (Rect.unit (s := S1x1024x4224) ![0, 0, 2564] ![1, 1024, 512] inb_S1x1024x4224_S1x1024x512_0_0_2564)) j k) y

/-- The four blocks the first point stores are the attention projections' weights. -/
theorem canon_W0 (w : Vec Ideal S1x1024x4224 .f32) :
    View.canon (Val := Elt Ideal) (s := S1024x3072) (e := .bf16)
      [⟨Rect.unit (s := S1024x3072) ![0, 2560] ![1024, 512] inb_S1024x3072_S1024x512_0_2560,
          k0_pay9 (F := Ideal) (View.ld (Val := Elt Ideal) (e' := .f32) w (Rect.unit (s := S1x1024x4224) ![0, 0, 2564] ![1, 1024, 512] inb_S1x1024x4224_S1x1024x512_0_0_2564))⟩,
        ⟨Rect.unit (s := S1024x3072) ![0, 2048] ![1024, 512] inb_S1024x3072_S1024x512_0_2048,
          k0_pay8 (F := Ideal) (View.ld (Val := Elt Ideal) (e' := .f32) w (Rect.unit (s := S1x1024x4224) ![0, 0, 2052] ![1, 1024, 512] inb_S1x1024x4224_S1x1024x512_0_0_2052))⟩,
        ⟨Rect.unit (s := S1024x3072) ![0, 1536] ![1024, 512] inb_S1024x3072_S1024x512_0_1536,
          k0_pay7 (F := Ideal) (View.ld (Val := Elt Ideal) (e' := .f32) w (Rect.unit (s := S1x1024x4224) ![0, 0, 1540] ![1, 1024, 512] inb_S1x1024x4224_S1x1024x512_0_0_1540))⟩,
        ⟨Rect.unit (s := S1024x3072) ![0, 0] ![1024, 1536] inb_S1024x3072_S1024x1536_0_0,
          k0_pay6 (F := Ideal) (View.ld (Val := Elt Ideal) (e' := .f32) w (Rect.unit (s := S1x1024x4224) ![0, 0, 0] ![1, 1024, 1536] inb_S1x1024x4224_S1x1024x1536_0_0_0))⟩]
      = W0 w := by
  funext y
  rw [← List.append_nil (List.cons _ _)]
  refine View.canon_append_of_piecesOf (Val := Elt Ideal) (W0 w) [] _ ?_ y ?_
  · exact ⟨piece_w3 w, piece_w2 w, piece_w1 w, piece_w0 w, trivial⟩
  have h0 : (y 0).val < 1024 := (y 0).isLt
  have h1 : (y 1).val < 3072 := (y 1).isLt
  have hm (off wd : Nat) (inb : ∀ a, (![0, off] : Fin 2 → Nat) a + (![1024, wd] : Fin 2 → Nat) a ≤ S1024x3072.size a) (h : off ≤ (y 1).val ∧ (y 1).val < off + wd) :
      y ∈ (Rect.unit (s := S1024x3072) ![0, off] ![1024, wd] inb).set :=
    (Rect.mem_set_unit ..).mpr fun a => match a with
      | ⟨0, _⟩ => ⟨Nat.zero_le _, (by show (y 0).val < 0 + 1024; omega)⟩
      | ⟨1, _⟩ => h
  by_cases c3 : 2560 ≤ (y 1).val
  · exact ⟨_, List.mem_cons_self, hm 2560 512 inb_S1024x3072_S1024x512_0_2560 (by omega)⟩
  by_cases c2 : 2048 ≤ (y 1).val
  · exact ⟨_, List.mem_cons_of_mem _ List.mem_cons_self, hm 2048 512 inb_S1024x3072_S1024x512_0_2048 (by omega)⟩
  by_cases c1 : 1536 ≤ (y 1).val
  · exact ⟨_, List.mem_cons_of_mem _ (List.mem_cons_of_mem _ List.mem_cons_self), hm 1536 512 inb_S1024x3072_S1024x512_0_1536 (by omega)⟩
  · exact ⟨_, List.mem_cons_of_mem _ (List.mem_cons_of_mem _ (List.mem_cons_of_mem _ List.mem_cons_self)), hm 0 1536 inb_S1024x3072_S1024x1536_0_0 (by omega)⟩

/-- The recurrent unit's weights, read whole, -/
theorem ld_W1 (w : Vec Ideal S1x1024x4224 .f32) :
    k0_pay10 (F := Ideal) (View.ld (Val := Elt Ideal) (e' := .f32) w (Rect.unit (s := S1x1024x4224) ![0, 0, 3076] ![1, 1024, 1024] inb_S1x1024x4224_S1x1024x1024_0_0_3076)) = W1 w := by
  funext y
  obtain ⟨j, k, rfl⟩ : ∃ j k : Fin 1024, y = ix2 j k := ⟨y 0, y 1, ValueIdx.eq_ix2 y⟩
  refine (pay10_at _ j k).trans (congrArg w (funext fun a => Fin.ext ?_))
  match a with
  | ⟨0, _⟩ => rfl
  | ⟨1, _⟩ => show 0 + 1 * j.val = j.val; omega
  | ⟨2, _⟩ => show 3076 + 1 * k.val = 3076 + k.val; omega

/-- and the forget gate's. -/
theorem ld_W2 (w : Vec Ideal S1x1024x4224 .f32) :
    k0_pay11 (F := Ideal) (View.ld (Val := Elt Ideal) (e' := .f32) w (Rect.unit (s := S1x1024x4224) ![0, 0, 1536] ![1, 1024, 128] inb_S1x1024x4224_S1x1024x128_0_0_1536)) = W2 w := by
  funext y
  obtain ⟨j, k, rfl⟩ : ∃ (j : Fin 1024) (k : Fin 128), y = ix2 j k := ⟨y 0, y 1, ValueIdx.eq_ix2 y⟩
  refine (pay11_at _ j k).trans (congrArg w (funext fun a => Fin.ext ?_))
  match a with
  | ⟨0, _⟩ => rfl
  | ⟨1, _⟩ => show 0 + 1 * j.val = j.val; omega
  | ⟨2, _⟩ => show 1536 + 1 * k.val = 1536 + k.val; omega

/-! ## The two kinds of point -/

set_option maxHeartbeats 2000000 in
/-- The first point leaves the weights in the scratch buffers; -/
theorem w0_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_0 (F := Ideal) c i a1 h1 a2 h2 a3 h3 a4 h4 a5 h5 a6 h6 a7 h7 a8 h8 a9 h9 hc0 x0 x1 x2 = W0 x2 := by
  unfold sout0_A_0
  rw [View.read_writes_eq_canon _ _ _ (scover0_A_0 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  exact canon_W0 x2

set_option maxHeartbeats 2000000 in
/-- the recurrent unit's; -/
theorem w1_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_1 (F := Ideal) c i a1 h1 a2 h2 a3 h3 a4 h4 a5 h5 a6 h6 a7 h7 a8 h8 a9 h9 hc0 x0 x1 x2 = W1 x2 := by
  unfold sout0_A_1
  rw [View.read_writes_eq_canon _ _ _ (scover0_A_1 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]
  exact ld_W1 x2

set_option maxHeartbeats 2000000 in
/-- the forget gate's; -/
theorem w2_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    sout0_A_2 (F := Ideal) c i a1 h1 a2 h2 a3 h3 a4 h4 a5 h5 a6 h6 a7 h7 a8 h8 a9 h9 hc0 x0 x1 x2 = W2 x2 := by
  unfold sout0_A_2
  rw [View.read_writes_eq_canon _ _ _ (scover0_A_2 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]
  exact ld_W2 x2

set_option maxHeartbeats 2000000 in
/-- and its tile's attention projections, -/
theorem q_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_3 (F := Ideal) c i a1 h1 a2 h2 a3 h3 a4 h4 a5 h5 a6 h6 a7 h7 a8 h8 a9 h9 hc0 x0 x1 x2 = tileQ x0 x1 (W0 x2) := by
  unfold out0_A_3
  rw [View.read_writes_eq_canon _ _ _ (cover0_A_3 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  simp only [View.readCov_eq_canon']
  rw [canon_W0]
  exact canon_tileQ x0 x1 (W0 x2)

set_option maxHeartbeats 2000000 in
/-- the recurrent unit's -/
theorem lru_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_4 (F := Ideal) c i a1 h1 a2 h2 a3 h3 a4 h4 a5 h5 a6 h6 a7 h7 a8 h8 a9 h9 hc0 x0 x1 x2 = k0_pay4 (k0_pay12 x0 x1) (W1 x2) := by
  unfold out0_A_4
  rw [View.read_writes_eq_canon _ _ _ (cover0_A_4 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2, View.readCov_cons_toLoadRect, ← ld_W1 x2]

set_option maxHeartbeats 2000000 in
/-- and the forget gate's over them. -/
theorem f_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : cond0_0 i)
    (x0 : Vec Ideal S512x1024 .f32) (x1 : Vec Ideal S1x1024 .f32) (x2 : Vec Ideal S1x1024x4224 .f32)  :
    out0_A_5 (F := Ideal) c i a1 h1 a2 h2 a3 h3 a4 h4 a5 h5 a6 h6 a7 h7 a8 h8 a9 h9 hc0 x0 x1 x2 = k0_pay5 (k0_pay12 x0 x1) (W2 x2) := by
  unfold out0_A_5
  rw [View.read_writes_eq_canon _ _ _ (cover0_A_5 (F := Ideal) c i a1 h1 a2 h2 a3 h3 a4 h4 a5 h5 a6 h6 a7 h7 a8 h8 a9 h9 hc0 x0 x1 x2)]
  unfold kernelRun0_A
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2, View.readCov_cons_toLoadRect, ← ld_W2 x2]

set_option maxHeartbeats 2000000 in
/-- A later point leaves its tile's over the scratch weights: -/
theorem q_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_3 (F := Ideal) c i a1 h1 a2 h2 a3 h3 a4 h4 a5 h5 a6 h6 a7 h7 a8 h8 a9 h9 hc0 x0 x1 x2 xs0 xs1 xs2 = tileQ x0 x1 xs0 := by
  unfold out0_B_3
  rw [View.read_writes_eq_canon _ _ _ (cover0_B_3 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  exact canon_tileQ x0 x1 xs0

set_option maxHeartbeats 2000000 in
/-- the recurrent unit's; -/
theorem lru_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_4 (F := Ideal) c i a1 h1 a2 h2 a3 h3 a4 h4 a5 h5 a6 h6 a7 h7 a8 h8 a9 h9 hc0 x0 x1 x2 xs0 xs1 xs2 = k0_pay4 (k0_pay12 x0 x1) xs1 := by
  unfold out0_B_4
  rw [View.read_writes_eq_canon _ _ _ (cover0_B_4 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]

set_option maxHeartbeats 2000000 in
/-- the forget gate's. -/
theorem f_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1x1024x4224 .f32) (h3 : a3.IsWhole) (a4 : Memref sig .tc .vmem S512x3072 .bf16) (h4 : a4.IsWhole)
    (a5 : Memref sig .tc .vmem S512x1024 .f32) (h5 : a5.IsWhole) (a6 : Memref sig .tc .vmem S512x128 .f32) (h6 : a6.IsWhole)
    (a7 : Memref sig .tc .vmem S1024x3072 .bf16) (h7 : a7.IsWhole) (a8 : Memref sig .tc .vmem S1024x1024 .bf16) (h8 : a8.IsWhole)
    (a9 : Memref sig .tc .vmem S1024x128 .bf16) (h9 : a9.IsWhole) (hc0 : ¬cond0_0 i)
    (x0 : Vec Ideal S512x1024 .f32) (x1 : Vec Ideal S1x1024 .f32) (x2 : Vec Ideal S1x1024x4224 .f32) (xs0 : Vec Ideal S1024x3072 .bf16) (xs1 : Vec Ideal S1024x1024 .bf16) (xs2 : Vec Ideal S1024x128 .bf16) :
    out0_B_5 (F := Ideal) c i a1 h1 a2 h2 a3 h3 a4 h4 a5 h5 a6 h6 a7 h7 a8 h8 a9 h9 hc0 x0 x1 x2 xs0 xs1 xs2 = k0_pay5 (k0_pay12 x0 x1) xs2 := by
  unfold out0_B_5
  rw [View.read_writes_eq_canon _ _ _ (cover0_B_5 (F := Ideal) c i a1 h1 a2 h2 a3 h3 a4 h4 a5 h5 a6 h6 a7 h7 a8 h8 a9 h9 hc0 x0 x1 x2 xs0 xs1 xs2)]
  unfold kernelRun0_B
  dsimp only
  sl_unfold_words
  simp only [View.readAt_eq_ld, h1.read_unread, h2.read_unread, h3.read_unread, h7.read_unread, h8.read_unread, h9.read_unread,
    View.ld_unit_zero (S := S512x1024) hz2, View.ld_unit_zero (S := S1x1024) hz2, View.ld_unit_zero (S := S1024x1024) hz2, View.ld_unit_zero (S := S1024x128) hz2, shapeCast_self]
  rw [View.canon_unit_zero hz2]

end Cert.Inproj1Ideal.Tile

end
-- ==== Proof.Inproj1Value.lean ====
/- The second layer's input projection's three result arrays: `Cert.Inproj1.Spec`'s of its arguments. -/
module

public import proofs.«01_k».proof.Proof.Inproj1Spec
public import proofs.«01_k».proof.Proof.Inproj1Cases
public import Idealize.ShloMosaic.Lib.StableHlo.ReadAt

@[expose] public section

set_option maxRecDepth 16384

noncomputable section

namespace Cert.Inproj1Ideal.Tile

open Idealize.ShloMosaic hiding ix1 ix2 ix3 ix4
open Idealize.ShloMosaic.ValueIdx Idealize.ShloMosaic.TcCoe Idealize.SL.Sem Cert.Inproj1Ideal Cert.Inproj1Ideal.Gen Cert.Inproj1Ideal.Value Cert.Norm
open Idealize.ShloMosaic.Pipeline (Dat)
open scoped BigOperators

variable (m : (ℓ : Loc nD τ sig) → Buf (Elt Ideal) ℓ) (c : Dev nD)

/-- The gain as the call receives it. -/
theorem g_at (j : Fin 1024) : (V m c main_v2 (ix2 0 j) : EReal) = m ((c.tc : Thread nD τ).loc main_arg1) (ix2 1 j) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 1 j) := by
  rw [← g_at m c j]
  unfold iblk
  refine (View.read_apply ..).trans ?_
  show V m c main_v2 _ = _
  refine congrArg (V m c main_v2) (funext fun a => Fin.ext ?_)
  match a with
  | ⟨0, _⟩ => rfl
  | ⟨1, _⟩ => show 0 * 1024 + 1 * j.val = j.val; omega

/-- The weight columns every point holds: the first 4224 of the first layer's. -/
def Wt : Vec Ideal S1x1024x4224 .f32 := fun i =>
  m ((c.tc : Thread nD τ).loc main_arg2) (ix3 1 (i 1) ⟨(i 2).val, by have h : (i 2).val < 4224 := (i 2).isLt; omega⟩)

theorem w_block : X0_2 m c t = Wt m c := by
  funext i
  unfold X0_2 Pipeline.Window.fill
  rw [dif_pos (moved0_2 t i)]
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ =>
    have h : ((show S1x1024x4224.Idx from i) 0).val < 1 := ((show S1x1024x4224.Idx from i) 0).isLt
    show 1 * 1 + 1 * ((show S1x1024x4224.Idx from i) 0).val = 1; omega
  | ⟨1, _⟩ => show 0 * 1024 + 1 * ((show S1x1024x4224.Idx from i) 1).val = ((show S1x1024x4224.Idx from i) 1).val; omega
  | ⟨2, _⟩ => show 0 * 4224 + 1 * ((show S1x1024x4224.Idx from i) 2).val = ((show S1x1024x4224.Idx from i) 2).val; omega

/-! ## What every point leaves -/

/-- After every point the scratch buffers hold the weights. -/
theorem scratch_eq : ∀ (n : Nat) (hn : n < cfg0.N), (outsAt0 m c n hn).2.2.2 = (W0 (Wt m c), W1 (Wt m c), W2 (Wt m c))
  | 0, hn => by
    rw [outsAt0_A m c ⟨0, hn⟩ rfl]
    dsimp only
    rw [w0_A, w1_A, w2_A, w_block]
  | n + 1, hn => by
    have hN : n + 1 < 66 := Nat.lt_of_lt_of_eq hn N_0
    rw [outsAt0_B m c ⟨n + 1, hn⟩ (by show ¬(n + 1) % 66 = 0; omega)]
    exact scratch_eq n (Nat.lt_of_succ_lt hn)

/-- And its three tiles are the projections over them. -/
theorem outs_eq : (outsAt0 m c t.val t.isLt).1 = tileQ (iblk m c 0 t) (iblk m c 1 t) (W0 (Wt m c))
    ∧ (outsAt0 m c t.val t.isLt).2.1 = k0_pay4 (k0_pay12 (F := Ideal) (iblk m c 0 t) (iblk m c 1 t)) (W1 (Wt m c))
    ∧ (outsAt0 m c t.val t.isLt).2.2.1 = k0_pay5 (k0_pay12 (F := Ideal) (iblk m c 0 t) (iblk m c 1 t)) (W2 (Wt m c)) := by
  by_cases h0 : t.val % 66 = 0
  · rw [outsAt0_A m c t h0]
    dsimp only
    rw [q_A, lru_A, f_A, w_block]
    exact ⟨rfl, rfl, rfl⟩
  · rw [outsAt0_B m c t h0]
    dsimp only
    rw [q_B, lru_B, f_B, scratch_eq]
    exact ⟨rfl, rfl, rfl⟩

/-! ## The results over the call's arguments -/

/-- The three results. -/
abbrev Gq : Vec Ideal S33792x3072 .bf16 :=
  Inproj1.Spec.qkv (m ((c.tc : Thread nD τ).loc main_arg0)) (m ((c.tc : Thread nD τ).loc main_arg1)) (m ((c.tc : Thread nD τ).loc main_arg2))
abbrev Gl : Vec Ideal S33792x1024 .f32 :=
  Inproj1.Spec.lru (m ((c.tc : Thread nD τ).loc main_arg0)) (m ((c.tc : Thread nD τ).loc main_arg1)) (m ((c.tc : Thread nD τ).loc main_arg2))
abbrev Gf : Vec Ideal S33792x128 .f32 :=
  Inproj1.Spec.gate (m ((c.tc : Thread nD τ).loc main_arg0)) (m ((c.tc : Thread nD τ).loc main_arg1)) (m ((c.tc : Thread nD τ).loc main_arg2))

/-- A tile's normalised row is the row's. -/
theorem norm_eq (r : Fin 512) (R : Fin 33792) (hR : R.val = t.val * 512 + r.val) (j : Fin 1024) :
    (k0_pay12 (F := Ideal) (iblk m c 0 t) (iblk m c 1 t) (ix2 r j) : EReal)
      = norm (fun k => m ((c.tc : Thread nD τ).loc main_arg0) (ix2 R k)) (fun k => m ((c.tc : Thread nD τ).loc main_arg1) (ix2 1 k)) j := by
  refine (pay12_at ..).trans ?_
  have h0 := funext fun k => h_block m c t r k R hR
  have h1 := funext fun k => g_block m c t k
  rw [h0, h1]

/-- A tile's attention projections are the result's rows of that tile; -/
theorem q_eq (r : Fin 512) (j : Fin 3072) (R : Fin 33792) (hR : R.val = t.val * 512 + r.val) :
    ((outsAt0 m c t.val t.isLt).1 (ix2 r j) : EReal) = Gq m c (ix2 R j) := by
  rw [(outs_eq m c t).1]
  have e : (∑ a : Fin 1024, (k0_pay12 (F := Ideal) (iblk m c 0 t) (iblk m c 1 t) (ix2 r a) : EReal) * W0 (Wt m c) (ix2 a j))
      = Inproj1.Spec.proj (m ((c.tc : Thread nD τ).loc main_arg0)) (m ((c.tc : Thread nD τ).loc main_arg1)) (m ((c.tc : Thread nD τ).loc main_arg2)) R (Inproj1.Spec.col j) :=
    Finset.sum_congr rfl fun a _ => congrArg₂ (· * ·) (norm_eq m c t r R hR a) rfl
  show (if j.val % 1536 < 512 then (∑ a : Fin 1024, (k0_pay12 (F := Ideal) (iblk m c 0 t) (iblk m c 1 t) (ix2 r a) : EReal) * W0 (Wt m c) (ix2 a j)) * scale
    else ∑ a : Fin 1024, (k0_pay12 (F := Ideal) (iblk m c 0 t) (iblk m c 1 t) (ix2 r a) : EReal) * W0 (Wt m c) (ix2 a j)) = _
  rw [e]
  rfl

/-- the recurrent unit's, -/
theorem l_eq (r : Fin 512) (j : Fin 1024) (R : Fin 33792) (hR : R.val = t.val * 512 + r.val) :
    ((outsAt0 m c t.val t.isLt).2.1 (ix2 r j) : EReal) = Gl m c (ix2 R j) := by
  rw [(outs_eq m c t).2.1]
  refine (pay4_at ..).trans ?_
  exact Finset.sum_congr rfl fun a _ => congrArg₂ (· * ·) (norm_eq m c t r R hR a) rfl

/-- and the forget gate's. -/
theorem f_eq (r : Fin 512) (j : Fin 128) (R : Fin 33792) (hR : R.val = t.val * 512 + r.val) :
    ((outsAt0 m c t.val t.isLt).2.2.1 (ix2 r j) : EReal) = Gf m c (ix2 R j) := by
  rw [(outs_eq m c t).2.2]
  refine (pay5_at ..).trans ?_
  exact Finset.sum_congr rfl fun a _ => congrArg₂ (· * ·) (norm_eq m c t r R hR a) rfl

/-! ## The array of the attention projections -/

/-- A tile's write-back writes the result's rows of that tile. -/
theorem flushed_q (hf : (cfg0.win 3).flush t = true) :
    (dats m 0 c).flushed 3 t = ((cfg0.win 3).blk t).view.read (Elt Ideal) (Gq m c) := by
  have ht : t.val < 66 := Nat.lt_of_lt_of_eq t.isLt N_0
  refine (flushed3 m c t).trans ?_
  funext i
  obtain ⟨r, j, rfl⟩ : ∃ (r : Fin 512) (j : Fin 3072), i = (ix2 r j : S512x3072.Idx) :=
    ⟨(show S512x3072.Idx from i) 0, (show S512x3072.Idx from i) 1, ValueIdx.eq_ix2 (show S512x3072.Idx from i)⟩
  have hr := r.isLt
  refine (q_eq m c t r j ⟨t.val * 512 + r.val, by omega⟩ rfl).trans ?_
  refine Eq.trans ?_ (View.read_apply ..).symm
  refine congrArg (Gq m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 3072 + 1 * j.val; omega

/-- Every element of the array lies in some tile's write-back. -/
theorem covered_q (i : S33792x3072.Idx) : ∃ t : Fin cfg0.N, (cfg0.win 3).flush t = true ∧ i ∈ ((cfg0.win 3).blk t).view.set := by
  have h0 : (i 0 : Nat) < 33792 := (i 0).isLt
  have h1 : (i 1 : Nat) < 3072 := (i 1).isLt
  have hN : cfg0.N = 66 := N_0
  let t : Fin cfg0.N := ⟨(i 0 : Nat) / 512, by rw [hN]; omega⟩
  have hi' : cc0_transform_3 (grid0.coords t) 0 = (i 0 : Nat) / 512 := tile_index t
  refine ⟨t, flush0_3 t, ?_⟩
  refine (iff_of_eq (congrArg (fun s => i ∈ s) (View.set_slice_whole main_v3_0 ((cfg0.win 3).rect t)))).mpr ?_
  refine (Rect.mem_set_unit ..).mpr ?_
  intro a
  match a with
  | ⟨0, _⟩ =>
    show cc0_transform_3 (grid0.coords t) 0 * 512 ≤ (i 0 : Nat) ∧ (i 0 : Nat) < cc0_transform_3 (grid0.coords t) 0 * 512 + 512
    rw [hi']; omega
  | ⟨1, _⟩ => show 0 * 3072 ≤ (i 1 : Nat) ∧ (i 1 : Nat) < 0 * 3072 + 3072; omega

/-- So the array ends at the result. -/
theorem final_q : (dats m 0 c).arrAt 3 cfg0.N = Gq m c :=
  (dats m 0 c).arrAt_eq_of_cover 3 (Gq m c) (flushed_q m c) covered_q

/-! ## The array of the recurrent unit's projection -/

/-- A tile's write-back writes the result's rows of that tile. -/
theorem flushed_l (hf : (cfg0.win 4).flush t = true) :
    (dats m 0 c).flushed 4 t = ((cfg0.win 4).blk t).view.read (Elt Ideal) (Gl m c) := by
  have ht : t.val < 66 := Nat.lt_of_lt_of_eq t.isLt N_0
  refine (flushed4 m c t).trans ?_
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (l_eq m c t r j ⟨t.val * 512 + r.val, by omega⟩ rfl).trans ?_
  refine Eq.trans ?_ (View.read_apply ..).symm
  refine congrArg (Gl m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the array lies in some tile's write-back. -/
theorem covered_l (i : S33792x1024.Idx) : ∃ t : Fin cfg0.N, (cfg0.win 4).flush t = true ∧ i ∈ ((cfg0.win 4).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_4 (grid0.coords t) 0 = (i 0 : Nat) / 512 := tile_index t
  refine ⟨t, flush0_4 t, ?_⟩
  refine (iff_of_eq (congrArg (fun s => i ∈ s) (View.set_slice_whole main_v3_1 ((cfg0.win 4).rect t)))).mpr ?_
  refine (Rect.mem_set_unit ..).mpr ?_
  intro a
  match a with
  | ⟨0, _⟩ =>
    show cc0_transform_4 (grid0.coords t) 0 * 512 ≤ (i 0 : Nat) ∧ (i 0 : Nat) < cc0_transform_4 (grid0.coords t) 0 * 512 + 512
    rw [hi']; omega
  | ⟨1, _⟩ => show 0 * 1024 ≤ (i 1 : Nat) ∧ (i 1 : Nat) < 0 * 1024 + 1024; omega

/-- So the array ends at the result. -/
theorem final_l : (dats m 0 c).arrAt 4 cfg0.N = Gl m c :=
  (dats m 0 c).arrAt_eq_of_cover 4 (Gl m c) (flushed_l m c) covered_l

/-! ## The array of the forget gate's projection -/

/-- A tile's write-back writes the result's rows of that tile. -/
theorem flushed_f (hf : (cfg0.win 5).flush t = true) :
    (dats m 0 c).flushed 5 t = ((cfg0.win 5).blk t).view.read (Elt Ideal) (Gf m c) := by
  have ht : t.val < 66 := Nat.lt_of_lt_of_eq t.isLt N_0
  refine (flushed5 m c t).trans ?_
  funext i
  obtain ⟨r, j, rfl⟩ : ∃ (r : Fin 512) (j : Fin 128), i = (ix2 r j : S512x128.Idx) :=
    ⟨(show S512x128.Idx from i) 0, (show S512x128.Idx from i) 1, ValueIdx.eq_ix2 (show S512x128.Idx from i)⟩
  have hr := r.isLt
  refine (f_eq m c t r j ⟨t.val * 512 + r.val, by omega⟩ rfl).trans ?_
  refine Eq.trans ?_ (View.read_apply ..).symm
  refine congrArg (Gf m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 128 + 1 * j.val; omega

/-- Every element of the array lies in some tile's write-back. -/
theorem covered_f (i : S33792x128.Idx) : ∃ t : Fin cfg0.N, (cfg0.win 5).flush t = true ∧ i ∈ ((cfg0.win 5).blk t).view.set := by
  have h0 : (i 0 : Nat) < 33792 := (i 0).isLt
  have h1 : (i 1 : Nat) < 128 := (i 1).isLt
  have hN : cfg0.N = 66 := N_0
  let t : Fin cfg0.N := ⟨(i 0 : Nat) / 512, by rw [hN]; omega⟩
  have hi' : cc0_transform_5 (grid0.coords t) 0 = (i 0 : Nat) / 512 := tile_index t
  refine ⟨t, flush0_5 t, ?_⟩
  refine (iff_of_eq (congrArg (fun s => i ∈ s) (View.set_slice_whole main_v3_2 ((cfg0.win 5).rect t)))).mpr ?_
  refine (Rect.mem_set_unit ..).mpr ?_
  intro a
  match a with
  | ⟨0, _⟩ =>
    show cc0_transform_5 (grid0.coords t) 0 * 512 ≤ (i 0 : Nat) ∧ (i 0 : Nat) < cc0_transform_5 (grid0.coords t) 0 * 512 + 512
    rw [hi']; omega
  | ⟨1, _⟩ => show 0 * 128 ≤ (i 1 : Nat) ∧ (i 1 : Nat) < 0 * 128 + 128; omega

/-- So the array ends at the result. -/
theorem final_f : (dats m 0 c).arrAt 5 cfg0.N = Gf m c :=
  (dats m 0 c).arrAt_eq_of_cover 5 (Gf m c) (flushed_f m c) covered_f

end Cert.Inproj1Ideal.Tile

end
-- ==== Proof.Inproj1Ref.lean ====
/- The second layer's input projection's reference, read: its results are `Cert.Inproj1.Spec`'s of its arguments. -/
module

public import proofs.«01_k».proof.Proof.Inproj1Spec
public import proofs.«01_k».proof.Proof.Gen.Inproj1ReferenceIdeal.Read
public import Idealize.ShloMosaic.Lib.IdealHost
public import Idealize.ShloMosaic.Lib.Pipeline.Value

@[expose] public section

set_option maxRecDepth 16384

noncomputable section

namespace Cert.Inproj1ReferenceIdeal.Rows

open Cert.Inproj1ReferenceIdeal Cert.Inproj1ReferenceIdeal.Gen Cert.Inproj1ReferenceIdeal.Read Idealize.ShloMosaic Idealize.ShloMosaic.ValueIdx Cert.Norm
open scoped BigOperators

variable (x0 : FVec Ideal S33792x1024 .f32) (x1 : FVec Ideal S2x1024 .f32) (x2 : FVec Ideal S2x1024x7172 .f32)

/-- A row of the rows, and the gain the reference multiplies by. -/
abbrev row (r : Fin 33792) : Fin 1024 → EReal := fun k => x0 (ix2 r k)
abbrev gain : Fin 1024 → EReal := fun k => x1 (ix2 1 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 1 j from funext fun a => Fin.ext (match a with
      | ⟨0, _⟩ => rfl
      | ⟨1, _⟩ => (by show j.val % 1024 = j.val; omega))]
  rfl

/-- The weights of the first layer. -/
theorem v16_at (j : Fin 1024) (k : Fin 7172) : (val_main_v16 (F := Ideal) x2 (ix2 j k) : EReal) = x2 (ix3 1 j k) := by
  rw [val_main_v16_apply, val_main_v15_apply]
  refine congrArg x2 (funext fun a => Fin.ext ?_)
  match a with
  | ⟨0, _⟩ => rfl
  | ⟨1, _⟩ => show (j.val * 7172 + k.val) / 7172 % 1024 = j.val; omega
  | ⟨2, _⟩ => show (j.val * 7172 + k.val) % 7172 = k.val; omega

/-- The whole product. -/
theorem v17_at (r : Fin 33792) (k : Fin 7172) : (val_main_v17 (F := Ideal) x0 x1 x2 (ix2 r k) : EReal) = Inproj1.Spec.proj x0 x1 x2 r k := by
  rw [val_main_v17_apply]
  refine Finset.sum_congr rfl fun j _ => ?_
  rw [show lidx_main_v17 (ix2 r k) j = ix2 r j from funext fun a => match a with | ⟨0, _⟩ => rfl | ⟨1, _⟩ => rfl,
    show ridx_main_v17 (ix2 r k) j = ix2 j k from funext fun a => match a with | ⟨0, _⟩ => rfl | ⟨1, _⟩ => rfl, v14_at, v16_at]

/-- The whole product at any index. -/
theorem v17_eq (i : S33792x7172.Idx) : (val_main_v17 (F := Ideal) x0 x1 x2 i : EReal) = Inproj1.Spec.proj x0 x1 x2 (i 0) (i 1) := by
  obtain ⟨r, k, rfl⟩ : ∃ (r : Fin 33792) (k : Fin 7172), i = ix2 r k := ⟨i 0, i 1, ValueIdx.eq_ix2 i⟩
  exact v17_at x0 x1 x2 r k

/-- The first branch's queries, scaled; -/
theorem v22_at (r : Fin 33792) (k : Fin 512) :
    (val_main_v22 (F := Ideal) x0 x1 x2 (ix2 r k) : EReal) = Inproj1.Spec.proj x0 x1 x2 r ⟨k.val, by omega⟩ * Inproj1.Spec.scale := by
  rw [val_main_v22_apply, val_main_v20_apply, val_main_v18_apply, v17_eq, val_main_v21_apply, val_main_cst_2_apply]
  rfl

/-- its keys and values; -/
theorem v23_at (r : Fin 33792) (k : Fin 1024) :
    (val_main_v23 (F := Ideal) x0 x1 x2 (ix2 r k) : EReal) = Inproj1.Spec.proj x0 x1 x2 r ⟨512 + k.val, by omega⟩ := by
  rw [val_main_v23_apply, val_main_v18_apply, v17_eq]
  rfl

/-- the second branch's queries, scaled; -/
theorem v26_at (r : Fin 33792) (k : Fin 512) :
    (val_main_v26 (F := Ideal) x0 x1 x2 (ix2 r k) : EReal) = Inproj1.Spec.proj x0 x1 x2 r ⟨1540 + k.val, by omega⟩ * Inproj1.Spec.scale := by
  rw [val_main_v26_apply, val_main_v24_apply, val_main_v19_apply, v17_eq, val_main_v25_apply, val_main_cst_3_apply]
  rfl

/-- its keys and values. -/
theorem v27_at (r : Fin 33792) (k : Fin 1024) :
    (val_main_v27 (F := Ideal) x0 x1 x2 (ix2 r k) : EReal) = Inproj1.Spec.proj x0 x1 x2 r ⟨1540 + (512 + k.val), by omega⟩ := by
  rw [val_main_v27_apply, val_main_v19_apply, v17_eq]
  rfl

/-- The attention projections at an entry. -/
theorem qkv_at (r : Fin 33792) (c : Fin 3072) : (val_main_v29 (F := Ideal) x0 x1 x2 (ix2 r c) : EReal) = Inproj1.Spec.qkv x0 x1 x2 (ix2 r c) := by
  have hc := c.isLt
  rw [val_main_v29_apply]
  refine Eq.trans (b := (val_main_v28 (F := Ideal) x0 x1 x2 (ix2 r c) : EReal)) rfl ?_
  unfold val_main_v28
  by_cases c1 : c.val < 512
  · refine Eq.trans (concatenate_apply_piece (α := EReal) (t := S33792x3072) 1 _ _ (ix2 r c) 0 (by show 0 < 4; decide) S33792x512 (val_main_v22 (F := Ideal) x0 x1 x2) rfl rfl 0 rfl
      (ix2 r ⟨c.val, by omega⟩) (fun b hb => match b, hb with | ⟨0, _⟩, _ => rfl | ⟨1, _⟩, hb => absurd rfl hb) (by show 0 + c.val = c.val; omega)) ?_
    rw [v22_at]
    refine Eq.trans ?_ (if_pos (by show c.val % 1536 < 512; omega)).symm
    exact congrArg (fun n => Inproj1.Spec.proj x0 x1 x2 r n * Inproj1.Spec.scale) (Fin.ext (if_pos (show c.val < 1536 by omega)).symm)
  by_cases c2 : c.val < 1536
  · refine Eq.trans (concatenate_apply_piece (α := EReal) (t := S33792x3072) 1 _ _ (ix2 r c) 1 (by show 1 < 4; decide) S33792x1024 (val_main_v23 (F := Ideal) x0 x1 x2) rfl rfl 512 rfl
      (ix2 r ⟨c.val - 512, by omega⟩) (fun b hb => match b, hb with | ⟨0, _⟩, _ => rfl | ⟨1, _⟩, hb => absurd rfl hb) (by show 512 + (c.val - 512) = c.val; omega)) ?_
    rw [v23_at]
    refine Eq.trans ?_ (if_neg (by show ¬c.val % 1536 < 512; omega)).symm
    exact congrArg (fun n => Inproj1.Spec.proj x0 x1 x2 r n) (Fin.ext (Eq.trans (by show 512 + (c.val - 512) = c.val; omega) (if_pos (show c.val < 1536 by omega)).symm))
  by_cases c3 : c.val < 2048
  · refine Eq.trans (concatenate_apply_piece (α := EReal) (t := S33792x3072) 1 _ _ (ix2 r c) 2 (by show 2 < 4; decide) S33792x512 (val_main_v26 (F := Ideal) x0 x1 x2) rfl rfl 1536 rfl
      (ix2 r ⟨c.val - 1536, by omega⟩) (fun b hb => match b, hb with | ⟨0, _⟩, _ => rfl | ⟨1, _⟩, hb => absurd rfl hb) (by show 1536 + (c.val - 1536) = c.val; omega)) ?_
    rw [v26_at]
    refine Eq.trans ?_ (if_pos (by show c.val % 1536 < 512; omega)).symm
    exact congrArg (fun n => Inproj1.Spec.proj x0 x1 x2 r n * Inproj1.Spec.scale) (Fin.ext (Eq.trans (by show 1540 + (c.val - 1536) = c.val + 4; omega) (if_neg (show ¬c.val < 1536 by omega)).symm))
  · refine Eq.trans (concatenate_apply_piece (α := EReal) (t := S33792x3072) 1 _ _ (ix2 r c) 3 (by show 3 < 4; decide) S33792x1024 (val_main_v27 (F := Ideal) x0 x1 x2) rfl rfl 2048 rfl
      (ix2 r ⟨c.val - 2048, by omega⟩) (fun b hb => match b, hb with | ⟨0, _⟩, _ => rfl | ⟨1, _⟩, hb => absurd rfl hb) (by show 2048 + (c.val - 2048) = c.val; omega)) ?_
    rw [v27_at]
    refine Eq.trans ?_ (if_neg (by show ¬c.val % 1536 < 512; omega)).symm
    exact congrArg (fun n => Inproj1.Spec.proj x0 x1 x2 r n) (Fin.ext (Eq.trans (by show 1540 + (512 + (c.val - 2048)) = c.val + 4; omega) (if_neg (show ¬c.val < 1536 by omega)).symm))

/-- The reference's attention projections, -/
theorem qkv_eq : val_main_v29 (F := Ideal) x0 x1 x2 = Inproj1.Spec.qkv x0 x1 x2 := by
  funext i
  obtain ⟨r, c, rfl⟩ : ∃ (r : Fin 33792) (c : Fin 3072), i = ix2 r c := ⟨i 0, i 1, ValueIdx.eq_ix2 i⟩
  exact qkv_at x0 x1 x2 r c

/-- its recurrent unit's projection, -/
theorem lru_eq : val_main_v30 (F := Ideal) x0 x1 x2 = Inproj1.Spec.lru x0 x1 x2 := by
  funext i
  rw [val_main_v30_apply, v17_eq]
  rfl

/-- and its forget gate's. -/
theorem gate_eq : val_main_v31 (F := Ideal) x0 x1 x2 = Inproj1.Spec.gate x0 x1 x2 := by
  funext i
  rw [val_main_v31_apply, v17_eq]
  rfl

end Cert.Inproj1ReferenceIdeal.Rows

end
-- ==== Proof.Merge1IdealRun.lean ====
/- One run of the second layer's merge kernel's body, at any staging buffers.

   The first point copies the gate weights into the scratch buffer, each branch's 1024 columns from one block and the first four
   of the next; every point then reads them there. What a run leaves is stated in closed form: of the last weight block, which
   reaches past the array's end, only the payload of the last scratch store depends (`scr`). -/
module

public import proofs.«01_k».proof.Proof.Gen.Merge1Ideal.Frame
public import proofs.«01_k».proof.Proof.Gen.Merge1Ideal.Skeleton
public import proofs.«01_k».proof.Proof.Gen.Merge1Ideal.Launch
public import Idealize.ShloMosaic.Lib.Pipeline.FrameBody
public import Idealize.ShloMosaic.Lib.Pipeline.ReadBack
public import Idealize.ShloMosaic.Lib.Exec
public import Idealize.ShloMosaic.Lib.Tactic

@[expose] public section

set_option maxRecDepth 16384

noncomputable section

namespace Cert.Merge1Ideal.Hand

open Cert.Merge1Ideal Cert.Merge1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The body's one condition: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 66 = 0 :=
  (fun t => by
    have ht : t.val < 66 := Nat.lt_of_lt_of_eq t.isLt N_0
    have e0 : (grid0.coords t 0).val = t.val / 1 % 66 := Pipeline.Grid.coords_val t 0 (by decide) rfl
    simp only [cond0_0, e0]
    word_cmp
   : ∀ t : Fin grid0.N, cond0_0 (grid0.coords t) ↔ t.val % 66 = 0)

/-! ## The buffers at a point -/

/-- The staging buffer each window uses at a point, and that it is whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)
/-- The scratch buffer. -/
abbrev scM0_0 : Memref sig .tc .vmem S1024x3072 .bf16 := Memref.whole cc0_scratch0

/-- What the region hands the first point: the scratch buffer at anything, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The body at the first point: the pieces it leaves in its output buffer and in the scratch buffer of the gate weights, and the
    triple that finds them. -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    Σ' (L14 : List (View.Piece (Elt F) S512x1024 .f32)), { LS0 : List (View.Piece (Elt F) S1024x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_merge_eq_skeleton]; unfold cc0_merge_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; iexact HS0

set_option maxHeartbeats 1000000 in
/-- The body at a later point, which reads the scratch buffer and leaves it as it was. -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) :
    Σ' (L14 : List (View.Piece (Elt F) S512x1024 .f32)), { LS0 : List (View.Piece (Elt F) S1024x3072 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ owns (c : Thread nD τ) arg16 fullShare xs0) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, [], fun E K => ?run⟩
  case run =>
    simp only [cc0_merge_eq_skeleton]; unfold cc0_merge_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    iexists _; isplitr; · ipureintro; exact harg16.read_unread _
    iexact HS0

/-! ## What a run leaves -/

theorem hz2 : (![0, 0] : Fin 2 → Nat) = fun _ => 0 := by decide
theorem hz3 : (![0, 0, 0] : Fin 3 → Nat) = fun _ => 0 := by decide

/-- The scratch buffer after the first point: three blocks of columns over the four weight blocks. -/
def scr (x2 x3 x4 : Vec F S1x1024x1024 .f32) (x5 : Vec F S1x1024x128 .f32) : Vec F S1024x3072 .bf16 :=
  View.canon (Val := Elt F) (s := S1024x3072) (e := .bf16)
    [⟨Rect.unit (s := S1024x3072) ![0, 2048] S1024x1024.size inb_S1024x3072_S1024x1024_0_2048, k0_pay4 x4 x5⟩,
      ⟨Rect.unit (s := S1024x3072) ![0, 1024] S1024x1024.size inb_S1024x3072_S1024x1024_0_1024,
        k0_pay3 x3 (View.ld (Val := Elt F) (e' := .f32) x4 (Rect.unit (s := S1x1024x1024) ![0, 0, 0] S1x1024x128.size inb_S1x1024x1024_S1x1024x128_0_0_0))⟩,
      ⟨Rect.unit (s := S1024x3072) ![0, 0] S1024x1024.size inb_S1024x3072_S1024x1024_0_0,
        k0_pay2 x2 (View.ld (Val := Elt F) (e' := .f32) x3 (Rect.unit (s := S1x1024x1024) ![0, 0, 0] S1x1024x128.size inb_S1x1024x1024_S1x1024x128_0_0_0))⟩]

/-- Column blocks of the scratch buffer and of the bias. -/
abbrev ldW (w : Vec F S1024x3072 .bf16) (o : Nat) (h : ∀ a, (![0, o] : Fin 2 → Nat) a + S1024x1024.size a ≤ S1024x3072.size a) : Vec F S1024x1024 .bf16 :=
  View.ld (Val := Elt F) (e' := .bf16) w (Rect.unit (s := S1024x3072) ![0, o] S1024x1024.size h)
abbrev ldB (b : Vec F S1x3072 .f32) (o : Nat) (h : ∀ a, (![0, o] : Fin 2 → Nat) a + S1x1024.size a ≤ S1x3072.size a) : Vec F S1x1024 .f32 :=
  View.ld (Val := Elt F) (e' := .f32) b (Rect.unit (s := S1x3072) ![0, o] S1x1024.size h)

/-- The output tile over a scratch buffer `w`. -/
def tile (w : Vec F S1024x3072 .bf16) (x0 : Vec F S512x1024 .f32) (x1 : Vec F S1x1024 .f32) (x6 : Vec F S1x3072 .f32) (x7 x8 x9 : Vec F S512x512 .bf16)
    (x10 x11 x12 : Vec F S512x1024 .bf16) (x13 : Vec F S1024x1024 .bf16) : Vec F S512x1024 .f32 :=
  k0_pay1 x0 (k0_pay5 x0 x1)
    (k0_pay6 x0 x1 (ldW w 0 inb_S1024x3072_S1024x1024_0_0) (ldB x6 0 inb_S1x3072_S1x1024_0_0) x7 x10)
    (k0_pay7 x0 x1 (ldW w 1024 inb_S1024x3072_S1024x1024_0_1024)) (ldB x6 1024 inb_S1x3072_S1x1024_0_1024) x8 x11
    (ldW w 2048 inb_S1024x3072_S1024x1024_0_2048) (ldB x6 2048 inb_S1x3072_S1x1024_0_2048) x9 x12 x13

/-- The pieces of the first point cover the scratch buffer, -/
theorem scov_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (y : S1024x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1 S1024x1024.size (by sl_kernel_rfl) y
/-- and the output; -/
theorem ocov_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1 S512x1024.size (by sl_kernel_rfl) y
/-- those of a later point cover the output. -/
theorem ocov_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) (y : S512x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1 S512x1024.size (by sl_kernel_rfl) y

set_option maxHeartbeats 2000000 in
/-- The first point leaves `scr` in the scratch buffer -/
theorem scan_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).2.1 = scr x2 x3 x4 x5 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  rfl

set_option maxHeartbeats 2000000 in
/-- and its tile over it in the output; -/
theorem ocan_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) :
    View.canon (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13).1 = tile (scr x2 x3 x4 x5) x0 x1 x6 x7 x8 x9 x10 x11 x12 x13 := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  simp only [View.readCov_eq_canon']
  rw [View.canon_unit_zero hz2]
  rfl

set_option maxHeartbeats 2000000 in
/-- a later point its tile over what the scratch buffer holds. -/
theorem ocan_B (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x128 .f32) (harg6 : arg6.IsWhole) (arg7 : Memref sig .tc .vmem S1x3072 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S512x1024 .bf16) (harg13 : arg13.IsWhole) (arg14 : Memref sig .tc .vmem S1024x1024 .bf16) (harg14 : arg14.IsWhole) (arg15 : Memref sig .tc .vmem S512x1024 .f32) (harg15 : arg15.IsWhole) (arg16 : Memref sig .tc .vmem S1024x3072 .bf16) (harg16 : arg16.IsWhole) (hc0 : ¬cond0_0 i)
    (x0 : Vec F S512x1024 .f32) (x1 : Vec F S1x1024 .f32) (x2 : Vec F S1x1024x1024 .f32) (x3 : Vec F S1x1024x1024 .f32) (x4 : Vec F S1x1024x1024 .f32) (x5 : Vec F S1x1024x128 .f32) (x6 : Vec F S1x3072 .f32) (x7 : Vec F S512x512 .bf16) (x8 : Vec F S512x512 .bf16) (x9 : Vec F S512x512 .bf16) (x10 : Vec F S512x1024 .bf16) (x11 : Vec F S512x1024 .bf16) (x12 : Vec F S512x1024 .bf16) (x13 : Vec F S1024x1024 .bf16) (xs0 : Vec F S1024x3072 .bf16) :
    View.canon (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 x12 x13 xs0).1 = tile xs0 x0 x1 x6 x7 x8 x9 x10 x11 x12 x13 := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, View.ld_unit_zero (S := S512x1024) hz2, View.ld_unit_zero (S := S1x1024) hz2, View.ld_unit_zero (S := S512x512) hz2,
    View.ld_unit_zero (S := S1024x1024) hz2, View.ld_unit_zero (S := S1x1024x1024) hz3, View.ld_unit_zero (S := S1x1024x128) hz3]
  rw [View.canon_unit_zero hz2]
  rfl

end Cert.Merge1Ideal.Hand

end
-- ==== Proof.Merge1IdealFrame.lean ====
/- The frame of the second layer's merge kernel: what every buffer holds at every point, the body's obligation, the run.

   The weights are staged in four blocks, the last of which reaches past the array's end. Only its first four columns are used,
   and those are inside: so what the first point leaves in the scratch buffer is a function of the array alone, `scrW`. -/
module

public import proofs.«01_k».proof.Proof.Merge1IdealRun
public import Idealize.ShloMosaic.Lib.Pipeline.Value
public import Idealize.ShloMosaic.Lib.Pointwise
public import Idealize.ShloMosaic.Lib.Claim

@[expose] public section

set_option maxRecDepth 16384

noncomputable section

namespace Cert.Merge1Ideal.Hand

open Cert.Merge1Ideal Cert.Merge1Ideal.Gen
open Idealize.ShloMosaic hiding ix1 ix2 ix3 ix4
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The scratch buffer and the clipped block -/

/-- A scratch piece at an entry: of the first block, from its fifth column on, -/
theorem pay4_lo (x4 : Vec F S1x1024x1024 .f32) (x5 : Vec F S1x1024x128 .f32) (r c : Fin 1024) (h : 4 + c.val < 1024) :
    k0_pay4 x4 x5 (ix2 r c) = FloatOps.truncf .bf16 bitsLt_bf16_f32 (x4 (ix3 0 r ⟨4 + c.val, h⟩)) := by
  pointwise [k0_pay4]
  exact congrArg (FloatOps.truncf .bf16 bitsLt_bf16_f32) (dif_pos h)

/-- and past its end of the next one's first four. -/
theorem pay4_hi (x4 : Vec F S1x1024x1024 .f32) (x5 : Vec F S1x1024x128 .f32) (r c : Fin 1024) (h : ¬4 + c.val < 1024) :
    k0_pay4 x4 x5 (ix2 r c) = FloatOps.truncf .bf16 bitsLt_bf16_f32 (x5 (ix3 0 r ⟨4 + c.val - 1024, by omega⟩)) := by
  pointwise [k0_pay4]
  exact congrArg (FloatOps.truncf .bf16 bitsLt_bf16_f32) (dif_neg h)

/-- So it depends on the first four columns of the second block only, -/
theorem pay4_congr (x4 : Vec F S1x1024x1024 .f32) (x5 x5' : Vec F S1x1024x128 .f32)
    (h : ∀ (r : Fin 1024) (k : Fin 128), k.val < 4 → x5 (ix3 0 r k) = x5' (ix3 0 r k)) : k0_pay4 x4 x5 = k0_pay4 x4 x5' := by
  funext i
  obtain ⟨r, c, rfl⟩ : ∃ r c : Fin 1024, i = ix2 r c := ⟨i 0, i 1, ValueIdx.eq_ix2 i⟩
  have hc := c.isLt
  by_cases hl : 4 + c.val < 1024
  · rw [pay4_lo x4 x5 r c hl, pay4_lo x4 x5' r c hl]
  · rw [pay4_hi x4 x5 r c hl, pay4_hi x4 x5' r c hl, h r _ (show 4 + c.val - 1024 < 4 by omega)]

/-- and so does the scratch buffer on those of the last block. -/
theorem scr_congr (x2 x3 x4 : Vec F S1x1024x1024 .f32) (x5 x5' : Vec F S1x1024x128 .f32)
    (h : ∀ (r : Fin 1024) (k : Fin 128), k.val < 4 → x5 (ix3 0 r k) = x5' (ix3 0 r k)) : scr x2 x3 x4 x5 = scr x2 x3 x4 x5' := by
  unfold scr; rw [pay4_congr x4 x5 x5' h]

variable (m : (ℓ : Loc nD τ sig) → Buf (Elt F) ℓ) (ρ : Dev nD → PrngReg)

/-- A default for the part of the last block that no transfer fills. -/
def dflt0_5 : (cfg0.win 5).block.Idx → Elt F (cfg0.win 5).elt := fun _ => Classical.choice inferInstance

/-- The last block's buffer, over anything. -/
def Y0_5 (c : Dev nD) (t : Fin cfg0.N) (d : (cfg0.win 5).block.Idx → Elt F (cfg0.win 5).elt) : (cfg0.win 5).block.Idx → Elt F (cfg0.win 5).elt :=
  (cfg0.win 5).fill (cfg0.grid.coords t) d (iblk m c 5 t)

/-- The extents a transfer of the last block fills: all rows, four columns. -/
theorem xsize0_5 : ∀ t : Fin cfg0.N, (cfg0.win 5).xsize (cfg0.grid.coords t) 0 = 1 ∧ (cfg0.win 5).xsize (cfg0.grid.coords t) 1 = 1024
    ∧ (cfg0.win 5).xsize (cfg0.grid.coords t) 2 = 4 := by decide +kernel

/-- The first four columns are filled: -/
theorem moved0_5 (t : Fin cfg0.N) (r : Fin 1024) (k : Fin 128) (hk : k.val < 4) :
    (cfg0.win 5).moved (cfg0.grid.coords t) (show (cfg0.win 5).block.Idx from (ix3 0 r k : S1x1024x128.Idx)) = true :=
  ((cfg0.win 5).moved_iff _ _).mpr fun a => match a with
    | ⟨0, _⟩ => lt_of_lt_of_eq (show 0 < 1 by decide) (xsize0_5 t).1.symm
    | ⟨1, _⟩ => lt_of_lt_of_eq r.isLt (xsize0_5 t).2.1.symm
    | ⟨2, _⟩ => lt_of_lt_of_eq hk (xsize0_5 t).2.2.symm

/-- two fillings agree there. -/
theorem Y0_5_agree (c : Dev nD) (t : Fin cfg0.N) (d d') (r : Fin 1024) (k : Fin 128) (hk : k.val < 4) :
    (Y0_5 m c t d : Vec F S1x1024x128 .f32) (ix3 0 r k) = (Y0_5 m c t d' : Vec F S1x1024x128 .f32) (ix3 0 r k) := by
  have h : ∀ d, Y0_5 m c t d (show (cfg0.win 5).block.Idx from (ix3 0 r k : S1x1024x128.Idx)) = iblk m c 5 t _ := fun d => by
    unfold Y0_5 Pipeline.Window.fill; exact dif_pos (moved0_5 t r k hk)
  exact (h d).trans (h d').symm

/-- Point 0. -/
abbrev t0 : Fin cfg0.N := ⟨0, by rw [show cfg0.N = 66 from N_0]; decide⟩

/-- The scratch buffer from the first point on. -/
def scrW (c : Dev nD) : Vec F S1024x3072 .bf16 := scr (X0_2 m c t0) (X0_3 m c t0) (X0_4 m c t0) (Y0_5 m c t0 dflt0_5)

/-- The first point leaves it, whatever the last block's buffer held. -/
theorem scrW_eq (c : Dev nD) (d) : scr (X0_2 m c t0) (X0_3 m c t0) (X0_4 m c t0) (Y0_5 m c t0 d) = scrW m c :=
  scr_congr _ _ _ _ _ fun r k hk => Y0_5_agree m c t0 d dflt0_5 r k hk

/-- The output tile of a point. -/
def tileW (c : Dev nD) (t : Fin cfg0.N) : Vec F S512x1024 .f32 :=
  tile (scrW m c) (iblk m c 0 t) (iblk m c 1 t) (iblk m c 6 t) (iblk m c 7 t) (iblk m c 8 t) (iblk m c 9 t) (iblk m c 10 t) (iblk m c 11 t)
    (iblk m c 12 t) (iblk m c 13 t)

/-- The invariant: before the first point whatever the region hands over, then the scratch buffer at `scrW`. -/
def PhiS (c : Dev nD) : ℕ → sProp 𝕄
  | 0 => Pipeline.ΦA spec0 c
  | _ + 1 => iprop(iprop(owns (c : Thread nD τ) scM0_0 fullShare (scrW m c)) ∗ (∃ r, prngReg c r))

theorem PhiS_zero (c : Dev nD) (n : ℕ) (hz : n = 0) : PhiS m c n = Pipeline.ΦA spec0 c := by
  subst hz; rfl

theorem PhiS_pos (c : Dev nD) (n : ℕ) (hz : n ≠ 0) :
    PhiS m c n = iprop(iprop(owns (c : Thread nD τ) scM0_0 fullShare (scrW m c)) ∗ (∃ r, prngReg c r)) := by
  cases n with
  | zero => exact absurd rfl hz
  | succ n => rfl

/-! ## The pipeline's proof data -/

/-- The proof data: each input buffer keeps its block, the output buffer gets its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => X0_3 m c t
    | ⟨4, _⟩ => X0_4 m c t
    | ⟨5, _⟩ => Y0_5 m c t dflt0_5
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => tileW m c t
  Φ t := PhiS m c t.val
  q w := Pipeline.shareOf spec0 w
  owed _ := 0

/-- The arrays are those of the region's entry. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val := by
  dsimp only [dats]; rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = Y0_5 m c t dflt0_5 := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = tileW m c t := by dsimp only [dats]

/-- Each input's buffer holds its block at every point; the last weight block's over anything. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = Y0_5 m c t d :=
  ((dats m 0 c).before_in_eq_fetched 5 rfl (fun _ => rfl)
      (fun t t' h => funext fun a => congrArg (fun n => Pipeline.Clip.of n ((cfg0.win 5).size a) (S2x1024x7172.size a)) (congrFun h a))
      (fun t => by rw [after0_5]; unfold Y0_5; rw [Pipeline.Window.cut_fill]; unfold Dat.blockOf iblk; rw [A_eq]; try rfl) t d).trans
    (by unfold Dat.fetched Y0_5; unfold Dat.blockOf iblk; rw [A_eq]; try rfl)
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at a point -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns: each weight block over anything outside the array. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (cfg0.grid.coords t) d ((cfg0.win 2).cut (cfg0.grid.coords t) ((dats m 0 c).after 2 t))))
    ∗ (∃ d, owns (c : Thread nD τ) (ms0_3 t) fullShare ((cfg0.win 3).fill (cfg0.grid.coords t) d ((cfg0.win 3).cut (cfg0.grid.coords t) ((dats m 0 c).after 3 t))))
    ∗ (∃ d, owns (c : Thread nD τ) (ms0_4 t) fullShare ((cfg0.win 4).fill (cfg0.grid.coords t) d ((cfg0.win 4).cut (cfg0.grid.coords t) ((dats m 0 c).after 4 t))))
    ∗ (∃ d, owns (c : Thread nD τ) (ms0_5 t) fullShare ((cfg0.win 5).fill (cfg0.grid.coords t) d ((cfg0.win 5).cut (cfg0.grid.coords t) ((dats m 0 c).after 5 t))))
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 12800000 in
/-- The body at any point: the first fills the scratch buffer, the others read it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) from rfl, PhiS_pos m c (t.val + 1) (Nat.succ_ne_zero _)]
  have hN : t.val < 66 := lt_of_lt_of_eq t.isLt (show cfg0.N = 66 from N_0)
  by_cases h0 : t.val % 66 = 0
  · by_cases hz : t.val = 0
    · obtain rfl : t = t0 := Fin.ext hz
      rw [PhiS_castSucc m c t0, PhiS_zero m c _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_A c (grid0.coords t0) _ _ _ _ _ _ _ _ _ _ _ _ _ _ _ _ _ _ _ _ _ _ _ _ _ _ _ _ _ _ _ _ ((hcond0_0 t0).mpr h0) (iblk m c 0 t0) (iblk m c 1 t0) (X0_2 m c t0) (X0_3 m c t0) (X0_4 m c t0) (Y0_5 m c t0 d5) (iblk m c 6 t0) (iblk m c 7 t0) (iblk m c 8 t0) (iblk m c 9 t0) (iblk m c 10 t0) (iblk m c 11 t0) (iblk m c 12 t0) (iblk m c 13 t0)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, ⟨%es0, HS0⟩⟩
      isplitl [HS0 Hg]
      · isplitl [HS0]
        · unfold owns; iexists _; isplitr
          swap; · iexact HS0
          ipureintro; rw [View.read_writes_eq_canon _ _ _ (scov_A c _ _ _ _ _ _ _ _ _ _ _ _ _ _ _ _ _ _ _ _ _ _ _ _ _ _ _ _ _ _ _ _ _ _ _ _ _ _ _ _ _ _ _ _ _ _ _ _), scan_A]; exact scrW_eq m c d5
        iexact Hg
      isplitl [Ho]; · iexact Ho
      isplitl [H0]; · iexact H0
      isplitl [H1]; · iexact H1
      isplitl [H2]
      · iexists X0_2 m c t0; rw [(cfg0.win 2).fill_cut]; iexact H2
      isplitl [H3]
      · iexists X0_3 m c t0; rw [(cfg0.win 3).fill_cut]; iexact H3
      isplitl [H4]
      · iexists X0_4 m c t0; rw [(cfg0.win 4).fill_cut]; iexact H4
      isplitl [H5]
      · iexists d5; rw [show (cfg0.win 5).fill (cfg0.grid.coords t0) d5 ((cfg0.win 5).cut (cfg0.grid.coords t0) (Y0_5 m c t0 dflt0_5)) = Y0_5 m c t0 d5 from by unfold Y0_5; rw [(cfg0.win 5).cut_fill]]; iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; rw [View.read_writes_eq_canon _ _ _ (ocov_A c _ _ _ _ _ _ _ _ _ _ _ _ _ _ _ _ _ _ _ _ _ _ _ _ _ _ _ _ _ _ _ _ _ _ _ _ _ _ _ _ _ _ _ _ _ _ _ _), ocan_A, scrW_eq m c d5]; rfl
    · exfalso; have hN : t.val < 66 := lt_of_lt_of_eq t.isLt (show cfg0.N = 66 from N_0); omega
  · by_cases hz : t.val = 0
    · exfalso; have hN : t.val < 66 := lt_of_lt_of_eq t.isLt (show cfg0.N = 66 from N_0); omega
    · rw [PhiS_castSucc m c t, PhiS_pos m c _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (X0_2 m c t) (X0_3 m c t) (X0_4 m c t) (Y0_5 m c t d5) (iblk m c 6 t) (iblk m c 7 t) (iblk m c 8 t) (iblk m c 9 t) (iblk m c 10 t) (iblk m c 11 t) (iblk m c 12 t) (iblk m c 13 t) (scrW m c)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HS0]; · iexact HS0
      iintro ⟨H0, H1, H2, H3, H4, H5, H6, H7, H8, H9, H10, H11, H12, H13, ⟨%e14, H14⟩, HS0⟩
      isplitl [HS0 Hg]
      · isplitl [HS0]
        · iexact HS0
        iexact Hg
      isplitl [Ho]; · iexact Ho
      isplitl [H0]; · iexact H0
      isplitl [H1]; · iexact H1
      isplitl [H2]
      · iexists X0_2 m c t; rw [(cfg0.win 2).fill_cut]; iexact H2
      isplitl [H3]
      · iexists X0_3 m c t; rw [(cfg0.win 3).fill_cut]; iexact H3
      isplitl [H4]
      · iexists X0_4 m c t; rw [(cfg0.win 4).fill_cut]; iexact H4
      isplitl [H5]
      · iexists d5; rw [show (cfg0.win 5).fill (cfg0.grid.coords t) d5 ((cfg0.win 5).cut (cfg0.grid.coords t) (Y0_5 m c t dflt0_5)) = Y0_5 m c t d5 from by unfold Y0_5; rw [(cfg0.win 5).cut_fill]]; iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      unfold owns; iexists _; isplitr
      swap; · iexact H14
      ipureintro; rw [View.read_writes_eq_canon _ _ _ (ocov_B c _ _ _ _ _ _ _ _ _ _ _ _ _ _ _ _ _ _ _ _ _ _ _ _ _ _ _ _ _ _ _ _ _ _ _ _ _ _ _ _ _ _ _ _ _ _ _ _ _), ocan_B]; rfl

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 66 := N_0; omega), PhiA0_eq]
  iintro ⟨HS0, Hg⟩
  isplitl [HS0]
  · iexists _; iexact HS0
  iexact Hg

/-! ## The run and the frame -/

set_option backward.isDefEq.respectTransparency.types false in
/-- The run, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

/-- The run: every array of the pipeline ends at what the proof data says, every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Merge1Ideal.Hand

end
-- ==== Proof.Merge1Pay.lean ====
/- The arithmetic of one row tile of the second layer's merge, over the extended reals and at one element. -/
module

public import proofs.«01_k».proof.Proof.NormSpec
public import proofs.«01_k».proof.Proof.Merge1IdealFrame
public import Idealize.ShloMosaic.Lib.Pointwise

@[expose] public section

set_option maxRecDepth 16384

noncomputable section

namespace Cert.Merge1Ideal.Hand

open Idealize.ShloMosaic hiding ix1 ix2 ix3 ix4
open Idealize.ShloMosaic.ValueIdx Cert.Merge1Ideal Cert.Merge1Ideal.Gen Cert.Norm
open scoped BigOperators

/-- The normalised row. -/
theorem pay5_at (x : Vec Ideal S512x1024 .f32) (g : Vec Ideal S1x1024 .f32) (r : Fin 512) (j : Fin 1024) :
    (k0_pay5 (F := Ideal) x g (ix2 r j) : EReal) = norm (fun k => x (ix2 r k)) (fun k => g (ix2 0 k)) j := by
  pointwise [k0_pay5]
  rfl

/-- The second branch's gate columns before the bias. -/
theorem pay7_at (x : Vec Ideal S512x1024 .f32) (g : Vec Ideal S1x1024 .f32) (w : Vec Ideal S1024x1024 .bf16) (r : Fin 512) (k : Fin 1024) :
    (k0_pay7 (F := Ideal) x g w (ix2 r k) : EReal) = ∑ j : Fin 1024, (k0_pay5 (F := Ideal) x g (ix2 r j) : EReal) * w (ix2 j k) := by
  pointwise [k0_pay7]
  rfl

/-- The first branch under its gate. -/
theorem pay6_at (x : Vec Ideal S512x1024 .f32) (g : Vec Ideal S1x1024 .f32) (w : Vec Ideal S1024x1024 .bf16) (b : Vec Ideal S1x1024 .f32)
    (y : Vec Ideal S512x512 .bf16) (o : Vec Ideal S512x1024 .bf16) (r : Fin 512) (k : Fin 1024) :
    (k0_pay6 (F := Ideal) x g w b y o (ix2 r k) : EReal)
      = Ideal.logistic ((∑ j : Fin 1024, (k0_pay5 (F := Ideal) x g (ix2 r j) : EReal) * w (ix2 j k)) + b (ix2 0 k))
        * ∑ i : Fin 512, (y (ix2 r i) : EReal) * o (ix2 i k) := by
  pointwise [k0_pay6]
  rfl

/-- The tile: the row plus the gated sum through the last weights. -/
theorem pay1_at (x : Vec Ideal S512x1024 .f32) (n : FVec Ideal S512x1024 .bf16) (a p : FVec Ideal S512x1024 .f32) (b1 : Vec Ideal S1x1024 .f32)
    (y1 : Vec Ideal S512x512 .bf16) (o1 : Vec Ideal S512x1024 .bf16) (w2 : Vec Ideal S1024x1024 .bf16) (b2 : Vec Ideal S1x1024 .f32)
    (y2 : Vec Ideal S512x512 .bf16) (o2 : Vec Ideal S512x1024 .bf16) (wo : Vec Ideal S1024x1024 .bf16) (r : Fin 512) (c : Fin 1024) :
    (k0_pay1 (F := Ideal) x n a p b1 y1 o1 w2 b2 y2 o2 wo (ix2 r c) : EReal)
      = (x (ix2 r c) : EReal) + ∑ k : Fin 1024,
        ((a (ix2 r k) : EReal) + Ideal.logistic ((p (ix2 r k) : EReal) + b1 (ix2 0 k)) * (∑ i : Fin 512, (y1 (ix2 r i) : EReal) * o1 (ix2 i k))
          + Ideal.logistic ((∑ j : Fin 1024, (n (ix2 r j) : EReal) * w2 (ix2 j k)) + b2 (ix2 0 k)) * ∑ i : Fin 512, (y2 (ix2 r i) : EReal) * o2 (ix2 i k))
        * wo (ix2 k c) := by
  pointwise [k0_pay1]
  rfl

/-- The scratch pieces at an entry: of the one block, from its fifth column on, -/
theorem pay2_lo (v : Vec Ideal S1x1024x1024 .f32) (u : Vec Ideal S1x1024x128 .f32) (r c : Fin 1024) (h : 4 + c.val < 1024) :
    (k0_pay2 (F := Ideal) v u (ix2 r c) : EReal) = v (ix3 0 r ⟨4 + c.val, h⟩) := by
  pointwise [k0_pay2]
  exact dif_pos h

theorem pay2_hi (v : Vec Ideal S1x1024x1024 .f32) (u : Vec Ideal S1x1024x128 .f32) (r c : Fin 1024) (h : ¬4 + c.val < 1024) :
    (k0_pay2 (F := Ideal) v u (ix2 r c) : EReal) = u (ix3 0 r ⟨4 + c.val - 1024, by omega⟩) := by
  pointwise [k0_pay2]
  exact dif_neg h

/-- and past its end of the next. -/
theorem pay3_lo (v : Vec Ideal S1x1024x1024 .f32) (u : Vec Ideal S1x1024x128 .f32) (r c : Fin 1024) (h : 4 + c.val < 1024) :
    (k0_pay3 (F := Ideal) v u (ix2 r c) : EReal) = v (ix3 0 r ⟨4 + c.val, h⟩) := by
  pointwise [k0_pay3]
  exact dif_pos h

theorem pay3_hi (v : Vec Ideal S1x1024x1024 .f32) (u : Vec Ideal S1x1024x128 .f32) (r c : Fin 1024) (h : ¬4 + c.val < 1024) :
    (k0_pay3 (F := Ideal) v u (ix2 r c) : EReal) = u (ix3 0 r ⟨4 + c.val - 1024, by omega⟩) := by
  pointwise [k0_pay3]
  exact dif_neg h

end Cert.Merge1Ideal.Hand

end
-- ==== Proof.Merge1Scratch.lean ====
/- The second layer's merge's scratch buffer: the second layer's gate weights. -/
module

public import proofs.«01_k».proof.Proof.Merge1Pay
public import Idealize.ShloMosaic.Lib.StableHlo.ReadAt

@[expose] public section

set_option maxRecDepth 16384

noncomputable section

namespace Cert.Merge1Ideal.Hand

open Idealize.ShloMosaic hiding ix1 ix2 ix3 ix4
open Idealize.ShloMosaic.ValueIdx Idealize.ShloMosaic.TcCoe Idealize.SL.Sem Cert.Merge1Ideal Cert.Merge1Ideal.Gen Cert.Norm
open Idealize.ShloMosaic.Pipeline (Dat)
open scoped BigOperators

/-- The gate weights: the second layer's columns past the branches' 4100. -/
def GW (W : FVec Ideal S2x1024x7172 .f32) : Vec Ideal S1024x3072 .bf16 := fun i =>
  W (ix3 1 (i 0) ⟨4100 + (i 1).val, by have h : (i 1).val < 3072 := (i 1).isLt; omega⟩)

variable (W : FVec Ideal S2x1024x7172 .f32)

/-- Where a scratch column lies in a block of 1024 that starts at `off`. -/
theorem emb_scr (off : Nat) (inb) (ho : off + 1024 ≤ 3072) (r c : Fin 1024) :
    GW W ((Rect.unit (s := S1024x3072) ![0, off] S1024x1024.size inb).emb (ix2 r c)) = W (ix3 1 r ⟨4100 + (off + c.val), by omega⟩) := by
  refine congrArg W (funext fun a => Fin.ext ?_)
  match a with
  | ⟨0, _⟩ => rfl
  | ⟨1, _⟩ => show 0 + 1 * r.val = r.val; omega
  | ⟨2, _⟩ => show 4100 + (off + 1 * c.val) = 4100 + (off + c.val); omega

/-- The first four columns of a block, read as the body does. -/
theorem ld_head (x : Vec Ideal S1x1024x1024 .f32) (r : Fin 1024) (k : Fin 128) :
    (View.ld (Val := Elt Ideal) (e' := .f32) x (Rect.unit (s := S1x1024x1024) ![0, 0, 0] S1x1024x128.size inb_S1x1024x1024_S1x1024x128_0_0_0) (ix3 0 r k) : EReal)
      = x (ix3 0 r ⟨k.val, by omega⟩) := by
  refine congrArg x (funext fun a => Fin.ext ?_)
  match a with
  | ⟨0, _⟩ => rfl
  | ⟨1, _⟩ => show 0 + 1 * r.val = r.val; omega
  | ⟨2, _⟩ => show 0 + 1 * k.val = k.val; omega

/-- A block of 1024 scratch columns, from a weight block and the first four columns of the next. -/
theorem piece_gw (off : Nat) (inb) (ho : off + 1024 ≤ 3072) (p : FVec Ideal S1024x1024 .bf16) (v : Vec Ideal S1x1024x1024 .f32) (u : Vec Ideal S1x1024x128 .f32)
    (hv : ∀ r k : Fin 1024, (v (ix3 0 r k) : EReal) = W (ix3 1 r ⟨4096 + off + k.val, by omega⟩))
    (hu : ∀ (r : Fin 1024) (k : Fin 128) (hk : k.val < 4), (u (ix3 0 r k) : EReal) = W (ix3 1 r ⟨4096 + off + 1024 + k.val, by omega⟩))
    (lo : ∀ (r c : Fin 1024) (h : 4 + c.val < 1024), (p (ix2 r c) : EReal) = v (ix3 0 r ⟨4 + c.val, h⟩))
    (hi : ∀ (r c : Fin 1024) (h : ¬4 + c.val < 1024), (p (ix2 r c) : EReal) = u (ix3 0 r ⟨4 + c.val - 1024, by omega⟩))
    (y : S1024x1024.Idx) : (p y : EReal) = GW W ((Rect.unit (s := S1024x3072) ![0, off] S1024x1024.size inb).emb y) := by
  obtain ⟨r, c, rfl⟩ : ∃ r c : Fin 1024, y = ix2 r c := ⟨y 0, y 1, ValueIdx.eq_ix2 y⟩
  have hc := c.isLt
  rw [emb_scr W off inb ho]
  by_cases h : 4 + c.val < 1024
  · rw [lo r c h, hv]
    refine congrArg (fun k => W (ix3 1 r k)) (Fin.ext ?_)
    show 4096 + off + (4 + c.val) = 4100 + (off + c.val); omega
  · rw [hi r c h, hu r _ (show 4 + c.val - 1024 < 4 by omega)]
    refine congrArg (fun k => W (ix3 1 r k)) (Fin.ext ?_)
    show 4096 + off + 1024 + (4 + c.val - 1024) = 4100 + (off + c.val); omega

/-- The last scratch piece at an entry, over the extended reals. -/
theorem pay4_lo' (v : Vec Ideal S1x1024x1024 .f32) (u : Vec Ideal S1x1024x128 .f32) (r c : Fin 1024) (h : 4 + c.val < 1024) :
    (k0_pay4 (F := Ideal) v u (ix2 r c) : EReal) = v (ix3 0 r ⟨4 + c.val, h⟩) := pay4_lo v u r c h
theorem pay4_hi' (v : Vec Ideal S1x1024x1024 .f32) (u : Vec Ideal S1x1024x128 .f32) (r c : Fin 1024) (h : ¬4 + c.val < 1024) :
    (k0_pay4 (F := Ideal) v u (ix2 r c) : EReal) = u (ix3 0 r ⟨4 + c.val - 1024, by omega⟩) := pay4_hi v u r c h

/-- The three blocks the first point stores are the gate weights. -/
theorem scr_eq (x2 x3 x4 : Vec Ideal S1x1024x1024 .f32) (x5 : Vec Ideal S1x1024x128 .f32)
    (h2 : ∀ r k : Fin 1024, (x2 (ix3 0 r k) : EReal) = W (ix3 1 r ⟨4096 + k.val, by omega⟩))
    (h3 : ∀ r k : Fin 1024, (x3 (ix3 0 r k) : EReal) = W (ix3 1 r ⟨5120 + k.val, by omega⟩))
    (h4 : ∀ r k : Fin 1024, (x4 (ix3 0 r k) : EReal) = W (ix3 1 r ⟨6144 + k.val, by omega⟩))
    (h5 : ∀ (r : Fin 1024) (k : Fin 128) (hk : k.val < 4), (x5 (ix3 0 r k) : EReal) = W (ix3 1 r ⟨7168 + k.val, by omega⟩)) :
    scr (F := Ideal) x2 x3 x4 x5 = GW W := by
  have p2 := piece_gw W 0 inb_S1024x3072_S1024x1024_0_0 (by omega) _ x2 _ h2
    (fun r k hk => (ld_head x3 r k).trans (h3 r ⟨k.val, by omega⟩)) (pay2_lo x2 _) (pay2_hi x2 _)
  have p3 := piece_gw W 1024 inb_S1024x3072_S1024x1024_0_1024 (by omega) _ x3 _ h3
    (fun r k hk => (ld_head x4 r k).trans (h4 r ⟨k.val, by omega⟩)) (pay3_lo x3 _) (pay3_hi x3 _)
  have p4 := piece_gw W 2048 inb_S1024x3072_S1024x1024_0_2048 (by omega) _ x4 x5 h4 h5 (pay4_lo' x4 x5) (pay4_hi' x4 x5)
  unfold scr
  funext y
  rw [← List.append_nil (List.cons _ _)]
  refine View.canon_append_of_piecesOf (Val := Elt Ideal) (GW W) [] _ ?_ y ?_
  · exact ⟨p4, p3, p2, trivial⟩
  have h0 : (y 0).val < 1024 := (y 0).isLt
  have h1 : (y 1).val < 3072 := (y 1).isLt
  have hm (off : Nat) (inb : ∀ a, (![0, off] : Fin 2 → Nat) a + S1024x1024.size a ≤ S1024x3072.size a) (h : off ≤ (y 1).val ∧ (y 1).val < off + 1024) :
      y ∈ (Rect.unit (s := S1024x3072) ![0, off] S1024x1024.size inb).set :=
    (Rect.mem_set_unit ..).mpr fun a => match a with
      | ⟨0, _⟩ => ⟨Nat.zero_le _, (by show (y 0).val < 0 + 1024; omega)⟩
      | ⟨1, _⟩ => h
  by_cases c2 : 2048 ≤ (y 1).val
  · exact ⟨_, List.mem_cons_self, hm 2048 inb_S1024x3072_S1024x1024_0_2048 (by omega)⟩
  by_cases c1 : 1024 ≤ (y 1).val
  · exact ⟨_, List.mem_cons_of_mem _ List.mem_cons_self, hm 1024 inb_S1024x3072_S1024x1024_0_1024 (by omega)⟩
  · exact ⟨_, List.mem_cons_of_mem _ (List.mem_cons_of_mem _ List.mem_cons_self), hm 0 inb_S1024x3072_S1024x1024_0_0 (by omega)⟩

variable (m : (ℓ : Loc nD τ sig) → Buf (Elt Ideal) ℓ) (c : Dev nD) (t : Fin cfg0.N)

/-! ## The weight blocks -/

theorem x2_block (r k : Fin 1024) : ((X0_2 m c t : Vec Ideal S1x1024x1024 .f32) (ix3 0 r k) : EReal)
    = m ((c.tc : Thread nD τ).loc main_arg2) (ix3 1 r ⟨4096 + k.val, by omega⟩) := by
  unfold X0_2 Pipeline.Window.fill
  refine (dif_pos (moved0_2 t (show (cfg0.win 2).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 4 * 1024 + 1 * k.val = 4096 + k.val; omega

theorem x3_block (r k : Fin 1024) : ((X0_3 m c t : Vec Ideal S1x1024x1024 .f32) (ix3 0 r k) : EReal)
    = m ((c.tc : Thread nD τ).loc main_arg2) (ix3 1 r ⟨5120 + k.val, by omega⟩) := by
  unfold X0_3 Pipeline.Window.fill
  refine (dif_pos (moved0_3 t (show (cfg0.win 3).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 5 * 1024 + 1 * k.val = 5120 + k.val; omega

theorem x4_block (r k : Fin 1024) : ((X0_4 m c t : Vec Ideal S1x1024x1024 .f32) (ix3 0 r k) : EReal)
    = m ((c.tc : Thread nD τ).loc main_arg2) (ix3 1 r ⟨6144 + k.val, by omega⟩) := by
  unfold X0_4 Pipeline.Window.fill
  refine (dif_pos (moved0_4 t (show (cfg0.win 4).block.Idx from (ix3 0 r k : S1x1024x1024.Idx)))).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 6 * 1024 + 1 * k.val = 6144 + k.val; omega

/-- Of the last block, its first four columns. -/
theorem x5_block (d) (r : Fin 1024) (k : Fin 128) (hk : k.val < 4) : ((Y0_5 m c t d : Vec Ideal S1x1024x128 .f32) (ix3 0 r k) : EReal)
    = m ((c.tc : Thread nD τ).loc main_arg2) (ix3 1 r ⟨7168 + k.val, by omega⟩) := by
  unfold Y0_5 Pipeline.Window.fill
  refine (dif_pos (moved0_5 t r k hk)).trans ?_
  unfold iblk
  refine (View.read_apply ..).trans ?_
  show V m c main_arg2 _ = _
  rw [V_main_arg2]
  refine congrArg (m ((c.tc : Thread nD τ).loc main_arg2)) (funext fun a => Fin.ext ?_)
  match a with
  | ⟨0, _⟩ => rfl
  | ⟨1, _⟩ => show 0 * 1024 + 1 * r.val = r.val; omega
  | ⟨2, _⟩ => show 56 * 128 + 1 * k.val = 7168 + k.val; omega

/-- So the scratch buffer holds the gate weights. -/
theorem scrW_gw : scrW m c = GW (m ((c.tc : Thread nD τ).loc main_arg2)) :=
  scr_eq _ _ _ _ _ (x2_block m c t0) (x3_block m c t0) (x4_block m c t0) (x5_block m c t0 dflt0_5)

end Cert.Merge1Ideal.Hand

end
-- ==== Proof.Merge1Blocks.lean ====
/- The blocks the second layer's merge's points read, over the call's arguments. -/
module

public import proofs.«01_k».proof.Proof.Merge1Pay
public import Idealize.ShloMosaic.Lib.StableHlo.ReadAt

@[expose] public section

set_option maxRecDepth 16384

noncomputable section

namespace Cert.Merge1Ideal.Hand

open Idealize.ShloMosaic hiding ix1 ix2 ix3 ix4
open Idealize.ShloMosaic.ValueIdx Idealize.ShloMosaic.TcCoe Idealize.SL.Sem Cert.Merge1Ideal Cert.Merge1Ideal.Gen Cert.Norm
open Idealize.ShloMosaic.Pipeline (Dat)
open scoped BigOperators

variable (m : (ℓ : Loc nD τ sig) → Buf (Elt Ideal) ℓ) (c : Dev nD)

/-! ## What the call receives -/

/-- The gain, -/
theorem g_at (j : Fin 1024) : (V m c main_v2 (ix2 0 j) : EReal) = m ((c.tc : Thread nD τ).loc main_arg1) (ix2 1 j) := by
  unfold V
  after_reads_at
  rfl

/-- the bias, -/
theorem b_at (n : Fin 3072) : (V m c main_v5 (ix2 0 n) : EReal) = m ((c.tc : Thread nD τ).loc main_arg3) (ix2 1 n) := by
  unfold V
  after_reads_at
  rfl

/-- the branches' weights, -/
theorem wf_at (i : Fin 512) (k : Fin 1024) : (V m c main_v8 (ix2 i k) : EReal) = m ((c.tc : Thread nD τ).loc main_arg7) (ix3 1 i k) := by
  unfold V
  after_reads_at
  rfl

theorem ws_at (i : Fin 512) (k : Fin 1024) : (V m c main_v11 (ix2 i k) : EReal) = m ((c.tc : Thread nD τ).loc main_arg8) (ix3 1 i k) := by
  unfold V
  after_reads_at
  rfl

theorem wl_at (i : Fin 512) (k : Fin 1024) : (V m c main_v14 (ix2 i k) : EReal) = m ((c.tc : Thread nD τ).loc main_arg9) (ix3 1 i k) := by
  unfold V
  after_reads_at
  rfl

/-- and the last weights. -/
theorem wo_at (i k : Fin 1024) : (V m c main_v17 (ix2 i k) : EReal) = m ((c.tc : Thread nD τ).loc main_arg10) (ix3 1 i k) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 1 j) := by
  rw [← g_at m c j]
  unfold iblk
  refine (View.read_apply ..).trans ?_
  show V m c main_v2 _ = _
  refine congrArg (V m c main_v2) (funext fun a => Fin.ext ?_)
  match a with
  | ⟨0, _⟩ => rfl
  | ⟨1, _⟩ => show 0 * 1024 + 1 * j.val = j.val; omega

theorem b_block (n : Fin 3072) : ((iblk m c 6 t : Vec Ideal S1x3072 .f32) (ix2 0 n) : EReal) = m ((c.tc : Thread nD τ).loc main_arg3) (ix2 1 n) := by
  rw [← b_at m c n]
  unfold iblk
  refine (View.read_apply ..).trans ?_
  show V m c main_v5 _ = _
  refine congrArg (V m c main_v5) (funext fun a => Fin.ext ?_)
  match a with
  | ⟨0, _⟩ => rfl
  | ⟨1, _⟩ => show 0 * 3072 + 1 * n.val = n.val; omega

theorem yf_block (r i : Fin 512) (R : Fin 33792) (hR : R.val = t.val * 512 + r.val) :
    ((iblk m c 7 t : Vec Ideal S512x512 .bf16) (ix2 r i) : EReal) = m ((c.tc : Thread nD τ).loc main_arg4) (ix2 R i) := by
  unfold iblk
  refine (View.read_apply ..).trans ?_
  show V m c main_arg4 _ = _
  rw [V_main_arg4]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem ys_block (r i : Fin 512) (R : Fin 33792) (hR : R.val = t.val * 512 + r.val) :
    ((iblk m c 8 t : Vec Ideal S512x512 .bf16) (ix2 r i) : EReal) = m ((c.tc : Thread nD τ).loc main_arg5) (ix2 R i) := by
  unfold iblk
  refine (View.read_apply ..).trans ?_
  show V m c main_arg5 _ = _
  rw [V_main_arg5]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem yl_block (r i : Fin 512) (R : Fin 33792) (hR : R.val = t.val * 512 + r.val) :
    ((iblk m c 9 t : Vec Ideal S512x512 .bf16) (ix2 r i) : EReal) = m ((c.tc : Thread nD τ).loc main_arg6) (ix2 R i) := by
  unfold iblk
  refine (View.read_apply ..).trans ?_
  show V m c main_arg6 _ = _
  rw [V_main_arg6]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 512 + 1 * i.val = i.val; omega

theorem wf_block (i : Fin 512) (k : Fin 1024) :
    ((iblk m c 10 t : Vec Ideal S512x1024 .bf16) (ix2 i k) : EReal) = m ((c.tc : Thread nD τ).loc main_arg7) (ix3 1 i k) := by
  rw [← wf_at m c i k]
  unfold iblk
  refine (View.read_apply ..).trans ?_
  show V m c main_v8 _ = _
  refine congrArg (V m c main_v8) (funext fun a => Fin.ext ?_)
  match a with
  | ⟨0, _⟩ => show 0 * 512 + 1 * i.val = i.val; omega
  | ⟨1, _⟩ => show 0 * 1024 + 1 * k.val = k.val; omega

theorem ws_block (i : Fin 512) (k : Fin 1024) :
    ((iblk m c 11 t : Vec Ideal S512x1024 .bf16) (ix2 i k) : EReal) = m ((c.tc : Thread nD τ).loc main_arg8) (ix3 1 i k) := by
  rw [← ws_at m c i k]
  unfold iblk
  refine (View.read_apply ..).trans ?_
  show V m c main_v11 _ = _
  refine congrArg (V m c main_v11) (funext fun a => Fin.ext ?_)
  match a with
  | ⟨0, _⟩ => show 0 * 512 + 1 * i.val = i.val; omega
  | ⟨1, _⟩ => show 0 * 1024 + 1 * k.val = k.val; omega

theorem wl_block (i : Fin 512) (k : Fin 1024) :
    ((iblk m c 12 t : Vec Ideal S512x1024 .bf16) (ix2 i k) : EReal) = m ((c.tc : Thread nD τ).loc main_arg9) (ix3 1 i k) := by
  rw [← wl_at m c i k]
  unfold iblk
  refine (View.read_apply ..).trans ?_
  show V m c main_v14 _ = _
  refine congrArg (V m c main_v14) (funext fun a => Fin.ext ?_)
  match a with
  | ⟨0, _⟩ => show 0 * 512 + 1 * i.val = i.val; omega
  | ⟨1, _⟩ => show 0 * 1024 + 1 * k.val = k.val; omega

theorem wo_block (i k : Fin 1024) :
    ((iblk m c 13 t : Vec Ideal S1024x1024 .bf16) (ix2 i k) : EReal) = m ((c.tc : Thread nD τ).loc main_arg10) (ix3 1 i k) := by
  rw [← wo_at m c i k]
  unfold iblk
  refine (View.read_apply ..).trans ?_
  show V m c main_v17 _ = _
  refine congrArg (V m c main_v17) (funext fun a => Fin.ext ?_)
  match a with
  | ⟨0, _⟩ => show 0 * 1024 + 1 * i.val = i.val; omega
  | ⟨1, _⟩ => show 0 * 1024 + 1 * k.val = k.val; omega

end Cert.Merge1Ideal.Hand

end
-- ==== Proof.Merge1Spec.lean ====
/- The second layer's merge's result, over the extended reals: the three branches' projections under their gates, through the last weights. -/
module

public import proofs.«01_k».proof.Proof.Inproj1Spec
public import Idealize.ShloMosaic.Lib.IdealHost

@[expose] public section

noncomputable section

namespace Cert.Merge1.Spec

open Idealize.ShloMosaic
open Idealize.ShloMosaic.ValueIdx
open scoped BigOperators

variable (h : FVec Ideal ⟨2, ![33792, 1024]⟩ .f32) (g : FVec Ideal ⟨2, ![2, 1024]⟩ .f32) (w : FVec Ideal ⟨3, ![2, 1024, 7172]⟩ .f32)
  (b : FVec Ideal ⟨2, ![2, 3072]⟩ .f32) (yf ys yl : FVec Ideal ⟨2, ![33792, 512]⟩ .bf16)
  (wf ws wl : FVec Ideal ⟨3, ![2, 512, 1024]⟩ .f32) (wo : FVec Ideal ⟨3, ![2, 1024, 1024]⟩ .f32)

/-- One gate: the normalised row against its weight column, which lies past the branches' 4100, plus its bias. -/
def gate (r : Fin 33792) (n : Fin 3072) : EReal :=
  Ideal.logistic (Inproj1.Spec.proj h g w r ⟨4100 + n.val, by omega⟩ + b (ix2 1 n))

/-- A branch's row against one output column. -/
def branch (y : FVec Ideal ⟨2, ![33792, 512]⟩ .bf16) (o : FVec Ideal ⟨3, ![2, 512, 1024]⟩ .f32) (r : Fin 33792) (k : Fin 1024) : EReal :=
  ∑ i : Fin 512, (y (ix2 r i) : EReal) * o (ix3 1 i k)

/-- The gated sum of the three branches. -/
def merged (r : Fin 33792) (k : Fin 1024) : EReal :=
  gate h g w b r ⟨k.val, by omega⟩ * branch yf wf r k + gate h g w b r ⟨1024 + k.val, by omega⟩ * branch ys ws r k
    + gate h g w b r ⟨2048 + k.val, by omega⟩ * branch yl wl r k

/-- The result: the row plus the merged row through the last weights. -/
def result : FVec Ideal ⟨2, ![33792, 1024]⟩ .f32 :=
  fun i => (h (ix2 (i 0) (i 1)) : EReal) + ∑ k : Fin 1024, merged h g w b yf ys yl wf ws wl (i 0) k * wo (ix3 1 k (i 1))

end Cert.Merge1.Spec

end
-- ==== Proof.Merge1Value.lean ====
/- The second layer's merge's array after the run: the row plus the gated sum of the three branches through the last weights. -/
module

public import proofs.«01_k».proof.Proof.Merge1Scratch
public import proofs.«01_k».proof.Proof.Merge1Blocks
public import proofs.«01_k».proof.Proof.Merge1Spec

@[expose] public section

set_option maxRecDepth 16384

noncomputable section

namespace Cert.Merge1Ideal.Hand

open Idealize.ShloMosaic hiding ix1 ix2 ix3 ix4
open Idealize.ShloMosaic.ValueIdx Idealize.ShloMosaic.TcCoe Idealize.SL.Sem Cert.Merge1Ideal Cert.Merge1Ideal.Gen Cert.Norm
open Idealize.ShloMosaic.Pipeline (Dat)
open scoped BigOperators

/-! ## A tile over its inputs -/

/-- 1024 of the scratch buffer's columns, from `off`. -/
theorem ldW_at (W : FVec Ideal S2x1024x7172 .f32) (off : Nat) (inb) (ho : off + 1024 ≤ 3072) (j k : Fin 1024) :
    (ldW (F := Ideal) (GW W) off inb (ix2 j k) : EReal) = W (ix3 1 j ⟨4100 + (off + k.val), by omega⟩) :=
  emb_scr W off inb ho j k

/-- 1024 of the bias's entries, from `off`. -/
theorem ldB_at (b : Vec Ideal S1x3072 .f32) (off : Nat) (inb) (ho : off + 1024 ≤ 3072) (k : Fin 1024) :
    (ldB (F := Ideal) b off inb (ix2 0 k) : EReal) = b (ix2 0 ⟨off + k.val, by omega⟩) := by
  refine congrArg b (funext fun a => Fin.ext ?_)
  match a with
  | ⟨0, _⟩ => rfl
  | ⟨1, _⟩ => show off + 1 * k.val = off + k.val; omega

section
variable (h : FVec Ideal S33792x1024 .f32) (g : FVec Ideal S2x1024 .f32) (W : FVec Ideal S2x1024x7172 .f32) (b : FVec Ideal S2x3072 .f32)
  (x0 : Vec Ideal S512x1024 .f32) (x1 : Vec Ideal S1x1024 .f32) (x6 : Vec Ideal S1x3072 .f32) (r : Fin 512) (R : Fin 33792)

/-- The normalised row a tile starts from. -/
theorem norm_eq (h0 : ∀ k : Fin 1024, (x0 (ix2 r k) : EReal) = h (ix2 R k)) (h1 : ∀ k : Fin 1024, (x1 (ix2 0 k) : EReal) = g (ix2 1 k)) (j : Fin 1024) :
    (k0_pay5 (F := Ideal) x0 x1 (ix2 r j) : EReal) = norm (fun k => h (ix2 R k)) (fun k => g (ix2 1 k)) j := by
  refine (pay5_at ..).trans ?_
  rw [funext h0, funext h1]

/-- A gate's columns before the bias: the projection past the branches' 4100. -/
theorem proj_eq (h0 : ∀ k : Fin 1024, (x0 (ix2 r k) : EReal) = h (ix2 R k)) (h1 : ∀ k : Fin 1024, (x1 (ix2 0 k) : EReal) = g (ix2 1 k))
    (off : Nat) (inb) (ho : off + 1024 ≤ 3072) (k : Fin 1024) :
    (∑ j : Fin 1024, (k0_pay5 (F := Ideal) x0 x1 (ix2 r j) : EReal) * ldW (F := Ideal) (GW W) off inb (ix2 j k))
      = Inproj1.Spec.proj h g W R ⟨4100 + (off + k.val), by omega⟩ :=
  Finset.sum_congr rfl fun j _ => congrArg₂ (· * ·) (norm_eq h g x0 x1 r R h0 h1 j) (ldW_at W off inb ho j k)

/-- A gate, given its columns before the bias. -/
theorem gate_eq (h6 : ∀ n : Fin 3072, (x6 (ix2 0 n) : EReal) = b (ix2 1 n)) (off : Nat) (inb) (ho : off + 1024 ≤ 3072) (k : Fin 1024) (p : EReal)
    (hp : p = Inproj1.Spec.proj h g W R ⟨4100 + (off + k.val), by omega⟩) :
    Ideal.logistic (p + (ldB (F := Ideal) x6 off inb (ix2 0 k) : EReal)) = Merge1.Spec.gate h g W b R ⟨off + k.val, by omega⟩ := by
  rw [ldB_at x6 off inb ho k, h6, hp]
  rfl

/-- A branch's row against an output column. -/
theorem branch_eq (x : Vec Ideal S512x512 .bf16) (o : Vec Ideal S512x1024 .bf16) (y : FVec Ideal S33792x512 .bf16) (O : FVec Ideal S2x512x1024 .f32)
    (hx : ∀ i : Fin 512, (x (ix2 r i) : EReal) = y (ix2 R i)) (k : Fin 1024) (ho : ∀ i : Fin 512, (o (ix2 i k) : EReal) = O (ix3 1 i k)) :
    (∑ i : Fin 512, (x (ix2 r i) : EReal) * o (ix2 i k)) = Merge1.Spec.branch y O R k :=
  Finset.sum_congr rfl fun i _ => congrArg₂ (· * ·) (hx i) (ho i)

/-- A tile's entry is the result's, whatever the tile's row is called there. -/
theorem tile_at (x7 x8 x9 : Vec Ideal S512x512 .bf16) (x10 x11 x12 : Vec Ideal S512x1024 .bf16) (x13 : Vec Ideal S1024x1024 .bf16)
    (yf ys yl : FVec Ideal S33792x512 .bf16) (wf ws wl : FVec Ideal S2x512x1024 .f32) (wo : FVec Ideal S2x1024x1024 .f32)
    (h0 : ∀ k : Fin 1024, (x0 (ix2 r k) : EReal) = h (ix2 R k)) (h1 : ∀ k : Fin 1024, (x1 (ix2 0 k) : EReal) = g (ix2 1 k))
    (h6 : ∀ n : Fin 3072, (x6 (ix2 0 n) : EReal) = b (ix2 1 n)) (h7 : ∀ i : Fin 512, (x7 (ix2 r i) : EReal) = yf (ix2 R i))
    (h8 : ∀ i : Fin 512, (x8 (ix2 r i) : EReal) = ys (ix2 R i)) (h9 : ∀ i : Fin 512, (x9 (ix2 r i) : EReal) = yl (ix2 R i))
    (h10 : ∀ (i : Fin 512) (k : Fin 1024), (x10 (ix2 i k) : EReal) = wf (ix3 1 i k)) (h11 : ∀ (i : Fin 512) (k : Fin 1024), (x11 (ix2 i k) : EReal) = ws (ix3 1 i k))
    (h12 : ∀ (i : Fin 512) (k : Fin 1024), (x12 (ix2 i k) : EReal) = wl (ix3 1 i k)) (h13 : ∀ i k : Fin 1024, (x13 (ix2 i k) : EReal) = wo (ix3 1 i k)) (j : Fin 1024) :
    (tile (F := Ideal) (GW W) x0 x1 x6 x7 x8 x9 x10 x11 x12 x13 (ix2 r j) : EReal) = Merge1.Spec.result h g W b yf ys yl wf ws wl wo (ix2 R j) := by
  unfold tile
  refine (pay1_at ..).trans ?_
  have ef (k : Fin 1024) := (pay6_at x0 x1 (ldW (F := Ideal) (GW W) 0 inb_S1024x3072_S1024x1024_0_0) (ldB (F := Ideal) x6 0 inb_S1x3072_S1x1024_0_0) x7 x10 r k).trans
    (congrArg₂ (· * ·) ((gate_eq h g W b x6 R h6 0 inb_S1x3072_S1x1024_0_0 (by omega) k _
        (proj_eq h g W x0 x1 r R h0 h1 0 inb_S1024x3072_S1024x1024_0_0 (by omega) k)).trans
          (congrArg (Merge1.Spec.gate h g W b R) (Fin.ext (Nat.zero_add k.val) : (⟨0 + k.val, by omega⟩ : Fin 3072) = ⟨k.val, by omega⟩)))
      (branch_eq r R x7 x10 yf wf h7 k fun i => h10 i k))
  have es (k : Fin 1024) := congrArg₂ (· * ·) (gate_eq h g W b x6 R h6 1024 inb_S1x3072_S1x1024_0_1024 (by omega) k _
      ((pay7_at x0 x1 (ldW (F := Ideal) (GW W) 1024 inb_S1024x3072_S1024x1024_0_1024) r k).trans
        (proj_eq h g W x0 x1 r R h0 h1 1024 inb_S1024x3072_S1024x1024_0_1024 (by omega) k)))
    (branch_eq r R x8 x11 ys ws h8 k fun i => h11 i k)
  have el (k : Fin 1024) := congrArg₂ (· * ·) (gate_eq h g W b x6 R h6 2048 inb_S1x3072_S1x1024_0_2048 (by omega) k _
      (proj_eq h g W x0 x1 r R h0 h1 2048 inb_S1024x3072_S1024x1024_0_2048 (by omega) k))
    (branch_eq r R x9 x12 yl wl h9 k fun i => h12 i k)
  exact congrArg₂ (· + ·) (h0 j) (Finset.sum_congr rfl fun k _ =>
    congrArg₂ (· * ·) (congrArg₂ (· + ·) (congrArg₂ (· + ·) (ef k) (es k)) (el k)) (h13 k j))

end

variable (m : (ℓ : Loc nD τ sig) → Buf (Elt Ideal) ℓ) (c : Dev nD) (t : Fin cfg0.N)

/-- The result, over the call's arguments. -/
def G : FVec Ideal S33792x1024 .f32 :=
  Merge1.Spec.result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- A tile is the result's rows of that tile. -/
theorem tile_eq (r : Fin 512) (j : Fin 1024) (R : Fin 33792) (hR : R.val = t.val * 512 + r.val) :
    (tileW m c t (ix2 r j) : EReal) = G m c (ix2 R j) := by
  unfold tileW
  rw [scrW_gw]
  exact tile_at _ _ _ _ _ _ _ r R _ _ _ _ _ _ _ _ _ _ _ _ _ _ (fun k => h_block m c t r k R hR) (g_block m c t) (b_block m c t)
    (fun i => yf_block m c t r i R hR) (fun i => ys_block m c t r i R hR) (fun i => yl_block m c t r i R hR)
    (wf_block m c t) (ws_block m c t) (wl_block m c t) (wo_block m c t) j

/-! ## The array -/

/-- A tile's write-back writes the result's rows of that tile. -/
theorem flushed14 (hf : (cfg0.win 14).flush t = true) :
    (dats m 0 c).flushed 14 t = ((cfg0.win 14).blk t).view.read (Elt Ideal) (G m c) := by
  have ht : t.val < 66 := Nat.lt_of_lt_of_eq t.isLt N_0
  show (cfg0.win 14).cut (grid0.coords t) ((dats m 0 c).after 14 t) = _
  rw [after0_14]
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (tile_eq m c t r j ⟨t.val * 512 + r.val, by omega⟩ rfl).trans ?_
  refine Eq.trans ?_ (View.read_apply ..).symm
  refine congrArg (G m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the array lies in some tile's write-back. -/
theorem covered14 (i : S33792x1024.Idx) : ∃ t : Fin cfg0.N, (cfg0.win 14).flush t = true ∧ i ∈ ((cfg0.win 14).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_14 (grid0.coords t) 0 = (i 0 : Nat) / 512 := tile_index t
  refine ⟨t, flush0_14 t, ?_⟩
  refine (iff_of_eq (congrArg (fun s => i ∈ s) (View.set_slice_whole main_v18 ((cfg0.win 14).rect t)))).mpr ?_
  refine (Rect.mem_set_unit ..).mpr ?_
  intro a
  match a with
  | ⟨0, _⟩ =>
    show cc0_transform_14 (grid0.coords t) 0 * 512 ≤ (i 0 : Nat) ∧ (i 0 : Nat) < cc0_transform_14 (grid0.coords t) 0 * 512 + 512
    rw [hi']; omega
  | ⟨1, _⟩ => show 0 * 1024 ≤ (i 1 : Nat) ∧ (i 1 : Nat) < 0 * 1024 + 1024; omega

/-- So the array ends at the result. -/
theorem final14 : (dats m 0 c).arrAt 14 cfg0.N = G m c :=
  (dats m 0 c).arrAt_eq_of_cover 14 (G m c) (flushed14 m c) covered14

/-! ## The run -/

variable (ρ : Dev nD → PrngReg)

/-- After a run the kernel's array holds the result and its arguments are as launched. -/
theorem run : θ_run defs (onTc (τ := τ) (main (F := Ideal))) ⟨m, fun _ => 0, ρ⟩ fun r => ∀ c : Dev nD,
      r.2.mem ((c : Thread nD τ).loc main_v18) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 14).trans (final14 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 5).trans (((dats m 0 c).arrAt_in 5 rfl _).trans ((A_eq m c 5).trans (V_main_arg2 m c))),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).1 8).trans (((dats m 0 c).arrAt_in 8 rfl _).trans ((A_eq m c 8).trans (V_main_arg5 m c))),
      ((h c).1 9).trans (((dats m 0 c).arrAt_in 9 rfl _).trans ((A_eq m c 9).trans (V_main_arg6 m c))),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.Merge1Ideal.Hand

end
-- ==== Proof.Merge1Ref.lean ====
/- The second layer's merge's reference is `Cert.Merge1.Spec`'s result of its arguments. -/
module

public import proofs.«01_k».proof.Proof.Merge1Spec
public import proofs.«01_k».proof.Proof.Gen.Merge1ReferenceIdeal.Read
public import Idealize.ShloMosaic.Lib.IdealHost
public import Idealize.ShloMosaic.Lib.Pipeline.Value

@[expose] public section

set_option maxRecDepth 16384

noncomputable section

namespace Cert.Merge1ReferenceIdeal.Rows

open Cert.Merge1ReferenceIdeal Cert.Merge1ReferenceIdeal.Gen Cert.Merge1ReferenceIdeal.Read Idealize.ShloMosaic Idealize.ShloMosaic.ValueIdx Cert.Norm
open scoped BigOperators

variable (x0 : FVec Ideal S33792x1024 .f32) (x1 : FVec Ideal S2x1024 .f32) (x2 : FVec Ideal S2x1024x7172 .f32) (x3 : FVec Ideal S2x3072 .f32)
  (x4 x5 x6 : FVec Ideal S33792x512 .bf16) (x7 x8 x9 : FVec Ideal S2x512x1024 .f32) (x10 : FVec Ideal S2x1024x1024 .f32)

/-- A row of the rows, and the gain the reference multiplies by. -/
abbrev row (r : Fin 33792) : Fin 1024 → EReal := fun k => x0 (ix2 r k)
abbrev gain : Fin 1024 → EReal := fun k => x1 (ix2 1 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 1 j from funext fun a => Fin.ext (match a with
      | ⟨0, _⟩ => rfl
      | ⟨1, _⟩ => (by show j.val % 1024 = j.val; omega))]
  rfl

/-- The gate weights: the second layer's columns past the branches'. -/
theorem v17_at (j : Fin 1024) (n : Fin 3072) : (val_main_v17 (F := Ideal) x2 (ix2 j n) : EReal) = x2 (ix3 1 j ⟨4100 + n.val, by omega⟩) := by
  rw [val_main_v17_apply, val_main_v16_apply, val_main_v15_apply]
  refine congrArg x2 (funext fun a => Fin.ext ?_)
  match a with
  | ⟨0, _⟩ => rfl
  | ⟨1, _⟩ => show (j.val * 7172 + (4100 + n.val)) / 7172 % 1024 = j.val; omega
  | ⟨2, _⟩ => show (j.val * 7172 + (4100 + n.val)) % 7172 = 4100 + n.val; omega

/-- Their product. -/
theorem v18_at (r : Fin 33792) (n : Fin 3072) :
    (val_main_v18 (F := Ideal) x0 x1 x2 (ix2 r n) : EReal) = Inproj1.Spec.proj x0 x1 x2 r ⟨4100 + n.val, by omega⟩ := by
  rw [val_main_v18_apply]
  refine Finset.sum_congr rfl fun j _ => ?_
  rw [show lidx_main_v18 (ix2 r n) j = ix2 r j from funext fun a => match a with | ⟨0, _⟩ => rfl | ⟨1, _⟩ => rfl,
    show ridx_main_v18 (ix2 r n) j = ix2 j n from funext fun a => match a with | ⟨0, _⟩ => rfl | ⟨1, _⟩ => rfl, v14_at, v17_at]

/-- The bias of the second layer. -/
theorem v22_at (r : Fin 33792) (n : Fin 3072) : (val_main_v22 (F := Ideal) x3 (ix2 r n) : EReal) = x3 (ix2 1 n) := by
  rw [val_main_v22_apply, val_main_v21_apply, val_main_v20_apply, val_main_v19_apply]
  refine congrArg x3 (funext fun a => Fin.ext ?_)
  match a with
  | ⟨0, _⟩ => rfl
  | ⟨1, _⟩ => show n.val % 3072 = n.val; omega

/-- The gates. -/
theorem v29_at (r : Fin 33792) (n : Fin 3072) : (val_main_v29 (F := Ideal) x0 x1 x2 x3 (ix2 r n) : EReal) = Merge1.Spec.gate x0 x1 x2 x3 r n := by
  rw [val_main_v29_apply, val_main_v28_apply, val_main_v27_apply, val_main_v26_apply, val_main_v25_apply, val_main_v24_apply,
    val_main_v23_apply, v18_at, v22_at, val_main_cst_2_apply, val_main_cst_3_apply, Ideal.ofBits_def, Ideal.ofBits_one_f32]
  rfl

/-- The gates of each branch. -/
theorem v44_at (r : Fin 33792) (k : Fin 1024) :
    (val_main_v44 (F := Ideal) x0 x1 x2 x3 (ix2 r k) : EReal) = Merge1.Spec.gate x0 x1 x2 x3 r ⟨k.val, by omega⟩ := by
  rw [val_main_v44_apply, val_main_v43_apply, val_main_v30_apply, ← v29_at]
  refine congrArg (val_main_v29 (F := Ideal) x0 x1 x2 x3) (funext fun a => Fin.ext ?_)
  match a with
  | ⟨0, _⟩ => show (((r.val * 1024 + k.val) / 1024 * 3 + 0) * 1024 + (r.val * 1024 + k.val) % 1024) / 3072 = r.val; omega
  | ⟨1, _⟩ => show (((r.val * 1024 + k.val) / 1024 * 3 + 0) * 1024 + (r.val * 1024 + k.val) % 1024) % 3072 = k.val; omega

theorem v47_at (r : Fin 33792) (k : Fin 1024) :
    (val_main_v47 (F := Ideal) x0 x1 x2 x3 (ix2 r k) : EReal) = Merge1.Spec.gate x0 x1 x2 x3 r ⟨1024 + k.val, by omega⟩ := by
  rw [val_main_v47_apply, val_main_v46_apply, val_main_v30_apply, ← v29_at]
  refine congrArg (val_main_v29 (F := Ideal) x0 x1 x2 x3) (funext fun a => Fin.ext ?_)
  match a with
  | ⟨0, _⟩ => show (((r.val * 1024 + k.val) / 1024 * 3 + (1 + 0)) * 1024 + (r.val * 1024 + k.val) % 1024) / 3072 = r.val; omega
  | ⟨1, _⟩ => show (((r.val * 1024 + k.val) / 1024 * 3 + (1 + 0)) * 1024 + (r.val * 1024 + k.val) % 1024) % 3072 = 1024 + k.val; omega

theorem v51_at (r : Fin 33792) (k : Fin 1024) :
    (val_main_v51 (F := Ideal) x0 x1 x2 x3 (ix2 r k) : EReal) = Merge1.Spec.gate x0 x1 x2 x3 r ⟨2048 + k.val, by omega⟩ := by
  rw [val_main_v51_apply, val_main_v50_apply, val_main_v30_apply, ← v29_at]
  refine congrArg (val_main_v29 (F := Ideal) x0 x1 x2 x3) (funext fun a => Fin.ext ?_)
  match a with
  | ⟨0, _⟩ => show (((r.val * 1024 + k.val) / 1024 * 3 + (2 + 0)) * 1024 + (r.val * 1024 + k.val) % 1024) / 3072 = r.val; omega
  | ⟨1, _⟩ => show (((r.val * 1024 + k.val) / 1024 * 3 + (2 + 0)) * 1024 + (r.val * 1024 + k.val) % 1024) % 3072 = 2048 + k.val; omega

/-- The branches' weights, of the second layer, -/
theorem v33_at (i : Fin 512) (k : Fin 1024) : (val_main_v33 (F := Ideal) x7 (ix2 i k) : EReal) = x7 (ix3 1 i k) := by
  rw [val_main_v33_apply, val_main_v32_apply]
  refine congrArg x7 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

theorem v37_at (i : Fin 512) (k : Fin 1024) : (val_main_v37 (F := Ideal) x8 (ix2 i k) : EReal) = x8 (ix3 1 i k) := by
  rw [val_main_v37_apply, val_main_v36_apply]
  refine congrArg x8 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

theorem v41_at (i : Fin 512) (k : Fin 1024) : (val_main_v41 (F := Ideal) x9 (ix2 i k) : EReal) = x9 (ix3 1 i k) := by
  rw [val_main_v41_apply, val_main_v40_apply]
  refine congrArg x9 (funext fun a => Fin.ext ?_)
  match a with
  | ⟨0, _⟩ => rfl
  | ⟨1, _⟩ => show (i.val * 1024 + k.val) / 1024 % 512 = i.val; omega
  | ⟨2, _⟩ => show (i.val * 1024 + k.val) % 1024 = k.val; omega

/-- and the last weights. -/
theorem v55_at (k c : Fin 1024) : (val_main_v55 (F := Ideal) x10 (ix2 k c) : EReal) = x10 (ix3 1 k c) := by
  rw [val_main_v55_apply, val_main_v54_apply]
  refine congrArg x10 (funext fun a => Fin.ext ?_)
  match a with
  | ⟨0, _⟩ => rfl
  | ⟨1, _⟩ => show (k.val * 1024 + c.val) / 1024 % 1024 = k.val; omega
  | ⟨2, _⟩ => show (k.val * 1024 + c.val) % 1024 = c.val; omega

/-- The branches. -/
theorem v34_at (r : Fin 33792) (k : Fin 1024) : (val_main_v34 (F := Ideal) x4 x7 (ix2 r k) : EReal) = Merge1.Spec.branch x4 x7 r k := by
  rw [val_main_v34_apply]
  refine Finset.sum_congr rfl fun i _ => ?_
  rw [show lidx_main_v34 (ix2 r k) i = ix2 r i from funext fun a => match a with | ⟨0, _⟩ => rfl | ⟨1, _⟩ => rfl,
    show ridx_main_v34 (ix2 r k) i = ix2 i k from funext fun a => match a with | ⟨0, _⟩ => rfl | ⟨1, _⟩ => rfl, v33_at, val_main_v31_apply]
  rfl

theorem v38_at (r : Fin 33792) (k : Fin 1024) : (val_main_v38 (F := Ideal) x5 x8 (ix2 r k) : EReal) = Merge1.Spec.branch x5 x8 r k := by
  rw [val_main_v38_apply]
  refine Finset.sum_congr rfl fun i _ => ?_
  rw [show lidx_main_v38 (ix2 r k) i = ix2 r i from funext fun a => match a with | ⟨0, _⟩ => rfl | ⟨1, _⟩ => rfl,
    show ridx_main_v38 (ix2 r k) i = ix2 i k from funext fun a => match a with | ⟨0, _⟩ => rfl | ⟨1, _⟩ => rfl, v37_at, val_main_v35_apply]
  rfl

theorem v42_at (r : Fin 33792) (k : Fin 1024) : (val_main_v42 (F := Ideal) x6 x9 (ix2 r k) : EReal) = Merge1.Spec.branch x6 x9 r k := by
  rw [val_main_v42_apply]
  refine Finset.sum_congr rfl fun i _ => ?_
  rw [show lidx_main_v42 (ix2 r k) i = ix2 r i from funext fun a => match a with | ⟨0, _⟩ => rfl | ⟨1, _⟩ => rfl,
    show ridx_main_v42 (ix2 r k) i = ix2 i k from funext fun a => match a with | ⟨0, _⟩ => rfl | ⟨1, _⟩ => rfl, v41_at, val_main_v39_apply]
  rfl

/-- Their gated sum. -/
theorem v53_at (r : Fin 33792) (k : Fin 1024) :
    (val_main_v53 (F := Ideal) x0 x1 x2 x3 x4 x5 x6 x7 x8 x9 (ix2 r k) : EReal) = Merge1.Spec.merged x0 x1 x2 x3 x4 x5 x6 x7 x8 x9 r k := by
  rw [val_main_v53_apply, val_main_v52_apply, val_main_v49_apply, val_main_v48_apply, val_main_v45_apply, v44_at, v47_at, v51_at, v34_at, v38_at, v42_at]
  rfl

/-- The reference's result. -/
theorem result_eq :
    val_main_v57 (F := Ideal) x0 x1 x2 x3 x4 x5 x6 x7 x8 x9 x10 = Merge1.Spec.result x0 x1 x2 x3 x4 x5 x6 x7 x8 x9 x10 := by
  funext i
  obtain ⟨r, c, rfl⟩ : ∃ (r : Fin 33792) (c : Fin 1024), i = ix2 r c := ⟨i 0, i 1, ValueIdx.eq_ix2 i⟩
  rw [val_main_v57_apply, val_main_v56_apply]
  refine congrArg (fun z : EReal => (x0 (ix2 r c) : EReal) + z) (Finset.sum_congr rfl fun k _ => ?_)
  rw [show lidx_main_v56 (ix2 r c) k = ix2 r k from funext fun a => match a with | ⟨0, _⟩ => rfl | ⟨1, _⟩ => rfl,
    show ridx_main_v56 (ix2 r c) k = ix2 k c from funext fun a => match a with | ⟨0, _⟩ => rfl | ⟨1, _⟩ => rfl, v53_at, v55_at]

end Cert.Merge1ReferenceIdeal.Rows

end
-- ==== Proof.RouterValue.lean ====
/- The router's normalised rows: row by row, `Cert.Norm.norm` of the row and the second gain.

   The router also leaves expert choices, weights and counts; nothing is said here of their values. -/
module

public import proofs.«01_k».proof.Proof.NormSpec
public import proofs.«01_k».proof.Proof.Gen.RouterIdeal.Value
public import Idealize.ShloMosaic.Lib.Pipeline.Value
public import Idealize.ShloMosaic.Lib.Pipeline.ReadBack
public import Idealize.ShloMosaic.Lib.Pointwise
public import Idealize.ShloMosaic.Lib.StableHlo.ReadAt
public import Idealize.ShloMosaic.Lib.Tactic

@[expose] public section

set_option maxRecDepth 16384

noncomputable section

namespace Cert.Router.Spec

open Idealize.ShloMosaic hiding ix1 ix2 ix3 ix4
open Idealize.ShloMosaic.ValueIdx Cert.Norm

/-- The normalised rows, of the call's arguments: the second layer's gain. -/
def normed (h : FVec Ideal ⟨2, ![33792, 1024]⟩ .f32) (g : FVec Ideal ⟨2, ![2, 1024]⟩ .f32) : FVec Ideal ⟨2, ![33792, 1024]⟩ .f32 :=
  fun i => norm (fun k => h (ix2 (i 0) k)) (fun k => g (ix2 1 k)) (i 1)

end Cert.Router.Spec

namespace Cert.RouterIdeal.Tile

open Idealize.ShloMosaic hiding ix1 ix2 ix3 ix4
open Idealize.ShloMosaic.ValueIdx Idealize.ShloMosaic.TcCoe Idealize.SL.Sem Cert.RouterIdeal Cert.RouterIdeal.Gen Cert.RouterIdeal.Value Cert.Norm
open Idealize.ShloMosaic.Pipeline (Dat)
open scoped BigOperators

theorem hz2 : (![0, 0] : Fin 2 → Nat) = fun _ => 0 := by decide

/-- The normalised row of a tile. -/
theorem pay4_at (x : Vec Ideal S512x1024 .f32) (g : Vec Ideal S1x1024 .f32) (r : Fin 512) (j : Fin 1024) :
    (k0_pay4 (F := Ideal) x g (ix2 r j) : EReal) = norm (fun k => x (ix2 r k)) (fun k => g (ix2 0 k)) j := by
  pointwise [k0_pay4]
  rfl

/-! ## What a point leaves in the block of normalised rows -/

set_option maxHeartbeats 2000000 in
/-- The first point leaves its tile's normalised rows, -/
theorem hn_A (c : Dev nD) (i : grid0.Coords) (a1 : Memref sig .tc .vmem S512x1024 .f32) (h1 : a1.IsWhole) (a2 : Memref sig .tc .vmem S1x1024 .f32) (h2 : a2.IsWhole)
    (a3 : Memref sig .tc .vmem S1024x128 .f32) (h3 : a3.IsWhole) (a4 : Memref sig .tc .vmem S512x1024 .f32) (h4 : a4.IsWhole)
    (a5 : Memref sig .tc .vmem S512x128 .i32) (h5 : a5.IsWhole) (a6 : Memref sig .tc .vmem S512x128 .f32) (h6 : a6.IsWhole)
    (a7 : Memref sig .tc .vmem S8x128 .f32) (h7 : a7.IsWhole) (a8 : Memref sig .tc .vmem S1x128 .f32) (h8 : a8.IsWhole)
    (hc0 : cond0_0 i) (x0 : Vec Ideal S512x1024 .f32) (x1 : Vec Ideal S1x1024 .f32) (x2 : Vec Ideal S1024x128 .f32) :
    out0_A_3 (F := Ideal) c i a1 h1 a2 h2 a3 h3 a4 h4 a5 h5 a6 h6 a7 h7 a8 h8 hc0 x0 x1 x2 = k0_pay4 x0 x1 := by
  unfold out0_A_3
  rw [View.read_writes_eq_canon _ _ _ (cover0_A_3 (F := Ideal) c i a1 h1 a2 h2 a3 h3 a4 h4 a5 h5 a6 h6 a7 h7 a8 h8 hc0 x0 x1 x2)]
  unfold kernelRun0_A
  dsimp only
  sl_unfold_words
  simp only [View.readAt_eq_ld, h1.read_unread, h2.read_unread, View.ld_unit_zero (S := S512x1024) hz2, View.ld_unit_zero (S := S1x1024) hz2, shapeCast_self]
  rw [View.canon_unit_zero hz2]

set_option maxHeartbeats 2000000 in
/-- and so does a later one, whatever the counts before it. -/
theorem hn_B (c : Dev nD) (i : grid0.Coords) (a1 : Memref sig .tc .vmem S512x1024 .f32) (h1 : a1.IsWhole) (a2 : Memref sig .tc .vmem S1x1024 .f32) (h2 : a2.IsWhole)
    (a3 : Memref sig .tc .vmem S1024x128 .f32) (h3 : a3.IsWhole) (a4 : Memref sig .tc .vmem S512x1024 .f32) (h4 : a4.IsWhole)
    (a5 : Memref sig .tc .vmem S512x128 .i32) (h5 : a5.IsWhole) (a6 : Memref sig .tc .vmem S512x128 .f32) (h6 : a6.IsWhole)
    (a7 : Memref sig .tc .vmem S8x128 .f32) (h7 : a7.IsWhole) (a8 : Memref sig .tc .vmem S1x128 .f32) (h8 : a8.IsWhole)
    (hc0 : ¬cond0_0 i) (x0 : Vec Ideal S512x1024 .f32) (x1 : Vec Ideal S1x1024 .f32) (x2 : Vec Ideal S1024x128 .f32) (xs0 : Vec Ideal S1x128 .f32) :
    out0_B_3 (F := Ideal) c i a1 h1 a2 h2 a3 h3 a4 h4 a5 h5 a6 h6 a7 h7 a8 h8 hc0 x0 x1 x2 xs0 = k0_pay4 x0 x1 := by
  unfold out0_B_3
  rw [View.read_writes_eq_canon _ _ _ (cover0_B_3 (F := Ideal) c i a1 h1 a2 h2 a3 h3 a4 h4 a5 h5 a6 h6 a7 h7 a8 h8 hc0 x0 x1 x2 xs0)]
  unfold kernelRun0_B
  dsimp only
  sl_unfold_words
  simp only [View.readAt_eq_ld, h1.read_unread, h2.read_unread, View.ld_unit_zero (S := S512x1024) hz2, View.ld_unit_zero (S := S1x1024) hz2, shapeCast_self]
  rw [View.canon_unit_zero hz2]

variable (m : (ℓ : Loc nD τ sig) → Buf (Elt Ideal) ℓ) (c : Dev nD)

/-- The gain as the call receives it. -/
theorem g_at (j : Fin 1024) : (V m c main_v4 (ix2 0 j) : EReal) = m ((c.tc : Thread nD τ).loc main_arg1) (ix2 1 j) := by
  unfold V
  after_reads_at
  rfl

/-! ## The blocks -/

/-- The coordinate of a point: its row tile. -/
theorem tile_coord (t : Fin grid0.N) : (grid0.coords t 0).val = t.val := by
  have e : (grid0.coords t 0).val = t.val / 1 % 66 := Pipeline.Grid.coords_val t 0 (by decide) rfl
  have ht : t.val < 66 := Nat.lt_of_lt_of_eq t.isLt N_0
  rw [e]; omega

/-- The row tile as a block index. -/
theorem tile_index (t : Fin grid0.N) : (BitVec.ofNat 32 (grid0.coords t 0).val).toNat = t.val := by
  have ht : t.val < 66 := Nat.lt_of_lt_of_eq t.isLt N_0
  rw [tile_coord t, BitVec.toNat_ofNat]; exact Nat.mod_eq_of_lt (by omega)

variable (t : Fin cfg0.N)

theorem h_block (r : Fin 512) (j : Fin 1024) (R : Fin 33792) (hR : R.val = t.val * 512 + r.val) :
    ((iblk m c 0 t : Vec Ideal S512x1024 .f32) (ix2 r j) : EReal) = m ((c.tc : Thread nD τ).loc main_arg0) (ix2 R j) := by
  unfold iblk
  refine (View.read_apply ..).trans ?_
  show V m c main_arg0 _ = _
  rw [V_main_arg0]
  refine congrArg _ (funext fun a => Fin.ext ?_)
  match a with
  | ⟨0, _⟩ => exact Eq.trans (congrArg (fun z => z * 512 + 1 * r.val) (tile_index t)) (by show t.val * 512 + 1 * r.val = R.val; omega)
  | ⟨1, _⟩ => show 0 * 1024 + 1 * j.val = j.val; omega

theorem g_block (j : Fin 1024) : ((iblk m c 1 t : Vec Ideal S1x1024 .f32) (ix2 0 j) : EReal) = m ((c.tc : Thread nD τ).loc main_arg1) (ix2 1 j) := by
  rw [← g_at m c j]
  unfold iblk
  refine (View.read_apply ..).trans ?_
  show V m c main_v4 _ = _
  refine congrArg (V m c main_v4) (funext fun a => Fin.ext ?_)
  match a with
  | ⟨0, _⟩ => rfl
  | ⟨1, _⟩ => show 0 * 1024 + 1 * j.val = j.val; omega

/-- Every point leaves its tile's normalised rows there. -/
theorem outs_eq : (outsAt0 m c t.val t.isLt).1 = k0_pay4 (F := Ideal) (iblk m c 0 t) (iblk m c 1 t) := by
  by_cases h0 : t.val % 66 = 0
  · rw [outsAt0_A m c t h0]
    dsimp only
    rw [hn_A]
  · rw [outsAt0_B m c t h0]
    dsimp only
    rw [hn_B]

/-! ## The array of normalised rows -/

/-- The normalised rows over the call's arguments. -/
abbrev G : Vec Ideal S33792x1024 .f32 := Router.Spec.normed (m ((c.tc : Thread nD τ).loc main_arg0)) (m ((c.tc : Thread nD τ).loc main_arg1))

/-- A tile's normalised rows are the array's rows of that tile. -/
theorem norm_eq (r : Fin 512) (j : Fin 1024) (R : Fin 33792) (hR : R.val = t.val * 512 + r.val) :
    ((outsAt0 m c t.val t.isLt).1 (ix2 r j) : EReal) = G m c (ix2 R j) := by
  rw [outs_eq m c t]
  refine (pay4_at ..).trans ?_
  have h0 := funext fun k => h_block m c t r k R hR
  have h1 := funext fun k => g_block m c t k
  rw [h0, h1]
  rfl

/-- A tile's write-back writes the array's rows of that tile. -/
theorem flushed_eq (hf : (cfg0.win 3).flush t = true) :
    (dats m 0 c).flushed 3 t = ((cfg0.win 3).blk t).view.read (Elt Ideal) (G m c) := by
  have ht : t.val < 66 := Nat.lt_of_lt_of_eq t.isLt N_0
  refine (flushed3 m c t).trans ?_
  funext i
  obtain ⟨r, j, rfl⟩ : ∃ (r : Fin 512) (j : Fin 1024), i = (ix2 r j : S512x1024.Idx) :=
    ⟨(show S512x1024.Idx from i) 0, (show S512x1024.Idx from i) 1, ValueIdx.eq_ix2 (show S512x1024.Idx from i)⟩
  have hr := r.isLt
  refine (norm_eq m c t r j ⟨t.val * 512 + r.val, by omega⟩ rfl).trans ?_
  refine Eq.trans ?_ (View.read_apply ..).symm
  refine congrArg (G m c) (funext fun a => Fin.ext ?_)
  match a with
  | ⟨0, _⟩ => exact Eq.trans (by show t.val * 512 + r.val = t.val * 512 + 1 * r.val; omega) (congrArg (fun z => z * 512 + 1 * r.val) (tile_index t)).symm
  | ⟨1, _⟩ => show j.val = 0 * 1024 + 1 * j.val; omega

/-- Every element of the array lies in some tile's write-back. -/
theorem covered (i : S33792x1024.Idx) : ∃ t : Fin cfg0.N, (cfg0.win 3).flush t = true ∧ i ∈ ((cfg0.win 3).blk t).view.set := by
  have h0 : (i 0 : Nat) < 33792 := (i 0).isLt
  have h1 : (i 1 : Nat) < 1024 := (i 1).isLt
  have hN : cfg0.N = 66 := N_0
  let t : Fin cfg0.N := ⟨(i 0 : Nat) / 512, by rw [hN]; omega⟩
  have hi' : cc0_transform_3 (grid0.coords t) 0 = (i 0 : Nat) / 512 := tile_index t
  refine ⟨t, flush0_3 t, ?_⟩
  refine (iff_of_eq (congrArg (fun s => i ∈ s) (View.set_slice_whole main_v5_0 ((cfg0.win 3).rect t)))).mpr ?_
  refine (Rect.mem_set_unit ..).mpr ?_
  intro a
  match a with
  | ⟨0, _⟩ =>
    show cc0_transform_3 (grid0.coords t) 0 * 512 ≤ (i 0 : Nat) ∧ (i 0 : Nat) < cc0_transform_3 (grid0.coords t) 0 * 512 + 512
    rw [hi']; omega
  | ⟨1, _⟩ => show 0 * 1024 ≤ (i 1 : Nat) ∧ (i 1 : Nat) < 0 * 1024 + 1024; omega

/-- So the array ends at the normalised rows. -/
theorem final : (dats m 0 c).arrAt 3 cfg0.N = G m c :=
  (dats m 0 c).arrAt_eq_of_cover 3 (G m c) (flushed_eq m c) covered

end Cert.RouterIdeal.Tile

end
-- ==== Proof.RouterRef.lean ====
/- The router's reference, read: its result is `Cert.Router.Spec.normed` of its arguments. -/
module

public import proofs.«01_k».proof.Proof.RouterValue
public import proofs.«01_k».proof.Proof.Gen.RouterReferenceIdeal.Read
public import Idealize.ShloMosaic.Lib.IdealHost

@[expose] public section

set_option maxRecDepth 16384

noncomputable section

namespace Cert.RouterReferenceIdeal.Rows

open Cert.RouterReferenceIdeal Cert.RouterReferenceIdeal.Gen Cert.RouterReferenceIdeal.Read Cert.Norm
open Idealize.ShloMosaic hiding ix1 ix2 ix3 ix4
open Idealize.ShloMosaic.ValueIdx
open scoped BigOperators

variable (x0 : FVec Ideal S33792x1024 .f32) (x1 : FVec Ideal S2x1024 .f32)

/-- A row of the rows, and the gain the reference multiplies by. -/
abbrev row (r : Fin 33792) : Fin 1024 → EReal := fun k => x0 (ix2 r k)
abbrev gain : Fin 1024 → EReal := fun k => x1 (ix2 1 k)

/-- The sum of squares of a row. -/
theorem v3_at (r : Fin 33792) : (val_main_v3 (F := Ideal) x0 (ix1 r) : EReal) = ∑ k : Fin 1024, row x0 r k * row x0 r k := by
  rw [val_main_v3_apply, val_main_cst_apply, Ideal.ofBits_def, Ideal.ofBits_zero_f32, zero_add]
  refine Finset.sum_congr rfl fun k _ => ?_
  rw [val_main_v2_apply, show idx_main_v3 (ix1 r) k = ix2 r k from funext fun a => match a with | ⟨0, _⟩ => rfl | ⟨1, _⟩ => rfl]
  rfl

/-- The inverse root mean square of a row. -/
theorem v9_at (r : Fin 33792) : (val_main_v9 (F := Ideal) x0 (ix2 r 0) : EReal) = invRms (row x0 r) := by
  rw [val_main_v9_apply, val_main_v8_apply, val_main_v7_apply, val_main_v6_apply, val_main_v5_apply, val_main_v4_apply,
    show idx_main_v4 (ix2 r 0) = ix1 r from funext fun a => match a with | ⟨0, _⟩ => rfl, v3_at,
    val_main_cst_0_apply, val_main_cst_1_apply]
  rfl

/-- The normalised entries. -/
theorem v14_at (r : Fin 33792) (j : Fin 1024) : (val_main_v14 (F := Ideal) x0 x1 (ix2 r j) : EReal) = norm (row x0 r) (gain x1) j := by
  rw [val_main_v14_apply, val_main_v13_apply, val_main_v12_apply, val_main_v11_apply, val_main_v10_apply, val_main_v1_apply, val_main_v0_apply,
    show idx_main_v10 (ix2 r j) = ix2 r 0 from funext fun a => match a with | ⟨0, _⟩ => rfl | ⟨1, _⟩ => rfl, v9_at,
    show idx_main_v0 (idx_main_v1 (idx_main_v12 (idx_main_v13 (ix2 r j)))) = ix2 1 j from funext fun a => Fin.ext (match a with
      | ⟨0, _⟩ => rfl
      | ⟨1, _⟩ => (by show j.val % 1024 = j.val; omega))]
  rfl

/-- The reference's result. -/
theorem result_eq : val_main_v14 (F := Ideal) x0 x1 = Router.Spec.normed x0 x1 := by
  funext i
  obtain ⟨r, c, rfl⟩ : ∃ (r : Fin 33792) (c : Fin 1024), i = ix2 r c := ⟨i 0, i 1, ValueIdx.eq_ix2 i⟩
  exact v14_at x0 x1 r c

end Cert.RouterReferenceIdeal.Rows

end
-- ==== Proof.lean ====
/- The certificate's claims, assembled: the frames, the idealization and the algebraic claim of each of the seven calls. -/
module

public import proofs.«01_k».proof.Proof.Gen.ReferenceIdeal.Run
public import proofs.«01_k».proof.Proof.Gen.ReferenceIdeal.Read
public import proofs.«01_k».proof.Defs
public import proofs.«01_k».proof.Proof.KernelIdealFrame
public import proofs.«01_k».proof.Proof.Tables
public import proofs.«01_k».proof.Proof.TileValue
public import proofs.«01_k».proof.Proof.RefValue
public import proofs.«01_k».proof.Proof.FfnValue
public import proofs.«01_k».proof.Proof.FfnRef
public import proofs.«01_k».proof.Proof.InprojValue
public import proofs.«01_k».proof.Proof.InprojRef
public import proofs.«01_k».proof.Proof.MergeIdealFrame
public import proofs.«01_k».proof.Proof.MergeValue
public import proofs.«01_k».proof.Proof.MergeRef
public import proofs.«01_k».proof.Proof.Inproj1Value
public import proofs.«01_k».proof.Proof.Inproj1Ref
public import proofs.«01_k».proof.Proof.Merge1IdealFrame
public import proofs.«01_k».proof.Proof.Merge1Value
public import proofs.«01_k».proof.Proof.Merge1Ref
public import proofs.«01_k».proof.Proof.RouterValue
public import proofs.«01_k».proof.Proof.RouterRef
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Ffn
public import proofs.«01_k».proof.Proof.Gen.FfnIdeal
public import proofs.«01_k».proof.Proof.Gen.FfnReferenceIdeal
public import proofs.«01_k».proof.Proof.Gen.Inproj
public import proofs.«01_k».proof.Proof.Gen.InprojIdeal
public import proofs.«01_k».proof.Proof.Gen.InprojReferenceIdeal
public import proofs.«01_k».proof.Proof.Gen.Ffn.Frame
public import proofs.«01_k».proof.Proof.Gen.FfnIdeal.Frame
public import proofs.«01_k».proof.Proof.Gen.FfnIdeal.Value
public import proofs.«01_k».proof.Proof.Gen.Inproj.Frame
public import proofs.«01_k».proof.Proof.Gen.InprojIdeal.Frame
public import proofs.«01_k».proof.Proof.Gen.InprojIdeal.Value
public import proofs.«01_k».proof.Proof.Gen.FfnReferenceIdeal.Run
public import proofs.«01_k».proof.Proof.Gen.FfnReferenceIdeal.Read
public import proofs.«01_k».proof.Proof.Gen.InprojReferenceIdeal.Run
public import proofs.«01_k».proof.Proof.Gen.InprojReferenceIdeal.Read
public import proofs.«01_k».proof.Proof.Gen.Merge
public import proofs.«01_k».proof.Proof.Gen.MergeIdeal
public import proofs.«01_k».proof.Proof.Gen.MergeReferenceIdeal
public import proofs.«01_k».proof.Proof.Gen.Merge.Frame
public import proofs.«01_k».proof.Proof.Gen.Merge.Skeleton
public import proofs.«01_k».proof.Proof.Gen.MergeIdeal.Skeleton
public import proofs.«01_k».proof.Proof.Gen.MergeIdeal.Frame
public import proofs.«01_k».proof.Proof.Gen.MergeReferenceIdeal.Run
public import proofs.«01_k».proof.Proof.Gen.MergeReferenceIdeal.Read
public import proofs.«01_k».proof.Proof.Gen.Router
public import proofs.«01_k».proof.Proof.Gen.RouterIdeal
public import proofs.«01_k».proof.Proof.Gen.RouterReferenceIdeal
public import proofs.«01_k».proof.Proof.Gen.Router.Frame
public import proofs.«01_k».proof.Proof.Gen.RouterIdeal.Frame
public import proofs.«01_k».proof.Proof.Gen.RouterIdeal.Value
public import proofs.«01_k».proof.Proof.Gen.RouterReferenceIdeal.Run
public import proofs.«01_k».proof.Proof.Gen.RouterReferenceIdeal.Read
public import proofs.«01_k».proof.Proof.Gen.Inproj1
public import proofs.«01_k».proof.Proof.Gen.Inproj1Ideal
public import proofs.«01_k».proof.Proof.Gen.Inproj1ReferenceIdeal
public import proofs.«01_k».proof.Proof.Gen.Inproj1.Frame
public import proofs.«01_k».proof.Proof.Gen.Inproj1Ideal.Frame
public import proofs.«01_k».proof.Proof.Gen.Inproj1Ideal.Value
public import proofs.«01_k».proof.Proof.Gen.Inproj1ReferenceIdeal.Run
public import proofs.«01_k».proof.Proof.Gen.Inproj1ReferenceIdeal.Read
public import proofs.«01_k».proof.Proof.Gen.Merge1
public import proofs.«01_k».proof.Proof.Gen.Merge1Ideal
public import proofs.«01_k».proof.Proof.Gen.Merge1ReferenceIdeal
public import proofs.«01_k».proof.Proof.Gen.Merge1.Frame
public import proofs.«01_k».proof.Proof.Gen.Merge1.Skeleton
public import proofs.«01_k».proof.Proof.Gen.Merge1Ideal.Skeleton
public import proofs.«01_k».proof.Proof.Gen.Merge1Ideal.Frame
public import proofs.«01_k».proof.Proof.Gen.Merge1ReferenceIdeal.Run
public import proofs.«01_k».proof.Proof.Gen.Merge1ReferenceIdeal.Read
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's arguments end unchanged and its counters, of which it has none, at zero. -/
theorem reference_frame : Cert.quiescent_ReferenceIdeal (hReferenceIdeal := Cert.ReferenceIdeal.Gen.facts) := fun m g _ =>
  (θ_run Cert.ReferenceIdeal.defs _ _).mono
    (fun r h => And.intro (fun c => (h c).2) (sem_eq_zero_of_no_sems (by decide) r.2))
    (Cert.ReferenceIdeal.Value.run (F := Ideal) m g)

/-- The two readings of the experts' body are one text. -/
theorem kernel_bodies : Cert.KernelIdeal.defs₀ (F := Bits) = Cert.Kernel.defs₀ (F := Bits) :=
  congrArg Defs.onTc (funext fun l => match l with
    | 0 => funext fun x => match x with
      | (t, s) => rfl
    | ⟨_ + 1, h⟩ => absurd h (Nat.not_lt.2 (Nat.le_add_left _ _)))

/-- So the experts' frame over bits is the generic one. -/
theorem kernel_frame : Cert.quiescent_Kernel (hKernel := Cert.Kernel.Gen.facts) (hPre_in_range := Cert.Pre_in_range.Gen.facts) := fun m g hpre => by
  have hd := Cert.Experts.decode _ _ _ _ _ _ (hpre 0)
  have h := Cert.KernelIdeal.Gen.frame (F := Bits) m g (Cert.KernelIdeal.Tables.ok_of_args m hd.1 hd.2)
  unfold Cert.KernelIdeal.defs at h
  rw [kernel_bodies] at h
  exact h

/-- From agreeing arguments in range, the kernel and the reference both end with the experts' result. -/
theorem algebraic : Cert.algebraic_KernelIdeal_ReferenceIdeal (hKernelIdeal := Cert.KernelIdeal.Gen.facts)
    (hReferenceIdeal := Cert.ReferenceIdeal.Gen.facts) (hPre_in_range := Cert.Pre_in_range.Gen.facts) := by
  intro m g m' g' hpre hargs
  have hd := Cert.Experts.decode _ _ _ _ _ _ (hpre 0)
  have hO := Cert.KernelIdeal.Tables.ok_of_pre m hpre
  refine ⟨fun c => Cert.KernelIdeal.Tile.G m c, ?_, ?_⟩
  · exact (θ_run Cert.KernelIdeal.defs _ _).mono (fun _ h c => ⟨h.1 c, h.2 c⟩)
      (θ_run_and (Cert.KernelIdeal.Tile.run m hO g hd.1 (hd.2 _)) (Cert.KernelIdeal.Gen.unchanged m g hO))
  · refine (θ_run Cert.ReferenceIdeal.defs _ _).mono (fun r h c => ⟨(h c).1.trans ?_, (h c).2⟩)
      (Cert.ReferenceIdeal.Value.run (F := Ideal) m' g')
    obtain ⟨a0, a1, a2, a3, a4, a5⟩ := hargs c
    have hc : c = (0 : Dev Cert.KernelIdeal.nD) := Subsingleton.elim _ _
    subst hc
    rw [a0, a1, a2, a3, a4, a5]
    exact (Cert.ReferenceIdeal.Read.val_main_v23_eq _ _ _ _ _ _).trans
      (Cert.ReferenceIdeal.Experts.result_at _ _ hd.1 (hd.2 _).2 _ _ _ _)

/-- The feed-forward reference's arguments end unchanged and its counters at zero. -/
theorem ffn_reference_frame : Cert.quiescent_FfnReferenceIdeal (hFfnReferenceIdeal := Cert.FfnReferenceIdeal.Gen.facts) := fun m g _ =>
  (θ_run Cert.FfnReferenceIdeal.defs _ _).mono
    (fun r h => And.intro (fun c => (h c).2) (sem_eq_zero_of_no_sems (by decide) r.2))
    (Cert.FfnReferenceIdeal.Value.run (F := Ideal) m g)

/-- From agreeing arguments, the feed-forward kernel and its reference both end with the same result. -/
theorem ffn_algebraic : Cert.algebraic_FfnIdeal_FfnReferenceIdeal (hFfnIdeal := Cert.FfnIdeal.Gen.facts)
    (hFfnReferenceIdeal := Cert.FfnReferenceIdeal.Gen.facts) := by
  intro m g m' g' _ hargs
  refine ⟨fun c => Cert.FfnIdeal.Tile.G m c, ?_, ?_⟩
  · exact (θ_run Cert.FfnIdeal.defs _ _).mono (fun _ h c => ⟨(h c).1.trans (Cert.FfnIdeal.Tile.final m c), (h c).2⟩)
      (Cert.FfnIdeal.Value.run_blocks m g)
  · refine (θ_run Cert.FfnReferenceIdeal.defs _ _).mono (fun r h c => ⟨(h c).1.trans ?_, (h c).2⟩)
      (Cert.FfnReferenceIdeal.Value.run (F := Ideal) m' g')
    obtain ⟨a0, a1, a2, a3, a4, a5⟩ := hargs c
    refine (Cert.FfnReferenceIdeal.Read.val_main_v23_eq ..).trans ?_
    rw [a0, a1, a2, a3, a4]
    exact Cert.FfnReferenceIdeal.Rows.result_eq ..

/-- The input projection reference's arguments end unchanged and its counters at zero. -/
theorem inproj_reference_frame : Cert.quiescent_InprojReferenceIdeal (hInprojReferenceIdeal := Cert.InprojReferenceIdeal.Gen.facts) := fun m g _ =>
  (θ_run Cert.InprojReferenceIdeal.defs _ _).mono
    (fun r h => And.intro (fun c => (h c).2.2.2) (sem_eq_zero_of_no_sems (by decide) r.2))
    (Cert.InprojReferenceIdeal.Value.run (F := Ideal) m g)

/-- From agreeing arguments, the input projection and its reference end with the same three results. -/
theorem inproj_algebraic : Cert.algebraic_InprojIdeal_InprojReferenceIdeal (hInprojIdeal := Cert.InprojIdeal.Gen.facts)
    (hInprojReferenceIdeal := Cert.InprojReferenceIdeal.Gen.facts) := by
  intro m g m' g' _ hargs
  refine ⟨fun c => Cert.InprojIdeal.Tile.Gq m c, fun c => Cert.InprojIdeal.Tile.Gl m c, fun c => Cert.InprojIdeal.Tile.Gf m c, ?_, ?_⟩
  · exact (θ_run Cert.InprojIdeal.defs _ _).mono (fun _ h c => ⟨(h c).1.trans (Cert.InprojIdeal.Tile.final_q m c),
        (h c).2.1.trans (Cert.InprojIdeal.Tile.final_l m c), (h c).2.2.1.trans (Cert.InprojIdeal.Tile.final_f m c), (h c).2.2.2⟩)
      (Cert.InprojIdeal.Value.run_blocks m g)
  · refine (θ_run Cert.InprojReferenceIdeal.defs _ _).mono (fun r h c => ⟨(h c).1.trans ?_, (h c).2.1.trans ?_, (h c).2.2.1.trans ?_, (h c).2.2.2⟩)
      (Cert.InprojReferenceIdeal.Value.run (F := Ideal) m' g')
    all_goals obtain ⟨a0, a1, a2⟩ := hargs c
    · refine (Cert.InprojReferenceIdeal.Read.val_main_v29_eq ..).trans ?_
      rw [a0, a1, a2]
      exact Cert.InprojReferenceIdeal.Rows.qkv_eq ..
    · refine (Cert.InprojReferenceIdeal.Read.val_main_v30_eq ..).trans ?_
      rw [a0, a1, a2]
      exact Cert.InprojReferenceIdeal.Rows.lru_eq ..
    · refine (Cert.InprojReferenceIdeal.Read.val_main_v31_eq ..).trans ?_
      rw [a0, a1, a2]
      exact Cert.InprojReferenceIdeal.Rows.gate_eq ..

/-- The two readings of the merge's body are one text. -/
theorem merge_bodies : Cert.MergeIdeal.defs₀ (F := Bits) = Cert.Merge.defs₀ (F := Bits) :=
  congrArg Defs.onTc (funext fun l => match l with
    | 0 => funext fun x => match x with
      | (t, s) => rfl
    | ⟨_ + 1, h⟩ => absurd h (Nat.not_lt.2 (Nat.le_add_left _ _)))

/-- So the merge's frame over bits is the generic one. -/
theorem merge_frame : Cert.quiescent_Merge (hMerge := Cert.Merge.Gen.facts) := fun m g _ => by
  have h := Cert.MergeIdeal.Hand.frame (F := Bits) m g
  unfold Cert.MergeIdeal.defs at h
  rw [merge_bodies] at h
  exact h

/-- The merge reference's arguments end unchanged and its counters at zero. -/
theorem merge_reference_frame : Cert.quiescent_MergeReferenceIdeal (hMergeReferenceIdeal := Cert.MergeReferenceIdeal.Gen.facts) := fun m g _ =>
  (θ_run Cert.MergeReferenceIdeal.defs _ _).mono
    (fun r h => And.intro (fun c => (h c).2) (sem_eq_zero_of_no_sems (by decide) r.2))
    (Cert.MergeReferenceIdeal.Value.run (F := Ideal) m g)

/-- From agreeing arguments, the merge kernel and its reference both end with the same result. -/
theorem merge_algebraic : Cert.algebraic_MergeIdeal_MergeReferenceIdeal (hMergeIdeal := Cert.MergeIdeal.Gen.facts)
    (hMergeReferenceIdeal := Cert.MergeReferenceIdeal.Gen.facts) := by
  intro m g m' g' _ hargs
  refine ⟨fun c => Cert.MergeIdeal.Hand.G m c, ?_, ?_⟩
  · exact Cert.MergeIdeal.Hand.run m g
  · refine (θ_run Cert.MergeReferenceIdeal.defs _ _).mono (fun r h c => ⟨(h c).1.trans ?_, (h c).2⟩)
      (Cert.MergeReferenceIdeal.Value.run (F := Ideal) m' g')
    obtain ⟨a0, a1, a2, a3, a4, a5, a6, a7, a8, a9, a10⟩ := hargs c
    refine (Cert.MergeReferenceIdeal.Read.val_main_v57_eq ..).trans ?_
    rw [a0, a1, a2, a3, a4, a5, a6, a7, a8, a9, a10]
    exact Cert.MergeReferenceIdeal.Rows.result_eq ..

/-- The second layer's input projection reference's arguments end unchanged and its counters at zero. -/
theorem inproj1_reference_frame : Cert.quiescent_Inproj1ReferenceIdeal (hInproj1ReferenceIdeal := Cert.Inproj1ReferenceIdeal.Gen.facts) := fun m g _ =>
  (θ_run Cert.Inproj1ReferenceIdeal.defs _ _).mono
    (fun r h => And.intro (fun c => (h c).2.2.2) (sem_eq_zero_of_no_sems (by decide) r.2))
    (Cert.Inproj1ReferenceIdeal.Value.run (F := Ideal) m g)

/-- From agreeing arguments, the second layer's input projection and its reference end with the same three results. -/
theorem inproj1_algebraic : Cert.algebraic_Inproj1Ideal_Inproj1ReferenceIdeal (hInproj1Ideal := Cert.Inproj1Ideal.Gen.facts)
    (hInproj1ReferenceIdeal := Cert.Inproj1ReferenceIdeal.Gen.facts) := by
  intro m g m' g' _ hargs
  refine ⟨fun c => Cert.Inproj1Ideal.Tile.Gq m c, fun c => Cert.Inproj1Ideal.Tile.Gl m c, fun c => Cert.Inproj1Ideal.Tile.Gf m c, ?_, ?_⟩
  · exact (θ_run Cert.Inproj1Ideal.defs _ _).mono (fun _ h c => ⟨(h c).1.trans (Cert.Inproj1Ideal.Tile.final_q m c),
        (h c).2.1.trans (Cert.Inproj1Ideal.Tile.final_l m c), (h c).2.2.1.trans (Cert.Inproj1Ideal.Tile.final_f m c), (h c).2.2.2⟩)
      (Cert.Inproj1Ideal.Value.run_blocks m g)
  · refine (θ_run Cert.Inproj1ReferenceIdeal.defs _ _).mono (fun r h c => ⟨(h c).1.trans ?_, (h c).2.1.trans ?_, (h c).2.2.1.trans ?_, (h c).2.2.2⟩)
      (Cert.Inproj1ReferenceIdeal.Value.run (F := Ideal) m' g')
    all_goals obtain ⟨a0, a1, a2⟩ := hargs c
    · refine (Cert.Inproj1ReferenceIdeal.Read.val_main_v29_eq ..).trans ?_
      rw [a0, a1, a2]
      exact Cert.Inproj1ReferenceIdeal.Rows.qkv_eq ..
    · refine (Cert.Inproj1ReferenceIdeal.Read.val_main_v30_eq ..).trans ?_
      rw [a0, a1, a2]
      exact Cert.Inproj1ReferenceIdeal.Rows.lru_eq ..
    · refine (Cert.Inproj1ReferenceIdeal.Read.val_main_v31_eq ..).trans ?_
      rw [a0, a1, a2]
      exact Cert.Inproj1ReferenceIdeal.Rows.gate_eq ..

/-- The two readings of the second merge's body are one text. -/
theorem merge1_bodies : Cert.Merge1Ideal.defs₀ (F := Bits) = Cert.Merge1.defs₀ (F := Bits) :=
  congrArg Defs.onTc (funext fun l => match l with
    | 0 => funext fun x => match x with
      | (t, s) => rfl
    | ⟨_ + 1, h⟩ => absurd h (Nat.not_lt.2 (Nat.le_add_left _ _)))

/-- So the second merge's frame over bits is the generic one. -/
theorem merge1_frame : Cert.quiescent_Merge1 (hMerge1 := Cert.Merge1.Gen.facts) := fun m g _ => by
  have h := Cert.Merge1Ideal.Hand.frame (F := Bits) m g
  unfold Cert.Merge1Ideal.defs at h
  rw [merge1_bodies] at h
  exact h

/-- The second layer's merge reference's arguments end unchanged and its counters at zero. -/
theorem merge1_reference_frame : Cert.quiescent_Merge1ReferenceIdeal (hMerge1ReferenceIdeal := Cert.Merge1ReferenceIdeal.Gen.facts) := fun m g _ =>
  (θ_run Cert.Merge1ReferenceIdeal.defs _ _).mono
    (fun r h => And.intro (fun c => (h c).2) (sem_eq_zero_of_no_sems (by decide) r.2))
    (Cert.Merge1ReferenceIdeal.Value.run (F := Ideal) m g)

/-- From agreeing arguments, the second layer's merge kernel and its reference both end with the same result. -/
theorem merge1_algebraic : Cert.algebraic_Merge1Ideal_Merge1ReferenceIdeal (hMerge1Ideal := Cert.Merge1Ideal.Gen.facts)
    (hMerge1ReferenceIdeal := Cert.Merge1ReferenceIdeal.Gen.facts) := by
  intro m g m' g' _ hargs
  refine ⟨fun c => Cert.Merge1Ideal.Hand.G m c, ?_, ?_⟩
  · exact Cert.Merge1Ideal.Hand.run m g
  · refine (θ_run Cert.Merge1ReferenceIdeal.defs _ _).mono (fun r h c => ⟨(h c).1.trans ?_, (h c).2⟩)
      (Cert.Merge1ReferenceIdeal.Value.run (F := Ideal) m' g')
    obtain ⟨a0, a1, a2, a3, a4, a5, a6, a7, a8, a9, a10⟩ := hargs c
    refine (Cert.Merge1ReferenceIdeal.Read.val_main_v57_eq ..).trans ?_
    rw [a0, a1, a2, a3, a4, a5, a6, a7, a8, a9, a10]
    exact Cert.Merge1ReferenceIdeal.Rows.result_eq ..

/-- The router reference's arguments end unchanged and its counters at zero. -/
theorem router_reference_frame : Cert.quiescent_RouterReferenceIdeal (hRouterReferenceIdeal := Cert.RouterReferenceIdeal.Gen.facts) := fun m g _ =>
  (θ_run Cert.RouterReferenceIdeal.defs _ _).mono
    (fun r h => And.intro (fun c => (h c).2) (sem_eq_zero_of_no_sems (by decide) r.2))
    (Cert.RouterReferenceIdeal.Value.run (F := Ideal) m g)

/-- From agreeing arguments, the router and its reference end with the same normalised rows. -/
theorem router_algebraic : Cert.algebraic_RouterIdeal_RouterReferenceIdeal (hRouterIdeal := Cert.RouterIdeal.Gen.facts)
    (hRouterReferenceIdeal := Cert.RouterReferenceIdeal.Gen.facts) := by
  intro m g m' g' _ hargs
  refine ⟨fun c => Cert.RouterIdeal.Tile.G m c, ?_, ?_⟩
  · exact (θ_run Cert.RouterIdeal.defs _ _).mono (fun _ h c => ⟨(h c).1.trans (Cert.RouterIdeal.Tile.final m c), (h c).2.2.2.2⟩)
      (Cert.RouterIdeal.Value.run_blocks m g)
  · refine (θ_run Cert.RouterReferenceIdeal.defs _ _).mono (fun r h c => ⟨(h c).1.trans ?_, (h c).2⟩)
      (Cert.RouterReferenceIdeal.Value.run (F := Ideal) m' g')
    obtain ⟨a0, a1, a2⟩ := hargs c
    refine (Cert.RouterReferenceIdeal.Read.val_main_v14_eq ..).trans ?_
    rw [a0, a1]
    exact Cert.RouterReferenceIdeal.Rows.result_eq ..

/-- Every claim of the certificate. -/
theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Inproj.Gen.facts, Cert.InprojIdeal.Gen.facts, Cert.InprojReferenceIdeal.Gen.facts,
    Cert.Merge.Gen.facts, Cert.MergeIdeal.Gen.facts, Cert.MergeReferenceIdeal.Gen.facts,
    Cert.Inproj1.Gen.facts, Cert.Inproj1Ideal.Gen.facts, Cert.Inproj1ReferenceIdeal.Gen.facts,
    Cert.Merge1.Gen.facts, Cert.Merge1Ideal.Gen.facts, Cert.Merge1ReferenceIdeal.Gen.facts,
    Cert.Router.Gen.facts, Cert.RouterIdeal.Gen.facts, Cert.RouterReferenceIdeal.Gen.facts, Cert.Pre_in_range.Gen.facts,
    kernel_frame,
    fun m g h => Cert.KernelIdeal.Gen.frame m g (Cert.KernelIdeal.Tables.ok_of_pre m h),
    reference_frame,
    fun m g _ => reference_frame m g trivial,
    fun m g _ => Cert.Ffn.Gen.frame m g,
    fun m g _ => Cert.FfnIdeal.Gen.frame m g,
    ffn_reference_frame,
    fun m g _ => Cert.Inproj.Gen.frame m g,
    fun m g _ => Cert.InprojIdeal.Gen.frame m g,
    inproj_reference_frame,
    merge_frame,
    fun m g _ => Cert.MergeIdeal.Hand.frame m g,
    merge_reference_frame,
    fun m g _ => Cert.Inproj1.Gen.frame m g,
    fun m g _ => Cert.Inproj1Ideal.Gen.frame m g,
    inproj1_reference_frame,
    merge1_frame,
    fun m g _ => Cert.Merge1Ideal.Hand.frame m g,
    merge1_reference_frame,
    fun m g _ => Cert.Router.Gen.frame m g,
    fun m g _ => Cert.RouterIdeal.Gen.frame m g,
    router_reference_frame,
    trivial,
    algebraic,
    trivial,
    ffn_algebraic,
    trivial,
    inproj_algebraic,
    trivial,
    merge_algebraic,
    trivial,
    inproj1_algebraic,
    trivial,
    merge1_algebraic,
    trivial,
    router_algebraic⟩

end Cert.Proof

end
